-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_pool_finite [hPre_pool_finite : Cert.Pre_pool_finite.Facts] (m : (ℓ : Loc Cert.MixIdeal.nD Cert.MixIdeal.τ Cert.MixIdeal.sig) → Buf (Elt Ideal) ℓ) : Prop :=
  ∀ c : Dev Cert.MixIdeal.nD,
    (Cert.Pre_pool_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_pool_finite [hPre_pool_finite : Cert.Pre_pool_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_pool_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_pool_finite [hMixIdeal : Cert.MixIdeal.Facts] [hPre_pool_finite : Cert.Pre_pool_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_pool_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_pool_finite [hMixRefIdeal : Cert.MixRefIdeal.Facts] [hPre_pool_finite : Cert.Pre_pool_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_pool_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mix_MixIdeal : Prop :=
  True

def algebraic_MixIdeal_MixRefIdeal_pre_pool_finite [hMixIdeal : Cert.MixIdeal.Facts] [hMixRefIdeal : Cert.MixRefIdeal.Facts] [hPre_pool_finite : Cert.Pre_pool_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_pool_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v19)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v19) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v109) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v11_0)) (v1 : (c : Dev Cert.QkvIdeal.nD) → Buf (Elt Ideal) ((c.tc : Thread Cert.QkvIdeal.nD Cert.QkvIdeal.τ).loc Cert.QkvIdeal.main_v11_1)) (v2 : (c : Dev Cert.QkvIdeal.nD) → Buf (Elt Ideal) ((c.tc : Thread Cert.QkvIdeal.nD Cert.QkvIdeal.τ).loc Cert.QkvIdeal.main_v11_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v11_0) = v0 c
          ∧ r.2.mem ((c.tc : Thread Cert.QkvIdeal.nD Cert.QkvIdeal.τ).loc Cert.QkvIdeal.main_v11_1) = v1 c
          ∧ r.2.mem ((c.tc : Thread Cert.QkvIdeal.nD Cert.QkvIdeal.τ).loc Cert.QkvIdeal.main_v11_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v10) = v0 c
          ∧ r.2.mem ((c.tc : Thread Cert.QkvRefIdeal.nD Cert.QkvRefIdeal.τ).loc Cert.QkvRefIdeal.main_v11) = v1 c
          ∧ r.2.mem ((c.tc : Thread Cert.QkvRefIdeal.nD Cert.QkvRefIdeal.τ).loc Cert.QkvRefIdeal.main_v14) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Attn_AttnIdeal : Prop :=
  True

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0_0)) (v1 : (c : Dev Cert.BiasIdeal.nD) → Buf (Elt Ideal) ((c.tc : Thread Cert.BiasIdeal.nD Cert.BiasIdeal.τ).loc Cert.BiasIdeal.main_v0_1)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0_0) = v0 c
          ∧ r.2.mem ((c.tc : Thread Cert.BiasIdeal.nD Cert.BiasIdeal.τ).loc Cert.BiasIdeal.main_v0_1) = v1 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v67) = v0 c
          ∧ r.2.mem ((c.tc : Thread Cert.BiasRefIdeal.nD Cert.BiasRefIdeal.τ).loc Cert.BiasRefIdeal.main_v69) = v1 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hQkv : Cert.Qkv.Facts) (hQkvIdeal : Cert.QkvIdeal.Facts) (hQkvRefIdeal : Cert.QkvRefIdeal.Facts) (hAttn : Cert.Attn.Facts) (hAttnIdeal : Cert.AttnIdeal.Facts) (hBias : Cert.Bias.Facts) (hBiasIdeal : Cert.BiasIdeal.Facts) (hBiasRefIdeal : Cert.BiasRefIdeal.Facts) (hPre_pool_finite : Cert.Pre_pool_finite.Facts),
    quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixIdeal_pre_pool_finite (hMixIdeal := hMixIdeal) (hPre_pool_finite := hPre_pool_finite)
    ∧ quiescent_MixRefIdeal (hMixRefIdeal := hMixRefIdeal)
    ∧ quiescent_MixRefIdeal_pre_pool_finite (hMixRefIdeal := hMixRefIdeal) (hPre_pool_finite := hPre_pool_finite)
    ∧ quiescent_Qkv (hQkv := hQkv)
    ∧ quiescent_QkvIdeal (hQkvIdeal := hQkvIdeal)
    ∧ quiescent_QkvRefIdeal (hQkvRefIdeal := hQkvRefIdeal)
    ∧ quiescent_Attn (hAttn := hAttn)
    ∧ quiescent_AttnIdeal (hAttnIdeal := hAttnIdeal)
    ∧ quiescent_Bias (hBias := hBias)
    ∧ quiescent_BiasIdeal (hBiasIdeal := hBiasIdeal)
    ∧ quiescent_BiasRefIdeal (hBiasRefIdeal := hBiasRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal_pre_pool_finite (hMixIdeal := hMixIdeal) (hMixRefIdeal := hMixRefIdeal) (hPre_pool_finite := hPre_pool_finite)
    ∧ preserves_Qkv_QkvIdeal
    ∧ algebraic_QkvIdeal_QkvRefIdeal (hQkvIdeal := hQkvIdeal) (hQkvRefIdeal := hQkvRefIdeal)
    ∧ preserves_Attn_AttnIdeal
    ∧ preserves_Bias_BiasIdeal
    ∧ algebraic_BiasIdeal_BiasRefIdeal (hBiasIdeal := hBiasIdeal) (hBiasRefIdeal := hBiasRefIdeal)
-- ==== Pre_pool_finite.lean ====
abbrev S8x4096x1024 : Shape := ⟨3, ![8, 4096, 1024]⟩
abbrev S8x16x512x256 : Shape := ⟨4, ![8, 16, 512, 256]⟩
abbrev S1x1024x4096 : Shape := ⟨3, ![1, 1024, 4096]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S1024x4096 : Shape := ⟨2, ![1024, 4096]⟩
abbrev S1024x512 : Shape := ⟨2, ![1024, 512]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  shapeCasts_S1x1024x4096_S1024x4096 : S1x1024x4096.ShapeCasts S1024x4096
  slices_S1024x4096_S1024x512_0_1536 : S1024x4096.Slices ![0, 1536] S1024x512
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S8x4096x1024 .f32) (main_arg1 : FVec F S8x16x512x256 .bf16) (main_arg2 : FVec F S1x1024x4096 .f32) (main_arg3 : FVec F S1x4x128x128 .f32) (main_arg4 : FVec F S1x512 .f32) (main_arg5 : FVec F S1x512x1024 .f32) (main_arg6 : FVec F S1x512x1024 .f32) (main_arg7 : FVec F S1x1024x1024 .f32) (main_arg8 : FVec F S1x1024 .f32) (main_arg9 : FVec F S1x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x4096 .f32 := shapeCast S1024x4096 main_arg2 shapeCasts_S1x1024x4096_S1024x4096
  let main_v5 : FVec F S1024x512 .f32 := (extractStridedSlice S1024x512 ![0, 1536] · slices_S1024x4096_S1024x512_0_1536) main_v4
  let main_v6 : FVec F S1024x512 .f32 := Host.absf main_v5
  let main_cst_0 : FVec F S_ .f32 := constant S_ .f32 0x7F800000#32
  let main_v7 : FVec F S1024x512 .f32 := broadcastInDim S1024x512 ![] bcast_S_S1024x512 main_cst_0
  let main_v8 : IVec S1024x512 1 := cmpf .olt main_v6 main_v7
  let main_c_1 : IVec S_ 1 := constantI S_ 1 1#1
  let main_v9 : IVec S_ 1 := (fun x v => Host.reduce IntOp.andi x v reducesTo_S1024x512_S_d0_1 h_S_) main_v8 main_c_1
  let main_v10 : IVec S_ 1 := andi main_v3 main_v9
  main_v10
-- ==== Ffn.lean ====
abbrev S8x4096x1024 : Shape := ⟨3, ![8, 4096, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x1024x1024 : Shape := ⟨3, ![1, 1024, 1024]⟩
abbrev S11x8x256 : Shape := ⟨3, ![11, 8, 256]⟩
abbrev S1024x2816 : Shape := ⟨2, ![1024, 2816]⟩
abbrev S1024x1024 : Shape := ⟨2, ![1024, 1024]⟩
abbrev S8x256 : Shape := ⟨2, ![8, 256]⟩
abbrev S1024x256 : Shape := ⟨2, ![1024, 256]⟩
abbrev S1x8x256 : Shape := ⟨3, ![1, 8, 256]⟩
abbrev S3x256 : Shape := ⟨2, ![3, 256]⟩
abbrev S1x256 : Shape := ⟨2, ![1, 256]⟩
abbrev S1016x256 : Shape := ⟨2, ![1016, 256]⟩
abbrev S256x2560 : Shape := ⟨2, ![256, 2560]⟩
abbrev S2560x1024 : Shape := ⟨2, ![2560, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩

abbrev nBuf : Space → Nat
  | .hbm => 19
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1x1024x5632, .f32⟩
  | .hbm, ⟨2, _⟩ => ⟨S1x3x2816, .f32⟩
  | .hbm, ⟨3, _⟩ => ⟨S1x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S1024x5632, .bf16⟩
  | .hbm, ⟨9, _⟩ => ⟨S3x2816, .f32⟩
  | .hbm, ⟨10, _⟩ => ⟨S2816, .f32⟩
  | .hbm, ⟨11, _⟩ => ⟨S1x2816, .f32⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x5632, .bf16⟩
  | .local _ .vmem, ⟨3, _⟩ => ⟨S3x2816, .f32⟩
  | .local _ .vmem, ⟨4, _⟩ => ⟨S1x2816, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S11x8x256, .f32⟩
  | .local _ .vmem, ⟨11, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S8x4096x1024 : Shape := ⟨3, ![8, 4096, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S3x2816 : Shape := ⟨2, ![3, 2816]⟩
abbrev S2816 : Shape := ⟨1, ![2816]⟩
abbrev S_ : Shape := ⟨0, ![]⟩
abbrev S8x4098x2816 : Shape := ⟨3, ![8, 4098, 2816]⟩
abbrev S1x1x2816 : Shape := ⟨3, ![1, 1, 2816]⟩
abbrev S2816x1024 : Shape := ⟨2, ![2816, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x5632, .f32⟩
  | .hbm, ⟨2, _⟩ => ⟨S1x3x2816, .f32⟩
  | .hbm, ⟨3, _⟩ => ⟨S1x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S8x4096x5632, .f32⟩
  | .hbm, ⟨9, _⟩ => ⟨S8x4096x2816, .f32⟩
  | .hbm, ⟨10, _⟩ => ⟨S8x4096x2816, .f32⟩
  | .hbm, ⟨11, _⟩ => ⟨S3x2816, .f32⟩
  | .hbm, ⟨12, _⟩ => ⟨S2816, .f32⟩
  | .hbm, ⟨13, _⟩ => ⟨S_, .i32⟩
  | .hbm, ⟨14, _⟩ => ⟨S_, .f32⟩
  | .hbm, ⟨15, _⟩ => ⟨S8x4098x2816, .f32⟩
  | .hbm, ⟨16, _⟩ => ⟨S8x4096x2816, .f32⟩
  | .hbm, ⟨17, _⟩ => ⟨S1x2816, .f32⟩
  | .hbm, ⟨18, _⟩ => ⟨S2816, .f32⟩
  | .hbm, ⟨19, _⟩ => ⟨S1x1x2816, .f32⟩
  | .hbm, ⟨20, _⟩ => ⟨S8x4096x2816, .f32⟩
  | .hbm, ⟨21, _⟩ => ⟨S8x4096x2816, .f32⟩
  | .hbm, ⟨22, _⟩ => ⟨S1x1x2816, .f32⟩
  | .hbm, ⟨23, _⟩ => ⟨S8x4096x2816, .f32⟩
  | .hbm, ⟨24, _⟩ => ⟨S8x4096x2816, .f32⟩
  | .hbm, ⟨25, _⟩ => ⟨S8x4096x2816, .f32⟩
  | .hbm, ⟨26, _⟩ => ⟨S1x2816, .f32⟩
  | .hbm, ⟨27, _⟩ => ⟨S2816, .f32⟩
  | .hbm, ⟨28, _⟩ => ⟨S1x1x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S1x2816, .f32⟩
  | .hbm, ⟨34, _⟩ => ⟨S2816, .f32⟩
  | .hbm, ⟨35, _⟩ => ⟨S1x1x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S_, .f32⟩
  | .hbm, ⟨40, _⟩ => ⟨S8x4096x2816, .f32⟩
  | .hbm, ⟨41, _⟩ => ⟨S8x4096x2816, .f32⟩
  | .hbm, ⟨42, _⟩ => ⟨S_, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S_, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S2816x1024, .f32⟩
  | .hbm, ⟨52, _⟩ => ⟨S8x4096x1024, .f32⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S8x4096x1, .f32⟩
  | .hbm, ⟨80, _⟩ => ⟨S8x4096x1024, .f32⟩
  | .hbm, ⟨81, _⟩ => ⟨S8x4096x1024, .f32⟩
  | .hbm, ⟨82, _⟩ => ⟨S1x1x1024, .f32⟩
  | .hbm, ⟨83, _⟩ => ⟨S8x4096x1024, .f32⟩
  | .hbm, ⟨84, _⟩ => ⟨S8x4096x1024, .f32⟩
  | .hbm, ⟨85, _⟩ => ⟨S1x1x1024, .f32⟩
  | .hbm, ⟨86, _⟩ => ⟨S8x4096x1024, .f32⟩
  | .hbm, ⟨87, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Mix.lean ====
abbrev S8x4096x1024 : Shape := ⟨3, ![8, 4096, 1024]⟩
abbrev S8x16x512x256 : Shape := ⟨4, ![8, 16, 512, 256]⟩
abbrev S1x1024x4096 : Shape := ⟨3, ![1, 1024, 4096]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1024x4096 : Shape := ⟨2, ![1024, 4096]⟩
abbrev S1024x512 : Shape := ⟨2, ![1024, 512]⟩
abbrev S1024x2048 : Shape := ⟨2, ![1024, 2048]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1x4x512x256 : Shape := ⟨4, ![1, 4, 512, 256]⟩
abbrev S1040x512 : Shape := ⟨2, ![1040, 512]⟩
abbrev S16x512 : Shape := ⟨2, ![16, 512]⟩
abbrev S1x1x512x256 : Shape := ⟨4, ![1, 1, 512, 256]⟩
abbrev S512x256 : Shape := ⟨2, ![512, 256]⟩
abbrev S256x1024 : Shape := ⟨2, ![256, 1024]⟩
abbrev S1024x128 : Shape := ⟨2, ![1024, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S1x256x1024 : Shape := ⟨3, ![1, 256, 1024]⟩

abbrev nBuf : Space → Nat
  | .hbm => 30
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x16x512x256, .bf16⟩
  | .hbm, ⟨2, _⟩ => ⟨S1x1024x4096, .f32⟩
  | .hbm, ⟨3, _⟩ => ⟨S1x4x128x128, .f32⟩
  | .hbm, ⟨4, _⟩ => ⟨S1x512, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1024x4096, .f32⟩
  | .hbm, ⟨11, _⟩ => ⟨S1024x512, .f32⟩
  | .hbm, ⟨12, _⟩ => ⟨S1024x512, .bf16⟩
  | .hbm, ⟨13, _⟩ => ⟨S1024x2048, .f32⟩
  | .hbm, ⟨14, _⟩ => ⟨S1024x2048, .bf16⟩
  | .hbm, ⟨15, _⟩ => ⟨S4x128x128, .f32⟩
  | .hbm, ⟨16, _⟩ => ⟨S4x128x128, .bf16⟩
  | .hbm, ⟨17, _⟩ => ⟨S512, .f32⟩
  | .hbm, ⟨18, _⟩ => ⟨S1x512, .f32⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1024x1024, .f32⟩
  | .hbm, ⟨24, _⟩ => ⟨S1024x1024, .bf16⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x4x512x256, .bf16⟩
  | .local _ .vmem, ⟨3, _⟩ => ⟨S1x4x512x256, .bf16⟩
  | .local _ .vmem, ⟨4, _⟩ => ⟨S1024x512, .bf16⟩
  | .local _ .vmem, ⟨5, _⟩ => ⟨S1024x2048, .bf16⟩
  | .local _ .vmem, ⟨6, _⟩ => ⟨S4x128x128, .bf16⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1040x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixRefIdeal.lean ====
abbrev S8x4096x1024 : Shape := ⟨3, ![8, 4096, 1024]⟩
abbrev S8x16x512x256 : Shape := ⟨4, ![8, 16, 512, 256]⟩
abbrev S1x1024x4096 : Shape := ⟨3, ![1, 1024, 4096]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1024x4096 : Shape := ⟨2, ![1024, 4096]⟩
abbrev S1024x2560 : Shape := ⟨2, ![1024, 2560]⟩
abbrev S8x4096x2560 : Shape := ⟨3, ![8, 4096, 2560]⟩
abbrev S8x4096x512 : Shape := ⟨3, ![8, 4096, 512]⟩
abbrev S8x4096x2048 : Shape := ⟨3, ![8, 4096, 2048]⟩
abbrev S8x16x256x512 : Shape := ⟨4, ![8, 16, 256, 512]⟩
abbrev S512x1024 : Shape := ⟨2, ![512, 1024]⟩
abbrev S4x128x128 : Shape := ⟨3, ![4, 128, 128]⟩
abbrev S512 : Shape := ⟨1, ![512]⟩
abbrev S_ : Shape := ⟨0, ![]⟩
abbrev S8x4112x512 : Shape := ⟨3, ![8, 4112, 512]⟩
abbrev S4096 : Shape := ⟨1, ![4096]⟩
abbrev S1x4096x1 : Shape := ⟨3, ![1, 4096, 1]⟩
abbrev S8x4112x128 : Shape := ⟨3, ![8, 4112, 128]⟩
abbrev S8x4096x128 : Shape := ⟨3, ![8, 4096, 128]⟩
abbrev S8x4096x4x128 : Shape := ⟨4, ![8, 4096, 4, 128]⟩
abbrev S4x128x8x4096 : Shape := ⟨4, ![4, 128, 8, 4096]⟩
abbrev S1x1x512 : Shape := ⟨3, ![1, 1, 512]⟩
abbrev S8x4096x2x1024 : Shape := ⟨4, ![8, 4096, 2, 1024]⟩
abbrev S8x4096x1x1024 : Shape := ⟨4, ![8, 4096, 1, 1024]⟩
abbrev S1024x1024 : Shape := ⟨2, ![1024, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 136
  | .vmem => 0
  | .smem => 0
  | _ => 0

abbrev hbmTy0_0 (i : Nat) : BufTy := match i % 128 with
  | 0 => ⟨S8x4096x1024, .f32⟩
  | 1 => ⟨S8x16x512x256, .bf16⟩
  | 2 => ⟨S1x1024x4096, .f32⟩
  | 3 => ⟨S1x4x128x128, .f32⟩
  | 4 => ⟨S1x512, .f32⟩
  | 5 => ⟨S1x512x1024, .f32⟩
  | 6 => ⟨S1x512x1024, .f32⟩
  | 7 => ⟨S1x1024x1024, .f32⟩
  | 8 => ⟨S1x1024, .f32⟩
  | 9 => ⟨S1x1024, .f32⟩
  | 10 => ⟨S1024x4096, .f32⟩
  | 11 => ⟨S1024x2560, .f32⟩
  | 12 => ⟨S8x4096x2560, .f32⟩
  | 13 => ⟨S8x4096x512, .f32⟩
  | 14 => ⟨S8x4096x2048, .f32⟩
  | 15 => ⟨S8x16x512x256, .f32⟩
  | 16 => ⟨S8x16x256x512, .f32⟩
  | 17 => ⟨S8x4096x512, .f32⟩
  | 18 => ⟨S512x1024, .f32⟩
  | 19 => ⟨S8x4096x1024, .f32⟩
  | 20 => ⟨S4x128x128, .f32⟩
  | 21 => ⟨S512, .f32⟩
  | 22 => ⟨S_, .f32⟩
  | 23 => ⟨S_, .f32⟩
  | 24 => ⟨S8x4096x512, .f32⟩
  | 25 => ⟨S_, .f32⟩
  | 26 => ⟨S8x4112x512, .f32⟩
  | 27 => ⟨S4096, .i32⟩
  | 28 => ⟨S1x4096x1, .i32⟩
  | 29 => ⟨S_, .i32⟩
  | 30 => ⟨S1x4096x1, .i32⟩
  | 31 => ⟨S1x4096x1, .i32⟩
  | 32 => ⟨S8x4112x128, .f32⟩
  | 33 => ⟨S_, .i32⟩
  | 34 => ⟨S1x4096x1, .i32⟩
  | 35 => ⟨S1x4096x1, .i32⟩
  | 36 => ⟨S1x4096x1, .f32⟩
  | 37 => ⟨S8x4096x128, .f32⟩
  | 38 => ⟨S8x4096x128, .f32⟩
  | 39 => ⟨S8x4096x128, .f32⟩
  | 40 => ⟨S8x4096x128, .f32⟩
  | 41 => ⟨S8x4096x128, .f32⟩
  | 42 => ⟨S8x4112x128, .f32⟩
  | 43 => ⟨S_, .i32⟩
  | 44 => ⟨S1x4096x1, .i32⟩
  | 45 => ⟨S1x4096x1, .i32⟩
  | 46 => ⟨S1x4096x1, .f32⟩
  | 47 => ⟨S8x4096x128, .f32⟩
  | 48 => ⟨S8x4096x128, .f32⟩
  | 49 => ⟨S8x4096x128, .f32⟩
  | 50 => ⟨S8x4096x128, .f32⟩
  | 51 => ⟨S8x4096x128, .f32⟩
  | 52 => ⟨S8x4112x128, .f32⟩
  | 53 => ⟨S_, .i32⟩
  | 54 => ⟨S1x4096x1, .i32⟩
  | 55 => ⟨S1x4096x1, .i32⟩
  | 56 => ⟨S1x4096x1, .f32⟩
  | 57 => ⟨S8x4096x128, .f32⟩
  | 58 => ⟨S8x4096x128, .f32⟩
  | 59 => ⟨S8x4096x128, .f32⟩
  | 60 => ⟨S8x4096x128, .f32⟩
  | 61 => ⟨S8x4096x128, .f32⟩
  | 62 => ⟨S8x4112x128, .f32⟩
  | 63 => ⟨S_, .i32⟩
  | 64 => ⟨S1x4096x1, .i32⟩
  | 65 => ⟨S1x4096x1, .i32⟩
  | 66 => ⟨S1x4096x1, .f32⟩
  | 67 => ⟨S8x4096x128, .f32⟩
  | 68 => ⟨S8x4096x128, .f32⟩
  | 69 => ⟨S8x4096x128, .f32⟩
  | 70 => ⟨S8x4096x128, .f32⟩
  | 71 => ⟨S8x4096x128, .f32⟩
  | 72 => ⟨S8x4096x512, .f32⟩
  | 73 => ⟨S8x4096x512, .f32⟩
  | 74 => ⟨S8x4096x4x128, .f32⟩
  | 75 => ⟨S4x128x8x4096, .f32⟩
  | 76 => ⟨S8x4096x4x128, .f32⟩
  | 77 => ⟨S8x4096x512, .f32⟩
  | 78 => ⟨S1x1x512, .f32⟩
  | 79 => ⟨S8x4096x512, .f32⟩
  | 80 => ⟨S8x4096x512, .f32⟩
  | 81 => ⟨S512x1024, .f32⟩
  | 82 => ⟨S8x4096x1024, .f32⟩
  | 83 => ⟨S8x4096x2048, .f32⟩
  | 84 => ⟨S8x4096x2048, .f32⟩
  | 85 => ⟨S_, .f32⟩
  | 86 => ⟨S8x4096x2048, .f32⟩
  | 87 => ⟨S8x4096x2048, .f32⟩
  | 88 => ⟨S_, .f32⟩
  | 89 => ⟨S8x4096x2048, .f32⟩
  | 90 => ⟨S8x4096x2048, .f32⟩
  | 91 => ⟨S8x4096x2x1024, .f32⟩
  | 92 => ⟨S8x4096x1x1024, .f32⟩
  | 93 => ⟨S8x4096x1024, .f32⟩
  | 94 => ⟨S8x4096x1024, .f32⟩
  | 95 => ⟨S8x4096x1x1024, .f32⟩
  | 96 => ⟨S8x4096x1024, .f32⟩
  | 97 => ⟨S8x4096x1024, .f32⟩
  | 98 => ⟨S8x4096x1024, .f32⟩
  | 99 => ⟨S_, .f32⟩
  | 100 => ⟨S8x4096x1024, .f32⟩
  | 101 => ⟨S8x4096x1024, .f32⟩
  | 102 => ⟨S1024x1024, .f32⟩
  | 103 => ⟨S8x4096x1024, .f32⟩
  | 104 => ⟨S8x4096x1024, .f32⟩
  | 105 => ⟨S1024, .f32⟩
  | 106 => ⟨S1024, .f32⟩
  | 107 => ⟨S_, .f32⟩
  | 108 => ⟨S8x4096, .f32⟩
  | 109 => ⟨S8x4096x1, .f32⟩
  | 110 => ⟨S_, .f32⟩
  | 111 => ⟨S8x4096x1, .f32⟩
  | 112 => ⟨S8x4096x1, .f32⟩
  | 113 => ⟨S8x4096x1024, .f32⟩
  | 114 => ⟨S8x4096x1024, .f32⟩
  | 115 => ⟨S8x4096x1024, .f32⟩
  | 116 => ⟨S_, .f32⟩
  | 117 => ⟨S8x4096, .f32⟩
  | 118 => ⟨S8x4096x1, .f32⟩
  | 119 => ⟨S_, .f32⟩
  | 120 => ⟨S8x4096x1, .f32⟩
  | 121 => ⟨S8x4096x1, .f32⟩
  | 122 => ⟨S8x4096x1024, .f32⟩
  | 123 => ⟨S8x4096x1024, .f32⟩
  | 124 => ⟨S_, .f32⟩
  | 125 => ⟨S8x4096x1, .f32⟩
  | 126 => ⟨S8x4096x1, .f32⟩
  | 127 => ⟨S8x4096x1, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S1x1x1024, .f32⟩
  | 3 => ⟨S8x4096x1024, .f32⟩
  | 4 => ⟨S8x4096x1024, .f32⟩
  | 5 => ⟨S1x1x1024, .f32⟩
  | 6 => ⟨S8x4096x1024, .f32⟩
  | 7 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_call0_cst : Ref sig .tc := ⟨.hbm, 22, rfl⟩
abbrev main_call0_call0_v0 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_4 : Ref sig .tc := ⟨.hbm, 85, rfl⟩
abbrev main_v67 : Ref sig .tc := ⟨.hbm, 86, rfl⟩
abbrev main_v68 : Ref sig .tc := ⟨.hbm, 87, rfl⟩
abbrev main_cst_5 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_6 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_7 : Ref sig .tc := ⟨.hbm, 107, rfl⟩
abbrev main_v86 : Ref sig .tc := ⟨.hbm, 108, rfl⟩
abbrev main_v87 : Ref sig .tc := ⟨.hbm, 109, rfl⟩
abbrev main_cst_8 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_9 : Ref sig .tc := ⟨.hbm, 116, rfl⟩
abbrev main_v93 : Ref sig .tc := ⟨.hbm, 117, rfl⟩
abbrev main_v94 : Ref sig .tc := ⟨.hbm, 118, rfl⟩
abbrev main_cst_10 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_11 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩

abbrev nD : Nat := 1
abbrev τ : Topo := Topo.v7x

variable {F : FTy → Type} [FloatOps F]
-- ==== Qkv.lean ====
abbrev S8x4096x1024 : Shape := ⟨3, ![8, 4096, 1024]⟩
abbrev S1x1024x4096 : Shape := ⟨3, ![1, 1024, 4096]⟩
abbrev S1024x4096 : Shape := ⟨2, ![1024, 4096]⟩
abbrev S1024x512 : Shape := ⟨2, ![1024, 512]⟩
abbrev S_ : Shape := ⟨0, ![]⟩
abbrev S512x1024 : Shape := ⟨2, ![512, 1024]⟩
abbrev S8x16x512x256 : Shape := ⟨4, ![8, 16, 512, 256]⟩
abbrev S8x4096x512 : Shape := ⟨3, ![8, 4096, 512]⟩
abbrev S1x2048x1024 : Shape := ⟨3, ![1, 2048, 1024]⟩
abbrev S1x8x512x256 : Shape := ⟨4, ![1, 8, 512, 256]⟩
abbrev S1x2048x512 : Shape := ⟨3, ![1, 2048, 512]⟩
abbrev S2048x1024 : Shape := ⟨2, ![2048, 1024]⟩
abbrev S512x2048 : Shape := ⟨2, ![512, 2048]⟩
abbrev S2048x512 : Shape := ⟨2, ![2048, 512]⟩
abbrev S512x256 : Shape := ⟨2, ![512, 256]⟩
abbrev S1x1x512x256 : Shape := ⟨4, ![1, 1, 512, 256]⟩

abbrev nBuf : Space → Nat
  | .hbm => 17
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1x1024x4096, .f32⟩
  | .hbm, ⟨2, _⟩ => ⟨S1024x4096, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S512x1024, .f32⟩
  | .hbm, ⟨8, _⟩ => ⟨S512x1024, .bf16⟩
  | .hbm, ⟨9, _⟩ => ⟨S1024x512, .f32⟩
  | .hbm, ⟨10, _⟩ => ⟨S1024x512, .bf16⟩
  | .hbm, ⟨11, _⟩ => ⟨S1024x512, .f32⟩
  | .hbm, ⟨12, _⟩ => ⟨S512x1024, .f32⟩
  | .hbm, ⟨13, _⟩ => ⟨S512x1024, .bf16⟩
  | .hbm, ⟨14, _⟩ => ⟨S8x16x512x256, .bf16⟩
  | .hbm, ⟨15, _⟩ => ⟨S8x4096x512, .bf16⟩
  | .hbm, ⟨16, _⟩ => ⟨S8x16x512x256, .bf16⟩
  | .local _ .vmem, ⟨0, _⟩ => ⟨S1x2048x1024, .f32⟩
  | .local _ .vmem, ⟨1, _⟩ => ⟨S1x2048x1024, .f32⟩
  | .local _ .vmem, ⟨2, _⟩ => ⟨S512x1024, .bf16⟩
  | .local _ .vmem, ⟨3, _⟩ => ⟨S1024x512, .bf16⟩
  | .local _ .vmem, ⟨4, _⟩ => ⟨S512x1024, .bf16⟩
  | .local _ .vmem, ⟨5, _⟩ => ⟨S1x8x512x256, .bf16⟩
  | .local _ .vmem, ⟨6, _⟩ => ⟨S1x8x512x256, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x8x512x256, .bf16⟩
  | .local _ .vmem, ⟨10, _⟩ => ⟨S1x8x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvRefIdeal.lean ====
abbrev S8x4096x1024 : Shape := ⟨3, ![8, 4096, 1024]⟩
abbrev S1x1024x4096 : Shape := ⟨3, ![1, 1024, 4096]⟩
abbrev S1024x4096 : Shape := ⟨2, ![1024, 4096]⟩
abbrev S1024x1536 : Shape := ⟨2, ![1024, 1536]⟩
abbrev S8x4096x1536 : Shape := ⟨3, ![8, 4096, 1536]⟩
abbrev S8x4096x512 : Shape := ⟨3, ![8, 4096, 512]⟩
abbrev S_ : Shape := ⟨0, ![]⟩
abbrev S8x16x256x512 : Shape := ⟨4, ![8, 16, 256, 512]⟩
abbrev S8x16x512x256 : Shape := ⟨4, ![8, 16, 512, 256]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x4096, .f32⟩
  | .hbm, ⟨2, _⟩ => ⟨S1024x4096, .f32⟩
  | .hbm, ⟨3, _⟩ => ⟨S1024x1536, .f32⟩
  | .hbm, ⟨4, _⟩ => ⟨S8x4096x1536, .f32⟩
  | .hbm, ⟨5, _⟩ => ⟨S8x4096x512, .f32⟩
  | .hbm, ⟨6, _⟩ => ⟨S8x4096x512, .f32⟩
  | .hbm, ⟨7, _⟩ => ⟨S8x4096x512, .f32⟩
  | .hbm, ⟨8, _⟩ => ⟨S_, .f32⟩
  | .hbm, ⟨9, _⟩ => ⟨S8x4096x512, .f32⟩
  | .hbm, ⟨10, _⟩ => ⟨S8x4096x512, .f32⟩
  | .hbm, ⟨11, _⟩ => ⟨S8x16x256x512, .f32⟩
  | .hbm, ⟨12, _⟩ => ⟨S8x16x512x256, .f32⟩
  | .hbm, ⟨13, _⟩ => ⟨S8x16x512x256, .bf16⟩
  | .hbm, ⟨14, _⟩ => ⟨S8x4096x512, .bf16⟩
  | .hbm, ⟨15, _⟩ => ⟨S8x16x256x512, .f32⟩
  | .hbm, ⟨16, _⟩ => ⟨S8x16x512x256, .f32⟩
  | .hbm, ⟨17, _⟩ => ⟨S8x16x512x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Attn.lean ====
abbrev S8x32 : Shape := ⟨2, ![8, 32]⟩
abbrev S8x16x512x256 : Shape := ⟨4, ![8, 16, 512, 256]⟩
abbrev S8x4096x512 : Shape := ⟨3, ![8, 4096, 512]⟩
abbrev S8x256x256 : Shape := ⟨3, ![8, 256, 256]⟩
abbrev S1x1x512x256 : Shape := ⟨4, ![1, 1, 512, 256]⟩
abbrev S1x4096x512 : Shape := ⟨3, ![1, 4096, 512]⟩
abbrev S1x16x512x256 : Shape := ⟨4, ![1, 16, 512, 256]⟩
abbrev S16x512 : Shape := ⟨2, ![16, 512]⟩
abbrev S4096x1024 : Shape := ⟨2, ![4096, 1024]⟩
abbrev S2x8x128x256 : Shape := ⟨4, ![2, 8, 128, 256]⟩
abbrev S5x8x256x256 : Shape := ⟨4, ![5, 8, 256, 256]⟩
abbrev S8x1x256 : Shape := ⟨3, ![8, 1, 256]⟩
abbrev S8x80x256 : Shape := ⟨3, ![8, 80, 256]⟩
abbrev S16x256 : Shape := ⟨2, ![16, 256]⟩
abbrev S256x64 : Shape := ⟨2, ![256, 64]⟩
abbrev S1x256x512 : Shape := ⟨3, ![1, 256, 512]⟩
abbrev S256x512 : Shape := ⟨2, ![256, 512]⟩
abbrev S512 : Shape := ⟨1, ![512]⟩
abbrev S1x512 : Shape := ⟨2, ![1, 512]⟩
abbrev S256x128 : Shape := ⟨2, ![256, 128]⟩
abbrev S1x1x64x256 : Shape := ⟨4, ![1, 1, 64, 256]⟩
abbrev S64x256 : Shape := ⟨2, ![64, 256]⟩
abbrev S16x64 : Shape := ⟨2, ![16, 64]⟩
abbrev S48x64 : Shape := ⟨2, ![48, 64]⟩
abbrev S48x256 : Shape := ⟨2, ![48, 256]⟩
abbrev S256 : Shape := ⟨1, ![256]⟩
abbrev S1x256 : Shape := ⟨2, ![1, 256]⟩
abbrev S1x1 : Shape := ⟨2, ![1, 1]⟩
abbrev S128x256 : Shape := ⟨2, ![128, 256]⟩
abbrev S1x1x128x256 : Shape := ⟨4, ![1, 1, 128, 256]⟩
abbrev S256x256 : Shape := ⟨2, ![256, 256]⟩
abbrev S1x1x256x256 : Shape := ⟨4, ![1, 1, 256, 256]⟩
abbrev S1x1x256 : Shape := ⟨3, ![1, 1, 256]⟩
abbrev S1x128x256 : Shape := ⟨3, ![1, 128, 256]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S80x256 : Shape := ⟨2, ![80, 256]⟩
abbrev S1x80x256 : Shape := ⟨3, ![1, 80, 256]⟩
abbrev S1x256x256 : Shape := ⟨3, ![1, 256, 256]⟩

abbrev nBuf : Space → Nat
  | .hbm => 7
  | .vmem => 18
  | .smem => 1
  | _ => 0

abbrev bufTy : (tb : Table) → Fin (tcTables nBuf tb) → BufTy
  | .hbm, ⟨0, _⟩ => ⟨S8x32, .f32⟩
  | .hbm, ⟨1, _⟩ => ⟨S8x16x512x256, .bf16⟩
  | .hbm, ⟨2, _⟩ => ⟨S8x4096x512, .bf16⟩
  | .hbm, ⟨3, _⟩ => ⟨S8x16x512x256, .bf16⟩
  | .hbm, ⟨4, _⟩ => ⟨S8x256x256, .f32⟩
  | .hbm, ⟨5, _⟩ => ⟨S8x256x256, .f32⟩
  | .hbm, ⟨6, _⟩ => ⟨S8x16x512x256, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x16x512x256, .bf16⟩
  | .local _ .vmem, ⟨7, _⟩ => ⟨S1x16x512x256, .bf16⟩
  | .local _ .vmem, ⟨8, _⟩ => ⟨S8x256x256, .f32⟩
  | .local _ .vmem, ⟨9, _⟩ => ⟨S8x256x256, .f32⟩
  | .local _ .vmem, ⟨10, _⟩ => ⟨S1x1x512x256, .bf16⟩
  | .local _ .vmem, ⟨11, _⟩ => ⟨S1x1x512x256, .bf16⟩
  | .local _ .vmem, ⟨12, _⟩ => ⟨S16x512, .f32⟩
  | .local _ .vmem, ⟨13, _⟩ => ⟨S4096x1024, .bf16⟩
  | .local _ .vmem, ⟨14, _⟩ => ⟨S2x8x128x256, .bf16⟩
  | .local _ .vmem, ⟨15, _⟩ => ⟨S5x8x256x256, .f32⟩
  | .local _ .vmem, ⟨16, _⟩ => ⟨S8x1x256, .f32⟩
  | .local _ .vmem, ⟨17, _⟩ => ⟨S8x80x256, .f32⟩
  | .local _ .smem, ⟨0, _⟩ => ⟨S8x32, .f32⟩
  | _, _ => ⟨S8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_1 : BitVec 32 := 0#32
  let v5 : BitVec 1 := Scalar.cmpi .ne v4 c0_i32_1
  v5

def k0_mult1 : BitVec 32 :=
  let c0_i32_877 : BitVec 32 := 0#32
  c0_i32_877
def k0_mult2 : BitVec 32 :=
  let c0_i32_888 : BitVec 32 := 0#32
  c0_i32_888
def k0_mult3 : BitVec 32 :=
  let c0_i32_899 : BitVec 32 := 0#32
  c0_i32_899
def k0_mult4 : BitVec 32 :=
  let c0_i32_910 : BitVec 32 := 0#32
  c0_i32_910
def k0_mult5 : BitVec 32 :=
  let c0_i32_921 : BitVec 32 := 0#32
  c0_i32_921
def k0_mult6 : BitVec 32 :=
  let c0_i32_932 : BitVec 32 := 0#32
  c0_i32_932
def k0_mult7 : BitVec 32 :=
  let c0_i32_943 : BitVec 32 := 0#32
  c0_i32_943
def k0_mult8 : BitVec 32 :=
  let c0_i32_954 : BitVec 32 := 0#32
  c0_i32_954
def k0_cond2 (i : grid0.Coords) : BitVec 1 :=
  let arg1 : BitVec 32 := BitVec.ofNat 32 (i 1).val
  let c0_i32_9 : BitVec 32 := 0#32
  let v15 : BitVec 1 := Scalar.cmpi .eq arg1 c0_i32_9
  let v16 : BitVec 32 := Scalar.extui v15
  let c0_i32_10 : BitVec 32 := 0#32
  let v17 : BitVec 1 := Scalar.cmpi .ne v16 c0_i32_10
  v17

def k0_off1 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1434 : Index := Scalar.indexCast v1
  let c0_721 : Index := 0#32
  let c0_722 : Index := 0#32
  let c0_723 : Index := 0#32
  ![v1434.toNat, 0, 0, 0]
def k0_off2 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1438 : Index := Scalar.indexCast v1
  let c1_724 : Index := 1#32
  let c0_725 : Index := 0#32
  let c0_726 : Index := 0#32
  ![v1438.toNat, 1, 0, 0]
def k0_off3 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1442 : Index := Scalar.indexCast v1
  let c2_727 : Index := 2#32
  let c0_728 : Index := 0#32
  let c0_729 : Index := 0#32
  ![v1442.toNat, 2, 0, 0]
def k0_off4 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1446 : Index := Scalar.indexCast v1
  let c3_730 : Index := 3#32
  let c0_731 : Index := 0#32
  let c0_732 : Index := 0#32
  ![v1446.toNat, 3, 0, 0]
def k0_off5 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1450 : Index := Scalar.indexCast v1
  let c4_733 : Index := 4#32
  let c0_734 : Index := 0#32
  let c0_735 : Index := 0#32
  ![v1450.toNat, 4, 0, 0]
def k0_off6 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1454 : Index := Scalar.indexCast v1
  let c5_736 : Index := 5#32
  let c0_737 : Index := 0#32
  let c0_738 : Index := 0#32
  ![v1454.toNat, 5, 0, 0]
def k0_off7 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1458 : Index := Scalar.indexCast v1
  let c6_739 : Index := 6#32
  let c0_740 : Index := 0#32
  let c0_741 : Index := 0#32
  ![v1458.toNat, 6, 0, 0]
def k0_off8 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1462 : Index := Scalar.indexCast v1
  let c7_742 : Index := 7#32
  let c0_743 : Index := 0#32
  let c0_744 : Index := 0#32
  ![v1462.toNat, 7, 0, 0]
def k0_mult9 : BitVec 32 :=
  let c0_i32_745 : BitVec 32 := 0#32
  c0_i32_745
def k0_mult10 : BitVec 32 :=
  let c256_i32 : BitVec 32 := 256#32
  c256_i32
def k0_mult11 : BitVec 32 :=
  let c0_i32_764 : BitVec 32 := 0#32
  c0_i32_764
def k0_mult12 : BitVec 32 :=
  let c256_i32_774 : BitVec 32 := 256#32
  c256_i32_774
def k0_mult13 : BitVec 32 :=
  let c0_i32_784 : BitVec 32 := 0#32
  c0_i32_784
def k0_mult14 : BitVec 32 :=
  let c256_i32_794 : BitVec 32 := 256#32
  c256_i32_794
def k0_mult15 : BitVec 32 :=
  let c0_i32_804 : BitVec 32 := 0#32
  c0_i32_804
def k0_mult16 : BitVec 32 :=
  let c256_i32_814 : BitVec 32 := 256#32
  c256_i32_814
def k0_mult17 : BitVec 32 :=
  let c0_i32_824 : BitVec 32 := 0#32
  c0_i32_824
def k0_mult18 : BitVec 32 :=
  let c256_i32_833 : BitVec 32 := 256#32
  c256_i32_833
def k0_mult19 : BitVec 32 :=
  let c0_i32_843 : BitVec 32 := 0#32
  c0_i32_843
def k0_mult20 : BitVec 32 :=
  let c256_i32_852 : BitVec 32 := 256#32
  c256_i32_852
def k0_mult21 : BitVec 32 :=
  let c0_i32_862 : BitVec 32 := 0#32
  c0_i32_862
def k0_mult22 : BitVec 32 :=
  let c256_i32_871 : BitVec 32 := 256#32
  c256_i32_871
def k0_mult23 : BitVec 32 :=
  let c0_i32_881 : BitVec 32 := 0#32
  c0_i32_881
def k0_mult24 : BitVec 32 :=
  let c256_i32_890 : BitVec 32 := 256#32
  c256_i32_890
def k0_cond3 (i : grid0.Coords) : BitVec 1 :=
  let arg1 : BitVec 32 := BitVec.ofNat 32 (i 1).val
  let c1_i32_11 : BitVec 32 := 1#32
  let v18 : BitVec 1 := Scalar.cmpi .eq arg1 c1_i32_11
  let v19 : BitVec 32 := Scalar.extui v18
  let c0_i32_12 : BitVec 32 := 0#32
  let v20 : BitVec 1 := Scalar.cmpi .ne v19 c0_i32_12
  v20

def k0_off9 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1282 : Index := Scalar.indexCast v1
  let c0_649 : Index := 0#32
  let c0_650 : Index := 0#32
  let c0_651 : Index := 0#32
  ![v1282.toNat, 0, 0, 0]
def k0_off10 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1286 : Index := Scalar.indexCast v1
  let c1_652 : Index := 1#32
  let c0_653 : Index := 0#32
  let c0_654 : Index := 0#32
  ![v1286.toNat, 1, 0, 0]
def k0_off11 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1290 : Index := Scalar.indexCast v1
  let c2_655 : Index := 2#32
  let c0_656 : Index := 0#32
  let c0_657 : Index := 0#32
  ![v1290.toNat, 2, 0, 0]
def k0_off12 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1294 : Index := Scalar.indexCast v1
  let c3_658 : Index := 3#32
  let c0_659 : Index := 0#32
  let c0_660 : Index := 0#32
  ![v1294.toNat, 3, 0, 0]
def k0_off13 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1298 : Index := Scalar.indexCast v1
  let c4_661 : Index := 4#32
  let c0_662 : Index := 0#32
  let c0_663 : Index := 0#32
  ![v1298.toNat, 4, 0, 0]
def k0_off14 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1302 : Index := Scalar.indexCast v1
  let c5_664 : Index := 5#32
  let c0_665 : Index := 0#32
  let c0_666 : Index := 0#32
  ![v1302.toNat, 5, 0, 0]
def k0_off15 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1306 : Index := Scalar.indexCast v1
  let c6_667 : Index := 6#32
  let c0_668 : Index := 0#32
  let c0_669 : Index := 0#32
  ![v1306.toNat, 6, 0, 0]
def k0_off16 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1310 : Index := Scalar.indexCast v1
  let c7_670 : Index := 7#32
  let c0_671 : Index := 0#32
  let c0_672 : Index := 0#32
  ![v1310.toNat, 7, 0, 0]
def k0_mult25 : BitVec 32 :=
  let c0_i32_673 : BitVec 32 := 0#32
  c0_i32_673
def k0_mult26 : BitVec 32 :=
  let c0_i32_683 : BitVec 32 := 0#32
  c0_i32_683
def k0_mult27 : BitVec 32 :=
  let c0_i32_693 : BitVec 32 := 0#32
  c0_i32_693
def k0_mult28 : BitVec 32 :=
  let c0_i32_737 : BitVec 32 := 0#32
  c0_i32_737
def k0_mult29 : BitVec 32 :=
  let c0_i32_781 : BitVec 32 := 0#32
  c0_i32_781
def k0_mult30 : BitVec 32 :=
  let c0_i32_824 : BitVec 32 := 0#32
  c0_i32_824
def k0_mult31 : BitVec 32 :=
  let c0_i32_867 : BitVec 32 := 0#32
  c0_i32_867
def k0_mult32 : BitVec 32 :=
  let c0_i32_910 : BitVec 32 := 0#32
  c0_i32_910
def k0_mult33 : BitVec 32 :=
  let c256_i32 : BitVec 32 := 256#32
  c256_i32
def k0_mult34 : BitVec 32 :=
  let c256_i32_1030 : BitVec 32 := 256#32
  c256_i32_1030
def k0_mult35 : BitVec 32 :=
  let c256_i32_1040 : BitVec 32 := 256#32
  c256_i32_1040
def k0_mult36 : BitVec 32 :=
  let c256_i32_1050 : BitVec 32 := 256#32
  c256_i32_1050
def k0_mult37 : BitVec 32 :=
  let c256_i32_1060 : BitVec 32 := 256#32
  c256_i32_1060
def k0_mult38 : BitVec 32 :=
  let c256_i32_1070 : BitVec 32 := 256#32
  c256_i32_1070
def k0_mult39 : BitVec 32 :=
  let c256_i32_1080 : BitVec 32 := 256#32
  c256_i32_1080
def k0_mult40 : BitVec 32 :=
  let c256_i32_1090 : BitVec 32 := 256#32
  c256_i32_1090
def k0_cond4 (i : grid0.Coords) : BitVec 1 :=
  let arg1 : BitVec 32 := BitVec.ofNat 32 (i 1).val
  let c2_i32 : BitVec 32 := 2#32
  let v21 : BitVec 1 := Scalar.cmpi .eq arg1 c2_i32
  let v22 : BitVec 32 := Scalar.extui v21
  let c0_i32_13 : BitVec 32 := 0#32
  let v23 : BitVec 1 := Scalar.cmpi .ne v22 c0_i32_13
  v23

def k0_mult41 : BitVec 32 :=
  let c512_i32 : BitVec 32 := 512#32
  c512_i32
def k0_off17 (i : grid0.Coords) : Fin 4 → Nat :=
  let arg1 : BitVec 32 := BitVec.ofNat 32 (i 1).val
  let c1_i32 : BitVec 32 := 1#32
  let v0 : BitVec 32 := Scalar.andi arg1 c1_i32
  let v1037 : Index := Scalar.indexCast v0
  let c0_450 : Index := 0#32
  let c0_451 : Index := 0#32
  let c0_452 : Index := 0#32
  ![v1037.toNat, 0, 0, 0]
def k0_mult42 : BitVec 32 :=
  let c512_i32_458 : BitVec 32 := 512#32
  c512_i32_458
def k0_off18 (i : grid0.Coords) : Fin 4 → Nat :=
  let arg1 : BitVec 32 := BitVec.ofNat 32 (i 1).val
  let c1_i32 : BitVec 32 := 1#32
  let v0 : BitVec 32 := Scalar.andi arg1 c1_i32
  let v1047 : Index := Scalar.indexCast v0
  let c1_460 : Index := 1#32
  let c0_461 : Index := 0#32
  let c0_462 : Index := 0#32
  ![v1047.toNat, 1, 0, 0]
def k0_mult43 : BitVec 32 :=
  let c512_i32_468 : BitVec 32 := 512#32
  c512_i32_468
def k0_off19 (i : grid0.Coords) : Fin 4 → Nat :=
  let arg1 : BitVec 32 := BitVec.ofNat 32 (i 1).val
  let c1_i32 : BitVec 32 := 1#32
  let v0 : BitVec 32 := Scalar.andi arg1 c1_i32
  let v1057 : Index := Scalar.indexCast v0
  let c2_470 : Index := 2#32
  let c0_471 : Index := 0#32
  let c0_472 : Index := 0#32
  ![v1057.toNat, 2, 0, 0]
def k0_mult44 : BitVec 32 :=
  let c512_i32_500 : BitVec 32 := 512#32
  c512_i32_500
def k0_off20 (i : grid0.Coords) : Fin 4 → Nat :=
  let arg1 : BitVec 32 := BitVec.ofNat 32 (i 1).val
  let c1_i32 : BitVec 32 := 1#32
  let v0 : BitVec 32 := Scalar.andi arg1 c1_i32
  let v1095 : Index := Scalar.indexCast v0
  let c3_502 : Index := 3#32
  let c0_503 : Index := 0#32
  let c0_504 : Index := 0#32
  ![v1095.toNat, 3, 0, 0]
def k0_mult45 : BitVec 32 :=
  let c512_i32_532 : BitVec 32 := 512#32
  c512_i32_532
def k0_off21 (i : grid0.Coords) : Fin 4 → Nat :=
  let arg1 : BitVec 32 := BitVec.ofNat 32 (i 1).val
  let c1_i32 : BitVec 32 := 1#32
  let v0 : BitVec 32 := Scalar.andi arg1 c1_i32
  let v1133 : Index := Scalar.indexCast v0
  let c4_533 : Index := 4#32
  let c0_534 : Index := 0#32
  let c0_535 : Index := 0#32
  ![v1133.toNat, 4, 0, 0]
def k0_mult46 : BitVec 32 :=
  let c512_i32_563 : BitVec 32 := 512#32
  c512_i32_563
def k0_off22 (i : grid0.Coords) : Fin 4 → Nat :=
  let arg1 : BitVec 32 := BitVec.ofNat 32 (i 1).val
  let c1_i32 : BitVec 32 := 1#32
  let v0 : BitVec 32 := Scalar.andi arg1 c1_i32
  let v1171 : Index := Scalar.indexCast v0
  let c5_564 : Index := 5#32
  let c0_565 : Index := 0#32
  let c0_566 : Index := 0#32
  ![v1171.toNat, 5, 0, 0]
def k0_mult47 : BitVec 32 :=
  let c512_i32_594 : BitVec 32 := 512#32
  c512_i32_594
def k0_off23 (i : grid0.Coords) : Fin 4 → Nat :=
  let arg1 : BitVec 32 := BitVec.ofNat 32 (i 1).val
  let c1_i32 : BitVec 32 := 1#32
  let v0 : BitVec 32 := Scalar.andi arg1 c1_i32
  let v1209 : Index := Scalar.indexCast v0
  let c6_595 : Index := 6#32
  let c0_596 : Index := 0#32
  let c0_597 : Index := 0#32
  ![v1209.toNat, 6, 0, 0]
def k0_mult48 : BitVec 32 :=
  let c512_i32_625 : BitVec 32 := 512#32
  c512_i32_625
def k0_off24 (i : grid0.Coords) : Fin 4 → Nat :=
  let arg1 : BitVec 32 := BitVec.ofNat 32 (i 1).val
  let c1_i32 : BitVec 32 := 1#32
  let v0 : BitVec 32 := Scalar.andi arg1 c1_i32
  let v1247 : Index := Scalar.indexCast v0
  let c7_626 : Index := 7#32
  let c0_627 : Index := 0#32
  let c0_628 : Index := 0#32
  ![v1247.toNat, 7, 0, 0]
def k0_off25 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1338 : Index := Scalar.indexCast v1
  let c0_700 : Index := 0#32
  let c0_701 : Index := 0#32
  let c0_702 : Index := 0#32
  ![v1338.toNat, 0, 0, 0]
def k0_off26 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1342 : Index := Scalar.indexCast v1
  let c1_703 : Index := 1#32
  let c0_704 : Index := 0#32
  let c0_705 : Index := 0#32
  ![v1342.toNat, 1, 0, 0]
def k0_off27 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1346 : Index := Scalar.indexCast v1
  let c2_706 : Index := 2#32
  let c0_707 : Index := 0#32
  let c0_708 : Index := 0#32
  ![v1346.toNat, 2, 0, 0]
def k0_off28 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1350 : Index := Scalar.indexCast v1
  let c3_709 : Index := 3#32
  let c0_710 : Index := 0#32
  let c0_711 : Index := 0#32
  ![v1350.toNat, 3, 0, 0]
def k0_off29 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1354 : Index := Scalar.indexCast v1
  let c4_712 : Index := 4#32
  let c0_713 : Index := 0#32
  let c0_714 : Index := 0#32
  ![v1354.toNat, 4, 0, 0]
def k0_off30 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1358 : Index := Scalar.indexCast v1
  let c5_715 : Index := 5#32
  let c0_716 : Index := 0#32
  let c0_717 : Index := 0#32
  ![v1358.toNat, 5, 0, 0]
def k0_off31 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1362 : Index := Scalar.indexCast v1
  let c6_718 : Index := 6#32
  let c0_719 : Index := 0#32
  let c0_720 : Index := 0#32
  ![v1362.toNat, 6, 0, 0]
def k0_off32 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1366 : Index := Scalar.indexCast v1
  let c7_721 : Index := 7#32
  let c0_722 : Index := 0#32
  let c0_723 : Index := 0#32
  ![v1366.toNat, 7, 0, 0]
def k0_mult49 : BitVec 32 :=
  let c0_i32_724 : BitVec 32 := 0#32
  c0_i32_724
def k0_mult50 : BitVec 32 :=
  let c0_i32_734 : BitVec 32 := 0#32
  c0_i32_734
def k0_mult51 : BitVec 32 :=
  let c0_i32_744 : BitVec 32 := 0#32
  c0_i32_744
def k0_mult52 : BitVec 32 :=
  let c0_i32_779 : BitVec 32 := 0#32
  c0_i32_779
def k0_mult53 : BitVec 32 :=
  let c0_i32_814 : BitVec 32 := 0#32
  c0_i32_814
def k0_mult54 : BitVec 32 :=
  let c0_i32_849 : BitVec 32 := 0#32
  c0_i32_849
def k0_mult55 : BitVec 32 :=
  let c0_i32_884 : BitVec 32 := 0#32
  c0_i32_884
def k0_mult56 : BitVec 32 :=
  let c0_i32_919 : BitVec 32 := 0#32
  c0_i32_919
def k0_mult57 : BitVec 32 :=
  let c256_i32 : BitVec 32 := 256#32
  c256_i32
def k0_mult58 : BitVec 32 :=
  let c256_i32_1013 : BitVec 32 := 256#32
  c256_i32_1013
def k0_mult59 : BitVec 32 :=
  let c256_i32_1023 : BitVec 32 := 256#32
  c256_i32_1023
def k0_mult60 : BitVec 32 :=
  let c256_i32_1067 : BitVec 32 := 256#32
  c256_i32_1067
def k0_mult61 : BitVec 32 :=
  let c256_i32_1111 : BitVec 32 := 256#32
  c256_i32_1111
def k0_mult62 : BitVec 32 :=
  let c256_i32_1155 : BitVec 32 := 256#32
  c256_i32_1155
def k0_mult63 : BitVec 32 :=
  let c256_i32_1199 : BitVec 32 := 256#32
  c256_i32_1199
def k0_mult64 : BitVec 32 :=
  let c256_i32_1243 : BitVec 32 := 256#32
  c256_i32_1243
def k0_cond5 (i : grid0.Coords) : BitVec 1 :=
  let arg1 : BitVec 32 := BitVec.ofNat 32 (i 1).val
  let c3_i32 : BitVec 32 := 3#32
  let v24 : BitVec 1 := Scalar.cmpi .sge arg1 c3_i32
  let v25 : BitVec 32 := Scalar.extui v24
  let c0_i32_14 : BitVec 32 := 0#32
  let v26 : BitVec 1 := Scalar.cmpi .ne v25 c0_i32_14
  v26

def k0_mult65 : BitVec 32 :=
  let c512_i32 : BitVec 32 := 512#32
  c512_i32
def k0_off33 (i : grid0.Coords) : Fin 4 → Nat :=
  let arg1 : BitVec 32 := BitVec.ofNat 32 (i 1).val
  let c1_i32 : BitVec 32 := 1#32
  let v0 : BitVec 32 := Scalar.andi arg1 c1_i32
  let v1037 : Index := Scalar.indexCast v0
  let c0_450 : Index := 0#32
  let c0_451 : Index := 0#32
  let c0_452 : Index := 0#32
  ![v1037.toNat, 0, 0, 0]
def k0_mult66 : BitVec 32 :=
  let c512_i32_458 : BitVec 32 := 512#32
  c512_i32_458
def k0_off34 (i : grid0.Coords) : Fin 4 → Nat :=
  let arg1 : BitVec 32 := BitVec.ofNat 32 (i 1).val
  let c1_i32 : BitVec 32 := 1#32
  let v0 : BitVec 32 := Scalar.andi arg1 c1_i32
  let v1047 : Index := Scalar.indexCast v0
  let c1_460 : Index := 1#32
  let c0_461 : Index := 0#32
  let c0_462 : Index := 0#32
  ![v1047.toNat, 1, 0, 0]
def k0_mult67 : BitVec 32 :=
  let c512_i32_468 : BitVec 32 := 512#32
  c512_i32_468
def k0_off35 (i : grid0.Coords) : Fin 4 → Nat :=
  let arg1 : BitVec 32 := BitVec.ofNat 32 (i 1).val
  let c1_i32 : BitVec 32 := 1#32
  let v0 : BitVec 32 := Scalar.andi arg1 c1_i32
  let v1057 : Index := Scalar.indexCast v0
  let c2_470 : Index := 2#32
  let c0_471 : Index := 0#32
  let c0_472 : Index := 0#32
  ![v1057.toNat, 2, 0, 0]
def k0_mult68 : BitVec 32 :=
  let c512_i32_500 : BitVec 32 := 512#32
  c512_i32_500
def k0_off36 (i : grid0.Coords) : Fin 4 → Nat :=
  let arg1 : BitVec 32 := BitVec.ofNat 32 (i 1).val
  let c1_i32 : BitVec 32 := 1#32
  let v0 : BitVec 32 := Scalar.andi arg1 c1_i32
  let v1095 : Index := Scalar.indexCast v0
  let c3_502 : Index := 3#32
  let c0_503 : Index := 0#32
  let c0_504 : Index := 0#32
  ![v1095.toNat, 3, 0, 0]
def k0_mult69 : BitVec 32 :=
  let c512_i32_532 : BitVec 32 := 512#32
  c512_i32_532
def k0_off37 (i : grid0.Coords) : Fin 4 → Nat :=
  let arg1 : BitVec 32 := BitVec.ofNat 32 (i 1).val
  let c1_i32 : BitVec 32 := 1#32
  let v0 : BitVec 32 := Scalar.andi arg1 c1_i32
  let v1133 : Index := Scalar.indexCast v0
  let c4_533 : Index := 4#32
  let c0_534 : Index := 0#32
  let c0_535 : Index := 0#32
  ![v1133.toNat, 4, 0, 0]
def k0_mult70 : BitVec 32 :=
  let c512_i32_563 : BitVec 32 := 512#32
  c512_i32_563
def k0_off38 (i : grid0.Coords) : Fin 4 → Nat :=
  let arg1 : BitVec 32 := BitVec.ofNat 32 (i 1).val
  let c1_i32 : BitVec 32 := 1#32
  let v0 : BitVec 32 := Scalar.andi arg1 c1_i32
  let v1171 : Index := Scalar.indexCast v0
  let c5_564 : Index := 5#32
  let c0_565 : Index := 0#32
  let c0_566 : Index := 0#32
  ![v1171.toNat, 5, 0, 0]
def k0_mult71 : BitVec 32 :=
  let c512_i32_594 : BitVec 32 := 512#32
  c512_i32_594
def k0_off39 (i : grid0.Coords) : Fin 4 → Nat :=
  let arg1 : BitVec 32 := BitVec.ofNat 32 (i 1).val
  let c1_i32 : BitVec 32 := 1#32
  let v0 : BitVec 32 := Scalar.andi arg1 c1_i32
  let v1209 : Index := Scalar.indexCast v0
  let c6_595 : Index := 6#32
  let c0_596 : Index := 0#32
  let c0_597 : Index := 0#32
  ![v1209.toNat, 6, 0, 0]
def k0_mult72 : BitVec 32 :=
  let c512_i32_625 : BitVec 32 := 512#32
  c512_i32_625
def k0_off40 (i : grid0.Coords) : Fin 4 → Nat :=
  let arg1 : BitVec 32 := BitVec.ofNat 32 (i 1).val
  let c1_i32 : BitVec 32 := 1#32
  let v0 : BitVec 32 := Scalar.andi arg1 c1_i32
  let v1247 : Index := Scalar.indexCast v0
  let c7_626 : Index := 7#32
  let c0_627 : Index := 0#32
  let c0_628 : Index := 0#32
  ![v1247.toNat, 7, 0, 0]
def k0_mult73 : BitVec 32 :=
  let c768_i32 : BitVec 32 := 768#32
  c768_i32
def k0_mult74 : BitVec 32 :=
  let c768_i32_709 : BitVec 32 := 768#32
  c768_i32_709
def k0_mult75 : BitVec 32 :=
  let c768_i32_719 : BitVec 32 := 768#32
  c768_i32_719
def k0_mult76 : BitVec 32 :=
  let c768_i32_751 : BitVec 32 := 768#32
  c768_i32_751
def k0_mult77 : BitVec 32 :=
  let c768_i32_783 : BitVec 32 := 768#32
  c768_i32_783
def k0_mult78 : BitVec 32 :=
  let c768_i32_815 : BitVec 32 := 768#32
  c768_i32_815
def k0_mult79 : BitVec 32 :=
  let c768_i32_847 : BitVec 32 := 768#32
  c768_i32_847
def k0_mult80 : BitVec 32 :=
  let c768_i32_879 : BitVec 32 := 768#32
  c768_i32_879
def k0_off41 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1642 : Index := Scalar.indexCast v1
  let c0_955 : Index := 0#32
  let c0_956 : Index := 0#32
  let c0_957 : Index := 0#32
  ![v1642.toNat, 0, 0, 0]
def k0_off42 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1646 : Index := Scalar.indexCast v1
  let c1_958 : Index := 1#32
  let c0_959 : Index := 0#32
  let c0_960 : Index := 0#32
  ![v1646.toNat, 1, 0, 0]
def k0_off43 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1650 : Index := Scalar.indexCast v1
  let c2_961 : Index := 2#32
  let c0_962 : Index := 0#32
  let c0_963 : Index := 0#32
  ![v1650.toNat, 2, 0, 0]
def k0_off44 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1654 : Index := Scalar.indexCast v1
  let c3_964 : Index := 3#32
  let c0_965 : Index := 0#32
  let c0_966 : Index := 0#32
  ![v1654.toNat, 3, 0, 0]
def k0_off45 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1658 : Index := Scalar.indexCast v1
  let c4_967 : Index := 4#32
  let c0_968 : Index := 0#32
  let c0_969 : Index := 0#32
  ![v1658.toNat, 4, 0, 0]
def k0_off46 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1662 : Index := Scalar.indexCast v1
  let c5_970 : Index := 5#32
  let c0_971 : Index := 0#32
  let c0_972 : Index := 0#32
  ![v1662.toNat, 5, 0, 0]
def k0_off47 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1666 : Index := Scalar.indexCast v1
  let c6_973 : Index := 6#32
  let c0_974 : Index := 0#32
  let c0_975 : Index := 0#32
  ![v1666.toNat, 6, 0, 0]
def k0_off48 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1670 : Index := Scalar.indexCast v1
  let c7_976 : Index := 7#32
  let c0_977 : Index := 0#32
  let c0_978 : Index := 0#32
  ![v1670.toNat, 7, 0, 0]
@[reducible] def k0_t1_loop (i : grid0.Coords) : Scf.Loop 32 :=
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_21 : BitVec 32 := 1#32
  ⟨c0_i32_19, v34, c1_i32_21⟩
def k0_mult81 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32 : BitVec 32 := 256#32
  let v132 : BitVec 32 := Scalar.muli v131 c256_i32
  v132
def k0_off49 (i : grid0.Coords) (k0_t1 : Fin (k0_t1_loop i).trips) (c2_i32_76 : BitVec 32) : Fin 2 → Nat :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v131 : BitVec 32 := Scalar.addi v130 c2_i32_76
  let c256_i32 : BitVec 32 := 256#32
  let v132 : BitVec 32 := Scalar.muli v131 c256_i32
  let v133 : BitVec 32 := v132
  let v134 : Index := Scalar.indexCast v133
  let c0_77 : Index := 0#32
  ![v134.toNat, 0]
def k0_off50 (i : grid0.Coords) : Fin 4 → Nat :=
  let arg1 : BitVec 32 := BitVec.ofNat 32 (i 1).val
  let c1_i32 : BitVec 32 := 1#32
  let v0 : BitVec 32 := Scalar.andi arg1 c1_i32
  let v136 : Index := Scalar.indexCast v0
  let c0_78 : Index := 0#32
  let c0_79 : Index := 0#32
  let c0_80 : Index := 0#32
  ![v136.toNat, 0, 0, 0]
def k0_mult82 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_86 : BitVec 32 := 256#32
  let v143 : BitVec 32 := Scalar.muli v131 c256_i32_86
  v143
def k0_off51 (i : grid0.Coords) (k0_t1 : Fin (k0_t1_loop i).trips) (c2_i32_76 : BitVec 32) : Fin 2 → Nat :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v131 : BitVec 32 := Scalar.addi v130 c2_i32_76
  let c256_i32_86 : BitVec 32 := 256#32
  let v143 : BitVec 32 := Scalar.muli v131 c256_i32_86
  let v144 : BitVec 32 := v143
  let v145 : Index := Scalar.indexCast v144
  let c128_87 : Index := 128#32
  ![v145.toNat, 128]
def k0_off52 (i : grid0.Coords) : Fin 4 → Nat :=
  let arg1 : BitVec 32 := BitVec.ofNat 32 (i 1).val
  let c1_i32 : BitVec 32 := 1#32
  let v0 : BitVec 32 := Scalar.andi arg1 c1_i32
  let v147 : Index := Scalar.indexCast v0
  let c1_88 : Index := 1#32
  let c0_89 : Index := 0#32
  let c0_90 : Index := 0#32
  ![v147.toNat, 1, 0, 0]
def k0_mult83 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_96 : BitVec 32 := 256#32
  let v154 : BitVec 32 := Scalar.muli v131 c256_i32_96
  v154
def k0_off53 (i : grid0.Coords) (k0_t1 : Fin (k0_t1_loop i).trips) (c2_i32_76 : BitVec 32) : Fin 2 → Nat :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v131 : BitVec 32 := Scalar.addi v130 c2_i32_76
  let c256_i32_96 : BitVec 32 := 256#32
  let v154 : BitVec 32 := Scalar.muli v131 c256_i32_96
  let v155 : BitVec 32 := v154
  let v156 : Index := Scalar.indexCast v155
  let c256_97 : Index := 256#32
  ![v156.toNat, 256]
def k0_off54 (i : grid0.Coords) : Fin 4 → Nat :=
  let arg1 : BitVec 32 := BitVec.ofNat 32 (i 1).val
  let c1_i32 : BitVec 32 := 1#32
  let v0 : BitVec 32 := Scalar.andi arg1 c1_i32
  let v158 : Index := Scalar.indexCast v0
  let c2_98 : Index := 2#32
  let c0_99 : Index := 0#32
  let c0_100 : Index := 0#32
  ![v158.toNat, 2, 0, 0]
def k0_off55 (i : grid0.Coords) (k0_t1 : Fin (k0_t1_loop i).trips) : Fin 4 → Nat :=
  let c0_114 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v176 : Index := Scalar.indexCast v130
  let c0_115 : Index := 0#32
  let c0_116 : Index := 0#32
  ![0, v176.toNat, 0, 0]
def k0_mult84 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_127 : BitVec 32 := 256#32
  let v194 : BitVec 32 := Scalar.muli v131 c256_i32_127
  v194
def k0_off56 (i : grid0.Coords) (k0_t1 : Fin (k0_t1_loop i).trips) (c2_i32_76 : BitVec 32) : Fin 2 → Nat :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v131 : BitVec 32 := Scalar.addi v130 c2_i32_76
  let c256_i32_127 : BitVec 32 := 256#32
  let v194 : BitVec 32 := Scalar.muli v131 c256_i32_127
  let v195 : BitVec 32 := v194
  let v196 : Index := Scalar.indexCast v195
  let c384_128 : Index := 384#32
  ![v196.toNat, 384]
def k0_off57 (i : grid0.Coords) : Fin 4 → Nat :=
  let arg1 : BitVec 32 := BitVec.ofNat 32 (i 1).val
  let c1_i32 : BitVec 32 := 1#32
  let v0 : BitVec 32 := Scalar.andi arg1 c1_i32
  let v198 : Index := Scalar.indexCast v0
  let c3_129 : Index := 3#32
  let c0_130 : Index := 0#32
  let c0_131 : Index := 0#32
  ![v198.toNat, 3, 0, 0]
def k0_off58 (i : grid0.Coords) (k0_t1 : Fin (k0_t1_loop i).trips) : Fin 4 → Nat :=
  let c0_145 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v216 : Index := Scalar.indexCast v130
  let c64_146 : Index := 64#32
  let c0_147 : Index := 0#32
  ![0, v216.toNat, 64, 0]
def k0_mult85 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_158 : BitVec 32 := 256#32
  let v234 : BitVec 32 := Scalar.muli v131 c256_i32_158
  v234
def k0_off59 (i : grid0.Coords) (k0_t1 : Fin (k0_t1_loop i).trips) (c2_i32_76 : BitVec 32) : Fin 2 → Nat :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v131 : BitVec 32 := Scalar.addi v130 c2_i32_76
  let c256_i32_158 : BitVec 32 := 256#32
  let v234 : BitVec 32 := Scalar.muli v131 c256_i32_158
  let v235 : BitVec 32 := v234
  let v236 : Index := Scalar.indexCast v235
  let c512 : Index := 512#32
  ![v236.toNat, 512]
def k0_off60 (i : grid0.Coords) : Fin 4 → Nat :=
  let arg1 : BitVec 32 := BitVec.ofNat 32 (i 1).val
  let c1_i32 : BitVec 32 := 1#32
  let v0 : BitVec 32 := Scalar.andi arg1 c1_i32
  let v238 : Index := Scalar.indexCast v0
  let c4_159 : Index := 4#32
  let c0_160 : Index := 0#32
  let c0_161 : Index := 0#32
  ![v238.toNat, 4, 0, 0]
def k0_off61 (i : grid0.Coords) (k0_t1 : Fin (k0_t1_loop i).trips) : Fin 4 → Nat :=
  let c0_175 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v256 : Index := Scalar.indexCast v130
  let c128_176 : Index := 128#32
  let c0_177 : Index := 0#32
  ![0, v256.toNat, 128, 0]
def k0_mult86 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_188 : BitVec 32 := 256#32
  let v274 : BitVec 32 := Scalar.muli v131 c256_i32_188
  v274
def k0_off62 (i : grid0.Coords) (k0_t1 : Fin (k0_t1_loop i).trips) (c2_i32_76 : BitVec 32) : Fin 2 → Nat :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v131 : BitVec 32 := Scalar.addi v130 c2_i32_76
  let c256_i32_188 : BitVec 32 := 256#32
  let v274 : BitVec 32 := Scalar.muli v131 c256_i32_188
  let v275 : BitVec 32 := v274
  let v276 : Index := Scalar.indexCast v275
  let c640 : Index := 640#32
  ![v276.toNat, 640]
def k0_off63 (i : grid0.Coords) : Fin 4 → Nat :=
  let arg1 : BitVec 32 := BitVec.ofNat 32 (i 1).val
  let c1_i32 : BitVec 32 := 1#32
  let v0 : BitVec 32 := Scalar.andi arg1 c1_i32
  let v278 : Index := Scalar.indexCast v0
  let c5_189 : Index := 5#32
  let c0_190 : Index := 0#32
  let c0_191 : Index := 0#32
  ![v278.toNat, 5, 0, 0]
def k0_off64 (i : grid0.Coords) (k0_t1 : Fin (k0_t1_loop i).trips) : Fin 4 → Nat :=
  let c0_205 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v296 : Index := Scalar.indexCast v130
  let c192_206 : Index := 192#32
  let c0_207 : Index := 0#32
  ![0, v296.toNat, 192, 0]
def k0_mult87 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_218 : BitVec 32 := 256#32
  let v314 : BitVec 32 := Scalar.muli v131 c256_i32_218
  v314
def k0_off65 (i : grid0.Coords) (k0_t1 : Fin (k0_t1_loop i).trips) (c2_i32_76 : BitVec 32) : Fin 2 → Nat :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v131 : BitVec 32 := Scalar.addi v130 c2_i32_76
  let c256_i32_218 : BitVec 32 := 256#32
  let v314 : BitVec 32 := Scalar.muli v131 c256_i32_218
  let v315 : BitVec 32 := v314
  let v316 : Index := Scalar.indexCast v315
  let c768 : Index := 768#32
  ![v316.toNat, 768]
def k0_off66 (i : grid0.Coords) : Fin 4 → Nat :=
  let arg1 : BitVec 32 := BitVec.ofNat 32 (i 1).val
  let c1_i32 : BitVec 32 := 1#32
  let v0 : BitVec 32 := Scalar.andi arg1 c1_i32
  let v318 : Index := Scalar.indexCast v0
  let c6_219 : Index := 6#32
  let c0_220 : Index := 0#32
  let c0_221 : Index := 0#32
  ![v318.toNat, 6, 0, 0]
def k0_off67 (i : grid0.Coords) (k0_t1 : Fin (k0_t1_loop i).trips) : Fin 4 → Nat :=
  let c0_235 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v336 : Index := Scalar.indexCast v130
  let c256_236 : Index := 256#32
  let c0_237 : Index := 0#32
  ![0, v336.toNat, 256, 0]
def k0_mult88 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_248 : BitVec 32 := 256#32
  let v354 : BitVec 32 := Scalar.muli v131 c256_i32_248
  v354
def k0_off68 (i : grid0.Coords) (k0_t1 : Fin (k0_t1_loop i).trips) (c2_i32_76 : BitVec 32) : Fin 2 → Nat :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v131 : BitVec 32 := Scalar.addi v130 c2_i32_76
  let c256_i32_248 : BitVec 32 := 256#32
  let v354 : BitVec 32 := Scalar.muli v131 c256_i32_248
  let v355 : BitVec 32 := v354
  let v356 : Index := Scalar.indexCast v355
  let c896 : Index := 896#32
  ![v356.toNat, 896]
def k0_off69 (i : grid0.Coords) : Fin 4 → Nat :=
  let arg1 : BitVec 32 := BitVec.ofNat 32 (i 1).val
  let c1_i32 : BitVec 32 := 1#32
  let v0 : BitVec 32 := Scalar.andi arg1 c1_i32
  let v358 : Index := Scalar.indexCast v0
  let c7_249 : Index := 7#32
  let c0_250 : Index := 0#32
  let c0_251 : Index := 0#32
  ![v358.toNat, 7, 0, 0]
def k0_off70 (i : grid0.Coords) (k0_t1 : Fin (k0_t1_loop i).trips) : Fin 4 → Nat :=
  let c0_265 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v376 : Index := Scalar.indexCast v130
  let c320_266 : Index := 320#32
  let c0_267 : Index := 0#32
  ![0, v376.toNat, 320, 0]
def k0_off71 (i : grid0.Coords) (k0_t1 : Fin (k0_t1_loop i).trips) : Fin 4 → Nat :=
  let c0_286 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v405 : Index := Scalar.indexCast v130
  let c384_287 : Index := 384#32
  let c0_288 : Index := 0#32
  ![0, v405.toNat, 384, 0]
def k0_off72 (i : grid0.Coords) (k0_t1 : Fin (k0_t1_loop i).trips) : Fin 4 → Nat :=
  let c0_307 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v434 : Index := Scalar.indexCast v130
  let c448_308 : Index := 448#32
  let c0_309 : Index := 0#32
  ![0, v434.toNat, 448, 0]
def k0_mult89 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_322 : BitVec 32 := 256#32
  let v454 : BitVec 32 := Scalar.muli v453 c256_i32_322
  v454
def k0_mult90 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_332 : BitVec 32 := 256#32
  let v465 : BitVec 32 := Scalar.muli v453 c256_i32_332
  v465
def k0_mult91 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_342 : BitVec 32 := 256#32
  let v476 : BitVec 32 := Scalar.muli v453 c256_i32_342
  v476
def k0_off73 (i : grid0.Coords) (k0_t1 : Fin (k0_t1_loop i).trips) (c1_i32_320 : BitVec 32) : Fin 4 → Nat :=
  let c0_360 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v452 : BitVec 32 := Scalar.addi v130 c1_i32_320
  let v498 : Index := Scalar.indexCast v452
  let c0_361 : Index := 0#32
  let c0_362 : Index := 0#32
  ![0, v498.toNat, 0, 0]
def k0_mult92 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_373 : BitVec 32 := 256#32
  let v516 : BitVec 32 := Scalar.muli v453 c256_i32_373
  v516
def k0_off74 (i : grid0.Coords) (k0_t1 : Fin (k0_t1_loop i).trips) (c1_i32_320 : BitVec 32) : Fin 4 → Nat :=
  let c0_391 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v452 : BitVec 32 := Scalar.addi v130 c1_i32_320
  let v538 : Index := Scalar.indexCast v452
  let c64_392 : Index := 64#32
  let c0_393 : Index := 0#32
  ![0, v538.toNat, 64, 0]
def k0_mult93 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_404 : BitVec 32 := 256#32
  let v556 : BitVec 32 := Scalar.muli v453 c256_i32_404
  v556
def k0_off75 (i : grid0.Coords) (k0_t1 : Fin (k0_t1_loop i).trips) (c1_i32_320 : BitVec 32) : Fin 4 → Nat :=
  let c0_422 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v452 : BitVec 32 := Scalar.addi v130 c1_i32_320
  let v578 : Index := Scalar.indexCast v452
  let c128_423 : Index := 128#32
  let c0_424 : Index := 0#32
  ![0, v578.toNat, 128, 0]
def k0_mult94 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_435 : BitVec 32 := 256#32
  let v596 : BitVec 32 := Scalar.muli v453 c256_i32_435
  v596
def k0_off76 (i : grid0.Coords) (k0_t1 : Fin (k0_t1_loop i).trips) (c1_i32_320 : BitVec 32) : Fin 4 → Nat :=
  let c0_453 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v452 : BitVec 32 := Scalar.addi v130 c1_i32_320
  let v618 : Index := Scalar.indexCast v452
  let c192_454 : Index := 192#32
  let c0_455 : Index := 0#32
  ![0, v618.toNat, 192, 0]
def k0_mult95 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_466 : BitVec 32 := 256#32
  let v636 : BitVec 32 := Scalar.muli v453 c256_i32_466
  v636
def k0_off77 (i : grid0.Coords) (k0_t1 : Fin (k0_t1_loop i).trips) (c1_i32_320 : BitVec 32) : Fin 4 → Nat :=
  let c0_484 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v452 : BitVec 32 := Scalar.addi v130 c1_i32_320
  let v658 : Index := Scalar.indexCast v452
  let c256_485 : Index := 256#32
  let c0_486 : Index := 0#32
  ![0, v658.toNat, 256, 0]
def k0_mult96 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_497 : BitVec 32 := 256#32
  let v676 : BitVec 32 := Scalar.muli v453 c256_i32_497
  v676
def k0_off78 (i : grid0.Coords) (k0_t1 : Fin (k0_t1_loop i).trips) (c1_i32_320 : BitVec 32) : Fin 4 → Nat :=
  let c0_515 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v452 : BitVec 32 := Scalar.addi v130 c1_i32_320
  let v698 : Index := Scalar.indexCast v452
  let c320_516 : Index := 320#32
  let c0_517 : Index := 0#32
  ![0, v698.toNat, 320, 0]
def k0_off79 (i : grid0.Coords) (k0_t1 : Fin (k0_t1_loop i).trips) (c1_i32_320 : BitVec 32) : Fin 4 → Nat :=
  let c0_536 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v452 : BitVec 32 := Scalar.addi v130 c1_i32_320
  let v727 : Index := Scalar.indexCast v452
  let c384_537 : Index := 384#32
  let c0_538 : Index := 0#32
  ![0, v727.toNat, 384, 0]
def k0_off80 (i : grid0.Coords) (k0_t1 : Fin (k0_t1_loop i).trips) (c1_i32_320 : BitVec 32) : Fin 4 → Nat :=
  let c0_557 : Index := 0#32
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let v452 : BitVec 32 := Scalar.addi v130 c1_i32_320
  let v756 : Index := Scalar.indexCast v452
  let c448_558 : Index := 448#32
  let c0_559 : Index := 0#32
  ![0, v756.toNat, 448, 0]
def k0_mult97 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_572 : BitVec 32 := 256#32
  let v776 : BitVec 32 := Scalar.muli v775 c256_i32_572
  v776
def k0_mult98 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_582 : BitVec 32 := 256#32
  let v787 : BitVec 32 := Scalar.muli v775 c256_i32_582
  v787
def k0_mult99 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_592 : BitVec 32 := 256#32
  let v798 : BitVec 32 := Scalar.muli v775 c256_i32_592
  v798
def k0_mult100 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_623 : BitVec 32 := 256#32
  let v838 : BitVec 32 := Scalar.muli v775 c256_i32_623
  v838
def k0_mult101 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_654 : BitVec 32 := 256#32
  let v878 : BitVec 32 := Scalar.muli v775 c256_i32_654
  v878
def k0_mult102 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_685 : BitVec 32 := 256#32
  let v918 : BitVec 32 := Scalar.muli v775 c256_i32_685
  v918
def k0_mult103 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_716 : BitVec 32 := 256#32
  let v958 : BitVec 32 := Scalar.muli v775 c256_i32_716
  v958
def k0_mult104 (i : grid0.Coords) (k0_t1 : Fin (k0_t1_loop i).trips) : BitVec 32 :=
  let c2_i32_75 : BitVec 32 := 2#32
  let c3_i32_74 : BitVec 32 := 3#32
  let c0_i32_19 : BitVec 32 := 0#32
  let c1_i32_21 : BitVec 32 := 1#32
  let arg16 : BitVec 32 := Scf.iv c0_i32_19 c1_i32_21 k0_t1
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_747 : BitVec 32 := 256#32
  let v998 : BitVec 32 := Scalar.muli v775 c256_i32_747
  v998
@[reducible] def k0_t2_loop (i : grid0.Coords) : Scf.Loop 32 :=
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let v31 : BitVec 32 := Scalar.addi c0_i32_19 v30
  let c1_i32_22 : BitVec 32 := 1#32
  ⟨v34, v31, c1_i32_22⟩
def k0_mult105 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32 : BitVec 32 := 256#32
  let v132 : BitVec 32 := Scalar.muli v131 c256_i32
  v132
def k0_off81 (i : grid0.Coords) (k0_t2 : Fin (k0_t2_loop i).trips) (c2_i32_76 : BitVec 32) : Fin 2 → Nat :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v131 : BitVec 32 := Scalar.addi v130 c2_i32_76
  let c256_i32 : BitVec 32 := 256#32
  let v132 : BitVec 32 := Scalar.muli v131 c256_i32
  let v133 : BitVec 32 := v132
  let v134 : Index := Scalar.indexCast v133
  let c0_77 : Index := 0#32
  ![v134.toNat, 0]
def k0_off82 (i : grid0.Coords) : Fin 4 → Nat :=
  let arg1 : BitVec 32 := BitVec.ofNat 32 (i 1).val
  let c1_i32 : BitVec 32 := 1#32
  let v0 : BitVec 32 := Scalar.andi arg1 c1_i32
  let v136 : Index := Scalar.indexCast v0
  let c0_78 : Index := 0#32
  let c0_79 : Index := 0#32
  let c0_80 : Index := 0#32
  ![v136.toNat, 0, 0, 0]
def k0_mult106 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_86 : BitVec 32 := 256#32
  let v143 : BitVec 32 := Scalar.muli v131 c256_i32_86
  v143
def k0_off83 (i : grid0.Coords) (k0_t2 : Fin (k0_t2_loop i).trips) (c2_i32_76 : BitVec 32) : Fin 2 → Nat :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v131 : BitVec 32 := Scalar.addi v130 c2_i32_76
  let c256_i32_86 : BitVec 32 := 256#32
  let v143 : BitVec 32 := Scalar.muli v131 c256_i32_86
  let v144 : BitVec 32 := v143
  let v145 : Index := Scalar.indexCast v144
  let c128_87 : Index := 128#32
  ![v145.toNat, 128]
def k0_off84 (i : grid0.Coords) : Fin 4 → Nat :=
  let arg1 : BitVec 32 := BitVec.ofNat 32 (i 1).val
  let c1_i32 : BitVec 32 := 1#32
  let v0 : BitVec 32 := Scalar.andi arg1 c1_i32
  let v147 : Index := Scalar.indexCast v0
  let c1_88 : Index := 1#32
  let c0_89 : Index := 0#32
  let c0_90 : Index := 0#32
  ![v147.toNat, 1, 0, 0]
def k0_mult107 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_96 : BitVec 32 := 256#32
  let v154 : BitVec 32 := Scalar.muli v131 c256_i32_96
  v154
def k0_off85 (i : grid0.Coords) (k0_t2 : Fin (k0_t2_loop i).trips) (c2_i32_76 : BitVec 32) : Fin 2 → Nat :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v131 : BitVec 32 := Scalar.addi v130 c2_i32_76
  let c256_i32_96 : BitVec 32 := 256#32
  let v154 : BitVec 32 := Scalar.muli v131 c256_i32_96
  let v155 : BitVec 32 := v154
  let v156 : Index := Scalar.indexCast v155
  let c256_97 : Index := 256#32
  ![v156.toNat, 256]
def k0_off86 (i : grid0.Coords) : Fin 4 → Nat :=
  let arg1 : BitVec 32 := BitVec.ofNat 32 (i 1).val
  let c1_i32 : BitVec 32 := 1#32
  let v0 : BitVec 32 := Scalar.andi arg1 c1_i32
  let v158 : Index := Scalar.indexCast v0
  let c2_98 : Index := 2#32
  let c0_99 : Index := 0#32
  let c0_100 : Index := 0#32
  ![v158.toNat, 2, 0, 0]
def k0_off87 (i : grid0.Coords) (k0_t2 : Fin (k0_t2_loop i).trips) : Fin 4 → Nat :=
  let c0_114 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v176 : Index := Scalar.indexCast v130
  let c0_115 : Index := 0#32
  let c0_116 : Index := 0#32
  ![0, v176.toNat, 0, 0]
def k0_mult108 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_127 : BitVec 32 := 256#32
  let v194 : BitVec 32 := Scalar.muli v131 c256_i32_127
  v194
def k0_off88 (i : grid0.Coords) (k0_t2 : Fin (k0_t2_loop i).trips) (c2_i32_76 : BitVec 32) : Fin 2 → Nat :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v131 : BitVec 32 := Scalar.addi v130 c2_i32_76
  let c256_i32_127 : BitVec 32 := 256#32
  let v194 : BitVec 32 := Scalar.muli v131 c256_i32_127
  let v195 : BitVec 32 := v194
  let v196 : Index := Scalar.indexCast v195
  let c384_128 : Index := 384#32
  ![v196.toNat, 384]
def k0_off89 (i : grid0.Coords) : Fin 4 → Nat :=
  let arg1 : BitVec 32 := BitVec.ofNat 32 (i 1).val
  let c1_i32 : BitVec 32 := 1#32
  let v0 : BitVec 32 := Scalar.andi arg1 c1_i32
  let v198 : Index := Scalar.indexCast v0
  let c3_129 : Index := 3#32
  let c0_130 : Index := 0#32
  let c0_131 : Index := 0#32
  ![v198.toNat, 3, 0, 0]
def k0_off90 (i : grid0.Coords) (k0_t2 : Fin (k0_t2_loop i).trips) : Fin 4 → Nat :=
  let c0_145 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v216 : Index := Scalar.indexCast v130
  let c64_146 : Index := 64#32
  let c0_147 : Index := 0#32
  ![0, v216.toNat, 64, 0]
def k0_mult109 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_158 : BitVec 32 := 256#32
  let v234 : BitVec 32 := Scalar.muli v131 c256_i32_158
  v234
def k0_off91 (i : grid0.Coords) (k0_t2 : Fin (k0_t2_loop i).trips) (c2_i32_76 : BitVec 32) : Fin 2 → Nat :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v131 : BitVec 32 := Scalar.addi v130 c2_i32_76
  let c256_i32_158 : BitVec 32 := 256#32
  let v234 : BitVec 32 := Scalar.muli v131 c256_i32_158
  let v235 : BitVec 32 := v234
  let v236 : Index := Scalar.indexCast v235
  let c512 : Index := 512#32
  ![v236.toNat, 512]
def k0_off92 (i : grid0.Coords) : Fin 4 → Nat :=
  let arg1 : BitVec 32 := BitVec.ofNat 32 (i 1).val
  let c1_i32 : BitVec 32 := 1#32
  let v0 : BitVec 32 := Scalar.andi arg1 c1_i32
  let v238 : Index := Scalar.indexCast v0
  let c4_159 : Index := 4#32
  let c0_160 : Index := 0#32
  let c0_161 : Index := 0#32
  ![v238.toNat, 4, 0, 0]
def k0_off93 (i : grid0.Coords) (k0_t2 : Fin (k0_t2_loop i).trips) : Fin 4 → Nat :=
  let c0_175 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v256 : Index := Scalar.indexCast v130
  let c128_176 : Index := 128#32
  let c0_177 : Index := 0#32
  ![0, v256.toNat, 128, 0]
def k0_mult110 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_188 : BitVec 32 := 256#32
  let v274 : BitVec 32 := Scalar.muli v131 c256_i32_188
  v274
def k0_off94 (i : grid0.Coords) (k0_t2 : Fin (k0_t2_loop i).trips) (c2_i32_76 : BitVec 32) : Fin 2 → Nat :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v131 : BitVec 32 := Scalar.addi v130 c2_i32_76
  let c256_i32_188 : BitVec 32 := 256#32
  let v274 : BitVec 32 := Scalar.muli v131 c256_i32_188
  let v275 : BitVec 32 := v274
  let v276 : Index := Scalar.indexCast v275
  let c640 : Index := 640#32
  ![v276.toNat, 640]
def k0_off95 (i : grid0.Coords) : Fin 4 → Nat :=
  let arg1 : BitVec 32 := BitVec.ofNat 32 (i 1).val
  let c1_i32 : BitVec 32 := 1#32
  let v0 : BitVec 32 := Scalar.andi arg1 c1_i32
  let v278 : Index := Scalar.indexCast v0
  let c5_189 : Index := 5#32
  let c0_190 : Index := 0#32
  let c0_191 : Index := 0#32
  ![v278.toNat, 5, 0, 0]
def k0_off96 (i : grid0.Coords) (k0_t2 : Fin (k0_t2_loop i).trips) : Fin 4 → Nat :=
  let c0_205 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v296 : Index := Scalar.indexCast v130
  let c192_206 : Index := 192#32
  let c0_207 : Index := 0#32
  ![0, v296.toNat, 192, 0]
def k0_mult111 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_218 : BitVec 32 := 256#32
  let v314 : BitVec 32 := Scalar.muli v131 c256_i32_218
  v314
def k0_off97 (i : grid0.Coords) (k0_t2 : Fin (k0_t2_loop i).trips) (c2_i32_76 : BitVec 32) : Fin 2 → Nat :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v131 : BitVec 32 := Scalar.addi v130 c2_i32_76
  let c256_i32_218 : BitVec 32 := 256#32
  let v314 : BitVec 32 := Scalar.muli v131 c256_i32_218
  let v315 : BitVec 32 := v314
  let v316 : Index := Scalar.indexCast v315
  let c768 : Index := 768#32
  ![v316.toNat, 768]
def k0_off98 (i : grid0.Coords) : Fin 4 → Nat :=
  let arg1 : BitVec 32 := BitVec.ofNat 32 (i 1).val
  let c1_i32 : BitVec 32 := 1#32
  let v0 : BitVec 32 := Scalar.andi arg1 c1_i32
  let v318 : Index := Scalar.indexCast v0
  let c6_219 : Index := 6#32
  let c0_220 : Index := 0#32
  let c0_221 : Index := 0#32
  ![v318.toNat, 6, 0, 0]
def k0_off99 (i : grid0.Coords) (k0_t2 : Fin (k0_t2_loop i).trips) : Fin 4 → Nat :=
  let c0_235 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v336 : Index := Scalar.indexCast v130
  let c256_236 : Index := 256#32
  let c0_237 : Index := 0#32
  ![0, v336.toNat, 256, 0]
def k0_mult112 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c2_i32_76 : BitVec 32 := 2#32
  let v131 : BitVec 32 := Scalar.addi v130 c2_i32_76
  let c256_i32_248 : BitVec 32 := 256#32
  let v354 : BitVec 32 := Scalar.muli v131 c256_i32_248
  v354
def k0_off100 (i : grid0.Coords) (k0_t2 : Fin (k0_t2_loop i).trips) (c2_i32_76 : BitVec 32) : Fin 2 → Nat :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v131 : BitVec 32 := Scalar.addi v130 c2_i32_76
  let c256_i32_248 : BitVec 32 := 256#32
  let v354 : BitVec 32 := Scalar.muli v131 c256_i32_248
  let v355 : BitVec 32 := v354
  let v356 : Index := Scalar.indexCast v355
  let c896 : Index := 896#32
  ![v356.toNat, 896]
def k0_off101 (i : grid0.Coords) : Fin 4 → Nat :=
  let arg1 : BitVec 32 := BitVec.ofNat 32 (i 1).val
  let c1_i32 : BitVec 32 := 1#32
  let v0 : BitVec 32 := Scalar.andi arg1 c1_i32
  let v358 : Index := Scalar.indexCast v0
  let c7_249 : Index := 7#32
  let c0_250 : Index := 0#32
  let c0_251 : Index := 0#32
  ![v358.toNat, 7, 0, 0]
def k0_off102 (i : grid0.Coords) (k0_t2 : Fin (k0_t2_loop i).trips) : Fin 4 → Nat :=
  let c0_265 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v376 : Index := Scalar.indexCast v130
  let c320_266 : Index := 320#32
  let c0_267 : Index := 0#32
  ![0, v376.toNat, 320, 0]
def k0_off103 (i : grid0.Coords) (k0_t2 : Fin (k0_t2_loop i).trips) : Fin 4 → Nat :=
  let c0_286 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v405 : Index := Scalar.indexCast v130
  let c384_287 : Index := 384#32
  let c0_288 : Index := 0#32
  ![0, v405.toNat, 384, 0]
def k0_off104 (i : grid0.Coords) (k0_t2 : Fin (k0_t2_loop i).trips) : Fin 4 → Nat :=
  let c0_307 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v434 : Index := Scalar.indexCast v130
  let c448_308 : Index := 448#32
  let c0_309 : Index := 0#32
  ![0, v434.toNat, 448, 0]
def k0_mult113 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_322 : BitVec 32 := 256#32
  let v454 : BitVec 32 := Scalar.muli v453 c256_i32_322
  v454
def k0_mult114 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_332 : BitVec 32 := 256#32
  let v465 : BitVec 32 := Scalar.muli v453 c256_i32_332
  v465
def k0_mult115 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_342 : BitVec 32 := 256#32
  let v476 : BitVec 32 := Scalar.muli v453 c256_i32_342
  v476
def k0_off105 (i : grid0.Coords) (k0_t2 : Fin (k0_t2_loop i).trips) (c1_i32_320 : BitVec 32) : Fin 4 → Nat :=
  let c0_360 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v452 : BitVec 32 := Scalar.addi v130 c1_i32_320
  let v498 : Index := Scalar.indexCast v452
  let c0_361 : Index := 0#32
  let c0_362 : Index := 0#32
  ![0, v498.toNat, 0, 0]
def k0_mult116 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_373 : BitVec 32 := 256#32
  let v516 : BitVec 32 := Scalar.muli v453 c256_i32_373
  v516
def k0_off106 (i : grid0.Coords) (k0_t2 : Fin (k0_t2_loop i).trips) (c1_i32_320 : BitVec 32) : Fin 4 → Nat :=
  let c0_391 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v452 : BitVec 32 := Scalar.addi v130 c1_i32_320
  let v538 : Index := Scalar.indexCast v452
  let c64_392 : Index := 64#32
  let c0_393 : Index := 0#32
  ![0, v538.toNat, 64, 0]
def k0_mult117 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_404 : BitVec 32 := 256#32
  let v556 : BitVec 32 := Scalar.muli v453 c256_i32_404
  v556
def k0_off107 (i : grid0.Coords) (k0_t2 : Fin (k0_t2_loop i).trips) (c1_i32_320 : BitVec 32) : Fin 4 → Nat :=
  let c0_422 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v452 : BitVec 32 := Scalar.addi v130 c1_i32_320
  let v578 : Index := Scalar.indexCast v452
  let c128_423 : Index := 128#32
  let c0_424 : Index := 0#32
  ![0, v578.toNat, 128, 0]
def k0_mult118 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_435 : BitVec 32 := 256#32
  let v596 : BitVec 32 := Scalar.muli v453 c256_i32_435
  v596
def k0_off108 (i : grid0.Coords) (k0_t2 : Fin (k0_t2_loop i).trips) (c1_i32_320 : BitVec 32) : Fin 4 → Nat :=
  let c0_453 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v452 : BitVec 32 := Scalar.addi v130 c1_i32_320
  let v618 : Index := Scalar.indexCast v452
  let c192_454 : Index := 192#32
  let c0_455 : Index := 0#32
  ![0, v618.toNat, 192, 0]
def k0_mult119 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_466 : BitVec 32 := 256#32
  let v636 : BitVec 32 := Scalar.muli v453 c256_i32_466
  v636
def k0_off109 (i : grid0.Coords) (k0_t2 : Fin (k0_t2_loop i).trips) (c1_i32_320 : BitVec 32) : Fin 4 → Nat :=
  let c0_484 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v452 : BitVec 32 := Scalar.addi v130 c1_i32_320
  let v658 : Index := Scalar.indexCast v452
  let c256_485 : Index := 256#32
  let c0_486 : Index := 0#32
  ![0, v658.toNat, 256, 0]
def k0_mult120 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c3_i32_321 : BitVec 32 := 3#32
  let v453 : BitVec 32 := Scalar.addi v130 c3_i32_321
  let c256_i32_497 : BitVec 32 := 256#32
  let v676 : BitVec 32 := Scalar.muli v453 c256_i32_497
  v676
def k0_off110 (i : grid0.Coords) (k0_t2 : Fin (k0_t2_loop i).trips) (c1_i32_320 : BitVec 32) : Fin 4 → Nat :=
  let c0_515 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v452 : BitVec 32 := Scalar.addi v130 c1_i32_320
  let v698 : Index := Scalar.indexCast v452
  let c320_516 : Index := 320#32
  let c0_517 : Index := 0#32
  ![0, v698.toNat, 320, 0]
def k0_off111 (i : grid0.Coords) (k0_t2 : Fin (k0_t2_loop i).trips) (c1_i32_320 : BitVec 32) : Fin 4 → Nat :=
  let c0_536 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v452 : BitVec 32 := Scalar.addi v130 c1_i32_320
  let v727 : Index := Scalar.indexCast v452
  let c384_537 : Index := 384#32
  let c0_538 : Index := 0#32
  ![0, v727.toNat, 384, 0]
def k0_off112 (i : grid0.Coords) (k0_t2 : Fin (k0_t2_loop i).trips) (c1_i32_320 : BitVec 32) : Fin 4 → Nat :=
  let c0_557 : Index := 0#32
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let v452 : BitVec 32 := Scalar.addi v130 c1_i32_320
  let v756 : Index := Scalar.indexCast v452
  let c448_558 : Index := 448#32
  let c0_559 : Index := 0#32
  ![0, v756.toNat, 448, 0]
def k0_mult121 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_572 : BitVec 32 := 256#32
  let v776 : BitVec 32 := Scalar.muli v775 c256_i32_572
  v776
def k0_mult122 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_582 : BitVec 32 := 256#32
  let v787 : BitVec 32 := Scalar.muli v775 c256_i32_582
  v787
def k0_mult123 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_592 : BitVec 32 := 256#32
  let v798 : BitVec 32 := Scalar.muli v775 c256_i32_592
  v798
def k0_mult124 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_623 : BitVec 32 := 256#32
  let v838 : BitVec 32 := Scalar.muli v775 c256_i32_623
  v838
def k0_mult125 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_654 : BitVec 32 := 256#32
  let v878 : BitVec 32 := Scalar.muli v775 c256_i32_654
  v878
def k0_mult126 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_685 : BitVec 32 := 256#32
  let v918 : BitVec 32 := Scalar.muli v775 c256_i32_685
  v918
def k0_mult127 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_716 : BitVec 32 := 256#32
  let v958 : BitVec 32 := Scalar.muli v775 c256_i32_716
  v958
def k0_mult128 (i : grid0.Coords) (k0_t2 : Fin (k0_t2_loop i).trips) : BitVec 32 :=
  let c2_i32_75 : BitVec 32 := 2#32
  let c3_i32_74 : BitVec 32 := 3#32
  let c0_i32_19 : BitVec 32 := 0#32
  let arg1 : BitVec 32 := BitVec.ofNat 32 (i 1).val
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v30 : BitVec 32 := Scalar.subi v29 c0_i32_19
  let c1_i32_20 : BitVec 32 := 1#32
  let v32 : BitVec 32 := Scalar.divsi v30 c1_i32_20
  let v33 : BitVec 32 := Scalar.muli v32 c1_i32_20
  let v34 : BitVec 32 := Scalar.addi c0_i32_19 v33
  let c1_i32_22 : BitVec 32 := 1#32
  let arg16 : BitVec 32 := Scf.iv v34 c1_i32_22 k0_t2
  let v129 : BitVec 32 := Scalar.muli c3_i32_74 arg16
  let v130 : BitVec 32 := Scalar.addi c2_i32_75 v129
  let c4_i32_571 : BitVec 32 := 4#32
  let v775 : BitVec 32 := Scalar.addi v130 c4_i32_571
  let c256_i32_747 : BitVec 32 := 256#32
  let v998 : BitVec 32 := Scalar.muli v775 c256_i32_747
  v998
def k0_cond6 (i : grid0.Coords) : BitVec 1 :=
  let arg1 : BitVec 32 := BitVec.ofNat 32 (i 1).val
  let c3_i32_23 : BitVec 32 := 3#32
  let v35 : BitVec 1 := Scalar.cmpi .sge arg1 c3_i32_23
  let c1_i32_24 : BitVec 32 := 1#32
  let v36 : BitVec 32 := Scalar.subi arg1 c1_i32_24
  let c3_i32_25 : BitVec 32 := 3#32
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v37 : BitVec 32 := Scalar.muli c3_i32_25 v29
  let v38 : BitVec 32 := Scalar.subi v36 v37
  let c0_i32_26 : BitVec 32 := 0#32
  let v39 : BitVec 32 := Scalar.select v35 v38 c0_i32_26
  let c2_i32_27 : BitVec 32 := 2#32
  let v40 : BitVec 1 := Scalar.cmpi .eq v39 c2_i32_27
  let v41 : BitVec 32 := Scalar.extui v40
  let c0_i32_28 : BitVec 32 := 0#32
  let v42 : BitVec 1 := Scalar.cmpi .ne v41 c0_i32_28
  v42

def k0_mult129 : BitVec 32 :=
  let c0_i32_75 : BitVec 32 := 0#32
  c0_i32_75
def k0_off113 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v133 : Index := Scalar.indexCast v1
  let c0_77 : Index := 0#32
  let c0_78 : Index := 0#32
  let c0_79 : Index := 0#32
  ![v133.toNat, 0, 0, 0]
def k0_mult130 : BitVec 32 :=
  let c0_i32_85 : BitVec 32 := 0#32
  c0_i32_85
def k0_off114 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v143 : Index := Scalar.indexCast v1
  let c1_87 : Index := 1#32
  let c0_88 : Index := 0#32
  let c0_89 : Index := 0#32
  ![v143.toNat, 1, 0, 0]
def k0_mult131 : BitVec 32 :=
  let c0_i32_95 : BitVec 32 := 0#32
  c0_i32_95
def k0_off115 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v153 : Index := Scalar.indexCast v1
  let c2_97 : Index := 2#32
  let c0_98 : Index := 0#32
  let c0_99 : Index := 0#32
  ![v153.toNat, 2, 0, 0]
def k0_off116 (i : grid0.Coords) : Fin 4 → Nat :=
  let c0_116 : Index := 0#32
  let arg1 : BitVec 32 := BitVec.ofNat 32 (i 1).val
  let c1_i32_74 : BitVec 32 := 1#32
  let v129 : BitVec 32 := Scalar.subi arg1 c1_i32_74
  let v174 : Index := Scalar.indexCast v129
  let c0_117 : Index := 0#32
  let c0_118 : Index := 0#32
  ![0, v174.toNat, 0, 0]
def k0_mult132 : BitVec 32 :=
  let c0_i32_129 : BitVec 32 := 0#32
  c0_i32_129
def k0_off117 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v195 : Index := Scalar.indexCast v1
  let c3_131 : Index := 3#32
  let c0_132 : Index := 0#32
  let c0_133 : Index := 0#32
  ![v195.toNat, 3, 0, 0]
def k0_off118 (i : grid0.Coords) : Fin 4 → Nat :=
  let c0_150 : Index := 0#32
  let arg1 : BitVec 32 := BitVec.ofNat 32 (i 1).val
  let c1_i32_74 : BitVec 32 := 1#32
  let v129 : BitVec 32 := Scalar.subi arg1 c1_i32_74
  let v216 : Index := Scalar.indexCast v129
  let c64_151 : Index := 64#32
  let c0_152 : Index := 0#32
  ![0, v216.toNat, 64, 0]
def k0_mult133 : BitVec 32 :=
  let c0_i32_163 : BitVec 32 := 0#32
  c0_i32_163
def k0_off119 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v237 : Index := Scalar.indexCast v1
  let c4_164 : Index := 4#32
  let c0_165 : Index := 0#32
  let c0_166 : Index := 0#32
  ![v237.toNat, 4, 0, 0]
def k0_off120 (i : grid0.Coords) : Fin 4 → Nat :=
  let c0_183 : Index := 0#32
  let arg1 : BitVec 32 := BitVec.ofNat 32 (i 1).val
  let c1_i32_74 : BitVec 32 := 1#32
  let v129 : BitVec 32 := Scalar.subi arg1 c1_i32_74
  let v258 : Index := Scalar.indexCast v129
  let c128_184 : Index := 128#32
  let c0_185 : Index := 0#32
  ![0, v258.toNat, 128, 0]
def k0_mult134 : BitVec 32 :=
  let c0_i32_196 : BitVec 32 := 0#32
  c0_i32_196
def k0_off121 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v279 : Index := Scalar.indexCast v1
  let c5_197 : Index := 5#32
  let c0_198 : Index := 0#32
  let c0_199 : Index := 0#32
  ![v279.toNat, 5, 0, 0]
def k0_off122 (i : grid0.Coords) : Fin 4 → Nat :=
  let c0_216 : Index := 0#32
  let arg1 : BitVec 32 := BitVec.ofNat 32 (i 1).val
  let c1_i32_74 : BitVec 32 := 1#32
  let v129 : BitVec 32 := Scalar.subi arg1 c1_i32_74
  let v300 : Index := Scalar.indexCast v129
  let c192_217 : Index := 192#32
  let c0_218 : Index := 0#32
  ![0, v300.toNat, 192, 0]
def k0_mult135 : BitVec 32 :=
  let c0_i32_229 : BitVec 32 := 0#32
  c0_i32_229
def k0_off123 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v321 : Index := Scalar.indexCast v1
  let c6_230 : Index := 6#32
  let c0_231 : Index := 0#32
  let c0_232 : Index := 0#32
  ![v321.toNat, 6, 0, 0]
def k0_off124 (i : grid0.Coords) : Fin 4 → Nat :=
  let c0_249 : Index := 0#32
  let arg1 : BitVec 32 := BitVec.ofNat 32 (i 1).val
  let c1_i32_74 : BitVec 32 := 1#32
  let v129 : BitVec 32 := Scalar.subi arg1 c1_i32_74
  let v342 : Index := Scalar.indexCast v129
  let c256_250 : Index := 256#32
  let c0_251 : Index := 0#32
  ![0, v342.toNat, 256, 0]
def k0_mult136 : BitVec 32 :=
  let c0_i32_262 : BitVec 32 := 0#32
  c0_i32_262
def k0_off125 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v363 : Index := Scalar.indexCast v1
  let c7_263 : Index := 7#32
  let c0_264 : Index := 0#32
  let c0_265 : Index := 0#32
  ![v363.toNat, 7, 0, 0]
def k0_off126 (i : grid0.Coords) : Fin 4 → Nat :=
  let c0_282 : Index := 0#32
  let arg1 : BitVec 32 := BitVec.ofNat 32 (i 1).val
  let c1_i32_74 : BitVec 32 := 1#32
  let v129 : BitVec 32 := Scalar.subi arg1 c1_i32_74
  let v384 : Index := Scalar.indexCast v129
  let c320_283 : Index := 320#32
  let c0_284 : Index := 0#32
  ![0, v384.toNat, 320, 0]
def k0_off127 (i : grid0.Coords) : Fin 4 → Nat :=
  let c0_306 : Index := 0#32
  let arg1 : BitVec 32 := BitVec.ofNat 32 (i 1).val
  let c1_i32_74 : BitVec 32 := 1#32
  let v129 : BitVec 32 := Scalar.subi arg1 c1_i32_74
  let v416 : Index := Scalar.indexCast v129
  let c384_307 : Index := 384#32
  let c0_308 : Index := 0#32
  ![0, v416.toNat, 384, 0]
def k0_off128 (i : grid0.Coords) : Fin 4 → Nat :=
  let c0_330 : Index := 0#32
  let arg1 : BitVec 32 := BitVec.ofNat 32 (i 1).val
  let c1_i32_74 : BitVec 32 := 1#32
  let v129 : BitVec 32 := Scalar.subi arg1 c1_i32_74
  let v448 : Index := Scalar.indexCast v129
  let c448_331 : Index := 448#32
  let c0_332 : Index := 0#32
  ![0, v448.toNat, 448, 0]
def k0_mult137 : BitVec 32 :=
  let c256_i32 : BitVec 32 := 256#32
  c256_i32
def k0_mult138 : BitVec 32 :=
  let c256_i32_352 : BitVec 32 := 256#32
  c256_i32_352
def k0_mult139 : BitVec 32 :=
  let c256_i32_362 : BitVec 32 := 256#32
  c256_i32_362
def k0_off129 (i : grid0.Coords) : Fin 4 → Nat :=
  let c0_392 : Index := 0#32
  let arg1 : BitVec 32 := BitVec.ofNat 32 (i 1).val
  let v529 : Index := Scalar.indexCast arg1
  let c0_393 : Index := 0#32
  let c0_394 : Index := 0#32
  ![0, v529.toNat, 0, 0]
def k0_mult140 : BitVec 32 :=
  let c256_i32_405 : BitVec 32 := 256#32
  c256_i32_405
def k0_off130 (i : grid0.Coords) : Fin 4 → Nat :=
  let c0_435 : Index := 0#32
  let arg1 : BitVec 32 := BitVec.ofNat 32 (i 1).val
  let v590 : Index := Scalar.indexCast arg1
  let c64_436 : Index := 64#32
  let c0_437 : Index := 0#32
  ![0, v590.toNat, 64, 0]
def k0_mult141 : BitVec 32 :=
  let c256_i32_448 : BitVec 32 := 256#32
  c256_i32_448
def k0_off131 (i : grid0.Coords) : Fin 4 → Nat :=
  let c0_478 : Index := 0#32
  let arg1 : BitVec 32 := BitVec.ofNat 32 (i 1).val
  let v651 : Index := Scalar.indexCast arg1
  let c128_479 : Index := 128#32
  let c0_480 : Index := 0#32
  ![0, v651.toNat, 128, 0]
def k0_mult142 : BitVec 32 :=
  let c256_i32_491 : BitVec 32 := 256#32
  c256_i32_491
def k0_off132 (i : grid0.Coords) : Fin 4 → Nat :=
  let c0_521 : Index := 0#32
  let arg1 : BitVec 32 := BitVec.ofNat 32 (i 1).val
  let v712 : Index := Scalar.indexCast arg1
  let c192_522 : Index := 192#32
  let c0_523 : Index := 0#32
  ![0, v712.toNat, 192, 0]
def k0_mult143 : BitVec 32 :=
  let c256_i32_534 : BitVec 32 := 256#32
  c256_i32_534
def k0_off133 (i : grid0.Coords) : Fin 4 → Nat :=
  let c0_564 : Index := 0#32
  let arg1 : BitVec 32 := BitVec.ofNat 32 (i 1).val
  let v773 : Index := Scalar.indexCast arg1
  let c256_565 : Index := 256#32
  let c0_566 : Index := 0#32
  ![0, v773.toNat, 256, 0]
def k0_mult144 : BitVec 32 :=
  let c256_i32_577 : BitVec 32 := 256#32
  c256_i32_577
def k0_off134 (i : grid0.Coords) : Fin 4 → Nat :=
  let c0_607 : Index := 0#32
  let arg1 : BitVec 32 := BitVec.ofNat 32 (i 1).val
  let v834 : Index := Scalar.indexCast arg1
  let c320_608 : Index := 320#32
  let c0_609 : Index := 0#32
  ![0, v834.toNat, 320, 0]
def k0_off135 (i : grid0.Coords) : Fin 4 → Nat :=
  let c0_640 : Index := 0#32
  let arg1 : BitVec 32 := BitVec.ofNat 32 (i 1).val
  let v885 : Index := Scalar.indexCast arg1
  let c384_641 : Index := 384#32
  let c0_642 : Index := 0#32
  ![0, v885.toNat, 384, 0]
def k0_off136 (i : grid0.Coords) : Fin 4 → Nat :=
  let c0_673 : Index := 0#32
  let arg1 : BitVec 32 := BitVec.ofNat 32 (i 1).val
  let v936 : Index := Scalar.indexCast arg1
  let c448_674 : Index := 448#32
  let c0_675 : Index := 0#32
  ![0, v936.toNat, 448, 0]
def k0_cond7 (i : grid0.Coords) : BitVec 1 :=
  let arg1 : BitVec 32 := BitVec.ofNat 32 (i 1).val
  let c3_i32_23 : BitVec 32 := 3#32
  let v35 : BitVec 1 := Scalar.cmpi .sge arg1 c3_i32_23
  let c1_i32_24 : BitVec 32 := 1#32
  let v36 : BitVec 32 := Scalar.subi arg1 c1_i32_24
  let c3_i32_25 : BitVec 32 := 3#32
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v37 : BitVec 32 := Scalar.muli c3_i32_25 v29
  let v38 : BitVec 32 := Scalar.subi v36 v37
  let c0_i32_26 : BitVec 32 := 0#32
  let v39 : BitVec 32 := Scalar.select v35 v38 c0_i32_26
  let c3_i32_29 : BitVec 32 := 3#32
  let v43 : BitVec 1 := Scalar.cmpi .eq v39 c3_i32_29
  let v44 : BitVec 32 := Scalar.extui v43
  let c0_i32_30 : BitVec 32 := 0#32
  let v45 : BitVec 1 := Scalar.cmpi .ne v44 c0_i32_30
  v45

def k0_mult145 (i : grid0.Coords) : BitVec 32 :=
  let arg1 : BitVec 32 := BitVec.ofNat 32 (i 1).val
  let c256_i32 : BitVec 32 := 256#32
  let v130 : BitVec 32 := Scalar.muli arg1 c256_i32
  v130
def k0_off137 (i : grid0.Coords) : Fin 2 → Nat :=
  let arg1 : BitVec 32 := BitVec.ofNat 32 (i 1).val
  let c256_i32 : BitVec 32 := 256#32
  let v130 : BitVec 32 := Scalar.muli arg1 c256_i32
  let v131 : BitVec 32 := v130
  let v132 : Index := Scalar.indexCast v131
  let c0_75 : Index := 0#32
  ![v132.toNat, 0]
def k0_off138 (i : grid0.Coords) : Fin 4 → Nat :=
  let arg1 : BitVec 32 := BitVec.ofNat 32 (i 1).val
  let c1_i32 : BitVec 32 := 1#32
  let v0 : BitVec 32 := Scalar.andi arg1 c1_i32
  let v134 : Index := Scalar.indexCast v0
  let c0_76 : Index := 0#32
  let c0_77 : Index := 0#32
  let c0_78 : Index := 0#32
  ![v134.toNat, 0, 0, 0]
def k0_mult146 (i : grid0.Coords) : BitVec 32 :=
  let arg1 : BitVec 32 := BitVec.ofNat 32 (i 1).val
  let c256_i32_84 : BitVec 32 := 256#32
  let v141 : BitVec 32 := Scalar.muli arg1 c256_i32_84
  v141
def k0_off139 (i : grid0.Coords) : Fin 2 → Nat :=
  let arg1 : BitVec 32 := BitVec.ofNat 32 (i 1).val
  let c256_i32_84 : BitVec 32 := 256#32
  let v141 : BitVec 32 := Scalar.muli arg1 c256_i32_84
  let v142 : BitVec 32 := v141
  let v143 : Index := Scalar.indexCast v142
  let c128_85 : Index := 128#32
  ![v143.toNat, 128]
def k0_off140 (i : grid0.Coords) : Fin 4 → Nat :=
  let arg1 : BitVec 32 := BitVec.ofNat 32 (i 1).val
  let c1_i32 : BitVec 32 := 1#32
  let v0 : BitVec 32 := Scalar.andi arg1 c1_i32
  let v145 : Index := Scalar.indexCast v0
  let c1_86 : Index := 1#32
  let c0_87 : Index := 0#32
  let c0_88 : Index := 0#32
  ![v145.toNat, 1, 0, 0]
def k0_mult147 (i : grid0.Coords) : BitVec 32 :=
  let arg1 : BitVec 32 := BitVec.ofNat 32 (i 1).val
  let c256_i32_94 : BitVec 32 := 256#32
  let v152 : BitVec 32 := Scalar.muli arg1 c256_i32_94
  v152
def k0_off141 (i : grid0.Coords) : Fin 2 → Nat :=
  let arg1 : BitVec 32 := BitVec.ofNat 32 (i 1).val
  let c256_i32_94 : BitVec 32 := 256#32
  let v152 : BitVec 32 := Scalar.muli arg1 c256_i32_94
  let v153 : BitVec 32 := v152
  let v154 : Index := Scalar.indexCast v153
  let c256_95 : Index := 256#32
  ![v154.toNat, 256]
def k0_off142 (i : grid0.Coords) : Fin 4 → Nat :=
  let arg1 : BitVec 32 := BitVec.ofNat 32 (i 1).val
  let c1_i32 : BitVec 32 := 1#32
  let v0 : BitVec 32 := Scalar.andi arg1 c1_i32
  let v156 : Index := Scalar.indexCast v0
  let c2_96 : Index := 2#32
  let c0_97 : Index := 0#32
  let c0_98 : Index := 0#32
  ![v156.toNat, 2, 0, 0]
def k0_off143 (i : grid0.Coords) (c2_i32_74 : BitVec 32) : Fin 4 → Nat :=
  let c0_112 : Index := 0#32
  let arg1 : BitVec 32 := BitVec.ofNat 32 (i 1).val
  let v129 : BitVec 32 := Scalar.subi arg1 c2_i32_74
  let v174 : Index := Scalar.indexCast v129
  let c0_113 : Index := 0#32
  let c0_114 : Index := 0#32
  ![0, v174.toNat, 0, 0]
def k0_mult148 (i : grid0.Coords) : BitVec 32 :=
  let arg1 : BitVec 32 := BitVec.ofNat 32 (i 1).val
  let c256_i32_125 : BitVec 32 := 256#32
  let v192 : BitVec 32 := Scalar.muli arg1 c256_i32_125
  v192
def k0_off144 (i : grid0.Coords) : Fin 2 → Nat :=
  let arg1 : BitVec 32 := BitVec.ofNat 32 (i 1).val
  let c256_i32_125 : BitVec 32 := 256#32
  let v192 : BitVec 32 := Scalar.muli arg1 c256_i32_125
  let v193 : BitVec 32 := v192
  let v194 : Index := Scalar.indexCast v193
  let c384_126 : Index := 384#32
  ![v194.toNat, 384]
def k0_off145 (i : grid0.Coords) : Fin 4 → Nat :=
  let arg1 : BitVec 32 := BitVec.ofNat 32 (i 1).val
  let c1_i32 : BitVec 32 := 1#32
  let v0 : BitVec 32 := Scalar.andi arg1 c1_i32
  let v196 : Index := Scalar.indexCast v0
  let c3_127 : Index := 3#32
  let c0_128 : Index := 0#32
  let c0_129 : Index := 0#32
  ![v196.toNat, 3, 0, 0]
def k0_off146 (i : grid0.Coords) (c2_i32_74 : BitVec 32) : Fin 4 → Nat :=
  let c0_143 : Index := 0#32
  let arg1 : BitVec 32 := BitVec.ofNat 32 (i 1).val
  let v129 : BitVec 32 := Scalar.subi arg1 c2_i32_74
  let v214 : Index := Scalar.indexCast v129
  let c64_144 : Index := 64#32
  let c0_145 : Index := 0#32
  ![0, v214.toNat, 64, 0]
def k0_mult149 (i : grid0.Coords) : BitVec 32 :=
  let arg1 : BitVec 32 := BitVec.ofNat 32 (i 1).val
  let c256_i32_156 : BitVec 32 := 256#32
  let v232 : BitVec 32 := Scalar.muli arg1 c256_i32_156
  v232
def k0_off147 (i : grid0.Coords) : Fin 2 → Nat :=
  let arg1 : BitVec 32 := BitVec.ofNat 32 (i 1).val
  let c256_i32_156 : BitVec 32 := 256#32
  let v232 : BitVec 32 := Scalar.muli arg1 c256_i32_156
  let v233 : BitVec 32 := v232
  let v234 : Index := Scalar.indexCast v233
  let c512 : Index := 512#32
  ![v234.toNat, 512]
def k0_off148 (i : grid0.Coords) : Fin 4 → Nat :=
  let arg1 : BitVec 32 := BitVec.ofNat 32 (i 1).val
  let c1_i32 : BitVec 32 := 1#32
  let v0 : BitVec 32 := Scalar.andi arg1 c1_i32
  let v236 : Index := Scalar.indexCast v0
  let c4_157 : Index := 4#32
  let c0_158 : Index := 0#32
  let c0_159 : Index := 0#32
  ![v236.toNat, 4, 0, 0]
def k0_off149 (i : grid0.Coords) (c2_i32_74 : BitVec 32) : Fin 4 → Nat :=
  let c0_173 : Index := 0#32
  let arg1 : BitVec 32 := BitVec.ofNat 32 (i 1).val
  let v129 : BitVec 32 := Scalar.subi arg1 c2_i32_74
  let v254 : Index := Scalar.indexCast v129
  let c128_174 : Index := 128#32
  let c0_175 : Index := 0#32
  ![0, v254.toNat, 128, 0]
def k0_mult150 (i : grid0.Coords) : BitVec 32 :=
  let arg1 : BitVec 32 := BitVec.ofNat 32 (i 1).val
  let c256_i32_186 : BitVec 32 := 256#32
  let v272 : BitVec 32 := Scalar.muli arg1 c256_i32_186
  v272
def k0_off150 (i : grid0.Coords) : Fin 2 → Nat :=
  let arg1 : BitVec 32 := BitVec.ofNat 32 (i 1).val
  let c256_i32_186 : BitVec 32 := 256#32
  let v272 : BitVec 32 := Scalar.muli arg1 c256_i32_186
  let v273 : BitVec 32 := v272
  let v274 : Index := Scalar.indexCast v273
  let c640 : Index := 640#32
  ![v274.toNat, 640]
def k0_off151 (i : grid0.Coords) : Fin 4 → Nat :=
  let arg1 : BitVec 32 := BitVec.ofNat 32 (i 1).val
  let c1_i32 : BitVec 32 := 1#32
  let v0 : BitVec 32 := Scalar.andi arg1 c1_i32
  let v276 : Index := Scalar.indexCast v0
  let c5_187 : Index := 5#32
  let c0_188 : Index := 0#32
  let c0_189 : Index := 0#32
  ![v276.toNat, 5, 0, 0]
def k0_off152 (i : grid0.Coords) (c2_i32_74 : BitVec 32) : Fin 4 → Nat :=
  let c0_203 : Index := 0#32
  let arg1 : BitVec 32 := BitVec.ofNat 32 (i 1).val
  let v129 : BitVec 32 := Scalar.subi arg1 c2_i32_74
  let v294 : Index := Scalar.indexCast v129
  let c192_204 : Index := 192#32
  let c0_205 : Index := 0#32
  ![0, v294.toNat, 192, 0]
def k0_mult151 (i : grid0.Coords) : BitVec 32 :=
  let arg1 : BitVec 32 := BitVec.ofNat 32 (i 1).val
  let c256_i32_216 : BitVec 32 := 256#32
  let v312 : BitVec 32 := Scalar.muli arg1 c256_i32_216
  v312
def k0_off153 (i : grid0.Coords) : Fin 2 → Nat :=
  let arg1 : BitVec 32 := BitVec.ofNat 32 (i 1).val
  let c256_i32_216 : BitVec 32 := 256#32
  let v312 : BitVec 32 := Scalar.muli arg1 c256_i32_216
  let v313 : BitVec 32 := v312
  let v314 : Index := Scalar.indexCast v313
  let c768 : Index := 768#32
  ![v314.toNat, 768]
def k0_off154 (i : grid0.Coords) : Fin 4 → Nat :=
  let arg1 : BitVec 32 := BitVec.ofNat 32 (i 1).val
  let c1_i32 : BitVec 32 := 1#32
  let v0 : BitVec 32 := Scalar.andi arg1 c1_i32
  let v316 : Index := Scalar.indexCast v0
  let c6_217 : Index := 6#32
  let c0_218 : Index := 0#32
  let c0_219 : Index := 0#32
  ![v316.toNat, 6, 0, 0]
def k0_off155 (i : grid0.Coords) (c2_i32_74 : BitVec 32) : Fin 4 → Nat :=
  let c0_233 : Index := 0#32
  let arg1 : BitVec 32 := BitVec.ofNat 32 (i 1).val
  let v129 : BitVec 32 := Scalar.subi arg1 c2_i32_74
  let v334 : Index := Scalar.indexCast v129
  let c256_234 : Index := 256#32
  let c0_235 : Index := 0#32
  ![0, v334.toNat, 256, 0]
def k0_mult152 (i : grid0.Coords) : BitVec 32 :=
  let arg1 : BitVec 32 := BitVec.ofNat 32 (i 1).val
  let c256_i32_246 : BitVec 32 := 256#32
  let v352 : BitVec 32 := Scalar.muli arg1 c256_i32_246
  v352
def k0_off156 (i : grid0.Coords) : Fin 2 → Nat :=
  let arg1 : BitVec 32 := BitVec.ofNat 32 (i 1).val
  let c256_i32_246 : BitVec 32 := 256#32
  let v352 : BitVec 32 := Scalar.muli arg1 c256_i32_246
  let v353 : BitVec 32 := v352
  let v354 : Index := Scalar.indexCast v353
  let c896 : Index := 896#32
  ![v354.toNat, 896]
def k0_off157 (i : grid0.Coords) : Fin 4 → Nat :=
  let arg1 : BitVec 32 := BitVec.ofNat 32 (i 1).val
  let c1_i32 : BitVec 32 := 1#32
  let v0 : BitVec 32 := Scalar.andi arg1 c1_i32
  let v356 : Index := Scalar.indexCast v0
  let c7_247 : Index := 7#32
  let c0_248 : Index := 0#32
  let c0_249 : Index := 0#32
  ![v356.toNat, 7, 0, 0]
def k0_off158 (i : grid0.Coords) (c2_i32_74 : BitVec 32) : Fin 4 → Nat :=
  let c0_263 : Index := 0#32
  let arg1 : BitVec 32 := BitVec.ofNat 32 (i 1).val
  let v129 : BitVec 32 := Scalar.subi arg1 c2_i32_74
  let v374 : Index := Scalar.indexCast v129
  let c320_264 : Index := 320#32
  let c0_265 : Index := 0#32
  ![0, v374.toNat, 320, 0]
def k0_off159 (i : grid0.Coords) (c2_i32_74 : BitVec 32) : Fin 4 → Nat :=
  let c0_284 : Index := 0#32
  let arg1 : BitVec 32 := BitVec.ofNat 32 (i 1).val
  let v129 : BitVec 32 := Scalar.subi arg1 c2_i32_74
  let v403 : Index := Scalar.indexCast v129
  let c384_285 : Index := 384#32
  let c0_286 : Index := 0#32
  ![0, v403.toNat, 384, 0]
def k0_off160 (i : grid0.Coords) (c2_i32_74 : BitVec 32) : Fin 4 → Nat :=
  let c0_305 : Index := 0#32
  let arg1 : BitVec 32 := BitVec.ofNat 32 (i 1).val
  let v129 : BitVec 32 := Scalar.subi arg1 c2_i32_74
  let v432 : Index := Scalar.indexCast v129
  let c448_306 : Index := 448#32
  let c0_307 : Index := 0#32
  ![0, v432.toNat, 448, 0]
def k0_mult153 : BitVec 32 :=
  let c0_i32_319 : BitVec 32 := 0#32
  c0_i32_319
def k0_off161 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v454 : Index := Scalar.indexCast v1
  let c0_321 : Index := 0#32
  let c0_322 : Index := 0#32
  let c0_323 : Index := 0#32
  ![v454.toNat, 0, 0, 0]
def k0_mult154 : BitVec 32 :=
  let c0_i32_329 : BitVec 32 := 0#32
  c0_i32_329
def k0_off162 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v464 : Index := Scalar.indexCast v1
  let c1_331 : Index := 1#32
  let c0_332 : Index := 0#32
  let c0_333 : Index := 0#32
  ![v464.toNat, 1, 0, 0]
def k0_mult155 : BitVec 32 :=
  let c0_i32_339 : BitVec 32 := 0#32
  c0_i32_339
def k0_off163 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v474 : Index := Scalar.indexCast v1
  let c2_341 : Index := 2#32
  let c0_342 : Index := 0#32
  let c0_343 : Index := 0#32
  ![v474.toNat, 2, 0, 0]
def k0_mult156 : BitVec 32 :=
  let c0_i32_373 : BitVec 32 := 0#32
  c0_i32_373
def k0_off164 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v516 : Index := Scalar.indexCast v1
  let c3_375 : Index := 3#32
  let c0_376 : Index := 0#32
  let c0_377 : Index := 0#32
  ![v516.toNat, 3, 0, 0]
def k0_mult157 : BitVec 32 :=
  let c0_i32_407 : BitVec 32 := 0#32
  c0_i32_407
def k0_off165 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v558 : Index := Scalar.indexCast v1
  let c4_409 : Index := 4#32
  let c0_410 : Index := 0#32
  let c0_411 : Index := 0#32
  ![v558.toNat, 4, 0, 0]
def k0_mult158 : BitVec 32 :=
  let c0_i32_441 : BitVec 32 := 0#32
  c0_i32_441
def k0_off166 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v600 : Index := Scalar.indexCast v1
  let c5_443 : Index := 5#32
  let c0_444 : Index := 0#32
  let c0_445 : Index := 0#32
  ![v600.toNat, 5, 0, 0]
def k0_mult159 : BitVec 32 :=
  let c0_i32_475 : BitVec 32 := 0#32
  c0_i32_475
def k0_off167 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v642 : Index := Scalar.indexCast v1
  let c6_477 : Index := 6#32
  let c0_478 : Index := 0#32
  let c0_479 : Index := 0#32
  ![v642.toNat, 6, 0, 0]
def k0_mult160 : BitVec 32 :=
  let c0_i32_509 : BitVec 32 := 0#32
  c0_i32_509
def k0_off168 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v684 : Index := Scalar.indexCast v1
  let c7_511 : Index := 7#32
  let c0_512 : Index := 0#32
  let c0_513 : Index := 0#32
  ![v684.toNat, 7, 0, 0]
def k0_mult161 : BitVec 32 :=
  let c256_i32_591 : BitVec 32 := 256#32
  c256_i32_591
def k0_mult162 : BitVec 32 :=
  let c256_i32_601 : BitVec 32 := 256#32
  c256_i32_601
def k0_mult163 : BitVec 32 :=
  let c256_i32_611 : BitVec 32 := 256#32
  c256_i32_611
def k0_off169 (i : grid0.Coords) : Fin 4 → Nat :=
  let c0_641 : Index := 0#32
  let arg1 : BitVec 32 := BitVec.ofNat 32 (i 1).val
  let v850 : Index := Scalar.indexCast arg1
  let c0_642 : Index := 0#32
  let c0_643 : Index := 0#32
  ![0, v850.toNat, 0, 0]
def k0_mult164 : BitVec 32 :=
  let c256_i32_654 : BitVec 32 := 256#32
  c256_i32_654
def k0_off170 (i : grid0.Coords) : Fin 4 → Nat :=
  let c0_684 : Index := 0#32
  let arg1 : BitVec 32 := BitVec.ofNat 32 (i 1).val
  let v911 : Index := Scalar.indexCast arg1
  let c64_685 : Index := 64#32
  let c0_686 : Index := 0#32
  ![0, v911.toNat, 64, 0]
def k0_mult165 : BitVec 32 :=
  let c256_i32_697 : BitVec 32 := 256#32
  c256_i32_697
def k0_off171 (i : grid0.Coords) : Fin 4 → Nat :=
  let c0_727 : Index := 0#32
  let arg1 : BitVec 32 := BitVec.ofNat 32 (i 1).val
  let v972 : Index := Scalar.indexCast arg1
  let c128_728 : Index := 128#32
  let c0_729 : Index := 0#32
  ![0, v972.toNat, 128, 0]
def k0_mult166 : BitVec 32 :=
  let c256_i32_740 : BitVec 32 := 256#32
  c256_i32_740
def k0_off172 (i : grid0.Coords) : Fin 4 → Nat :=
  let c0_770 : Index := 0#32
  let arg1 : BitVec 32 := BitVec.ofNat 32 (i 1).val
  let v1033 : Index := Scalar.indexCast arg1
  let c192_771 : Index := 192#32
  let c0_772 : Index := 0#32
  ![0, v1033.toNat, 192, 0]
def k0_mult167 : BitVec 32 :=
  let c256_i32_783 : BitVec 32 := 256#32
  c256_i32_783
def k0_off173 (i : grid0.Coords) : Fin 4 → Nat :=
  let c0_813 : Index := 0#32
  let arg1 : BitVec 32 := BitVec.ofNat 32 (i 1).val
  let v1094 : Index := Scalar.indexCast arg1
  let c256_814 : Index := 256#32
  let c0_815 : Index := 0#32
  ![0, v1094.toNat, 256, 0]
def k0_mult168 : BitVec 32 :=
  let c256_i32_826 : BitVec 32 := 256#32
  c256_i32_826
def k0_off174 (i : grid0.Coords) : Fin 4 → Nat :=
  let c0_856 : Index := 0#32
  let arg1 : BitVec 32 := BitVec.ofNat 32 (i 1).val
  let v1155 : Index := Scalar.indexCast arg1
  let c320_857 : Index := 320#32
  let c0_858 : Index := 0#32
  ![0, v1155.toNat, 320, 0]
def k0_off175 (i : grid0.Coords) : Fin 4 → Nat :=
  let c0_889 : Index := 0#32
  let arg1 : BitVec 32 := BitVec.ofNat 32 (i 1).val
  let v1206 : Index := Scalar.indexCast arg1
  let c384_890 : Index := 384#32
  let c0_891 : Index := 0#32
  ![0, v1206.toNat, 384, 0]
def k0_off176 (i : grid0.Coords) : Fin 4 → Nat :=
  let c0_922 : Index := 0#32
  let arg1 : BitVec 32 := BitVec.ofNat 32 (i 1).val
  let v1257 : Index := Scalar.indexCast arg1
  let c448_923 : Index := 448#32
  let c0_924 : Index := 0#32
  ![0, v1257.toNat, 448, 0]
def k0_cond8 (i : grid0.Coords) : BitVec 1 :=
  let arg1 : BitVec 32 := BitVec.ofNat 32 (i 1).val
  let c3_i32_23 : BitVec 32 := 3#32
  let v35 : BitVec 1 := Scalar.cmpi .sge arg1 c3_i32_23
  let c1_i32_24 : BitVec 32 := 1#32
  let v36 : BitVec 32 := Scalar.subi arg1 c1_i32_24
  let c3_i32_25 : BitVec 32 := 3#32
  let c3_i32_15 : BitVec 32 := 3#32
  let v27 : BitVec 32 := Scalar.subi arg1 c3_i32_15
  let c0_i32_16 : BitVec 32 := 0#32
  let v28 : BitVec 32 := Scalar.maxsi v27 c0_i32_16
  let c3_i32_17 : BitVec 32 := 3#32
  let v29 : BitVec 32 := Scalar.divsi v28 c3_i32_17
  let v37 : BitVec 32 := Scalar.muli c3_i32_25 v29
  let v38 : BitVec 32 := Scalar.subi v36 v37
  let c0_i32_26 : BitVec 32 := 0#32
  let v39 : BitVec 32 := Scalar.select v35 v38 c0_i32_26
  let c4_i32 : BitVec 32 := 4#32
  let v46 : BitVec 1 := Scalar.cmpi .eq v39 c4_i32
  let v47 : BitVec 32 := Scalar.extui v46
  let c0_i32_31 : BitVec 32 := 0#32
  let v48 : BitVec 1 := Scalar.cmpi .ne v47 c0_i32_31
  v48

def k0_mult169 (i : grid0.Coords) : BitVec 32 :=
  let arg1 : BitVec 32 := BitVec.ofNat 32 (i 1).val
  let c1_i32_75 : BitVec 32 := 1#32
  let v130 : BitVec 32 := Scalar.subi arg1 c1_i32_75
  let c256_i32 : BitVec 32 := 256#32
  let v131 : BitVec 32 := Scalar.muli v130 c256_i32
  v131
def k0_off177 (i : grid0.Coords) : Fin 2 → Nat :=
  let arg1 : BitVec 32 := BitVec.ofNat 32 (i 1).val
  let c1_i32_75 : BitVec 32 := 1#32
  let v130 : BitVec 32 := Scalar.subi arg1 c1_i32_75
  let c256_i32 : BitVec 32 := 256#32
  let v131 : BitVec 32 := Scalar.muli v130 c256_i32
  let v132 : BitVec 32 := v131
  let v133 : Index := Scalar.indexCast v132
  let c0_76 : Index := 0#32
  ![v133.toNat, 0]
def k0_off178 (i : grid0.Coords) : Fin 4 → Nat :=
  let arg1 : BitVec 32 := BitVec.ofNat 32 (i 1).val
  let c1_i32 : BitVec 32 := 1#32
  let v0 : BitVec 32 := Scalar.andi arg1 c1_i32
  let v135 : Index := Scalar.indexCast v0
  let c0_77 : Index := 0#32
  let c0_78 : Index := 0#32
  let c0_79 : Index := 0#32
  ![v135.toNat, 0, 0, 0]
def k0_mult170 (i : grid0.Coords) : BitVec 32 :=
  let arg1 : BitVec 32 := BitVec.ofNat 32 (i 1).val
  let c1_i32_75 : BitVec 32 := 1#32
  let v130 : BitVec 32 := Scalar.subi arg1 c1_i32_75
  let c256_i32_85 : BitVec 32 := 256#32
  let v142 : BitVec 32 := Scalar.muli v130 c256_i32_85
  v142
def k0_off179 (i : grid0.Coords) : Fin 2 → Nat :=
  let arg1 : BitVec 32 := BitVec.ofNat 32 (i 1).val
  let c1_i32_75 : BitVec 32 := 1#32
  let v130 : BitVec 32 := Scalar.subi arg1 c1_i32_75
  let c256_i32_85 : BitVec 32 := 256#32
  let v142 : BitVec 32 := Scalar.muli v130 c256_i32_85
  let v143 : BitVec 32 := v142
  let v144 : Index := Scalar.indexCast v143
  let c128_86 : Index := 128#32
  ![v144.toNat, 128]
def k0_off180 (i : grid0.Coords) : Fin 4 → Nat :=
  let arg1 : BitVec 32 := BitVec.ofNat 32 (i 1).val
  let c1_i32 : BitVec 32 := 1#32
  let v0 : BitVec 32 := Scalar.andi arg1 c1_i32
  let v146 : Index := Scalar.indexCast v0
  let c1_87 : Index := 1#32
  let c0_88 : Index := 0#32
  let c0_89 : Index := 0#32
  ![v146.toNat, 1, 0, 0]
def k0_mult171 (i : grid0.Coords) : BitVec 32 :=
  let arg1 : BitVec 32 := BitVec.ofNat 32 (i 1).val
  let c1_i32_75 : BitVec 32 := 1#32
  let v130 : BitVec 32 := Scalar.subi arg1 c1_i32_75
  let c256_i32_95 : BitVec 32 := 256#32
  let v153 : BitVec 32 := Scalar.muli v130 c256_i32_95
  v153
def k0_off181 (i : grid0.Coords) : Fin 2 → Nat :=
  let arg1 : BitVec 32 := BitVec.ofNat 32 (i 1).val
  let c1_i32_75 : BitVec 32 := 1#32
  let v130 : BitVec 32 := Scalar.subi arg1 c1_i32_75
  let c256_i32_95 : BitVec 32 := 256#32
  let v153 : BitVec 32 := Scalar.muli v130 c256_i32_95
  let v154 : BitVec 32 := v153
  let v155 : Index := Scalar.indexCast v154
  let c256_96 : Index := 256#32
  ![v155.toNat, 256]
def k0_off182 (i : grid0.Coords) : Fin 4 → Nat :=
  let arg1 : BitVec 32 := BitVec.ofNat 32 (i 1).val
  let c1_i32 : BitVec 32 := 1#32
  let v0 : BitVec 32 := Scalar.andi arg1 c1_i32
  let v157 : Index := Scalar.indexCast v0
  let c2_97 : Index := 2#32
  let c0_98 : Index := 0#32
  let c0_99 : Index := 0#32
  ![v157.toNat, 2, 0, 0]
def k0_off183 (i : grid0.Coords) (c3_i32_74 : BitVec 32) : Fin 4 → Nat :=
  let c0_113 : Index := 0#32
  let arg1 : BitVec 32 := BitVec.ofNat 32 (i 1).val
  let v129 : BitVec 32 := Scalar.subi arg1 c3_i32_74
  let v175 : Index := Scalar.indexCast v129
  let c0_114 : Index := 0#32
  let c0_115 : Index := 0#32
  ![0, v175.toNat, 0, 0]
def k0_mult172 (i : grid0.Coords) : BitVec 32 :=
  let arg1 : BitVec 32 := BitVec.ofNat 32 (i 1).val
  let c1_i32_75 : BitVec 32 := 1#32
  let v130 : BitVec 32 := Scalar.subi arg1 c1_i32_75
  let c256_i32_126 : BitVec 32 := 256#32
  let v193 : BitVec 32 := Scalar.muli v130 c256_i32_126
  v193
def k0_off184 (i : grid0.Coords) : Fin 2 → Nat :=
  let arg1 : BitVec 32 := BitVec.ofNat 32 (i 1).val
  let c1_i32_75 : BitVec 32 := 1#32
  let v130 : BitVec 32 := Scalar.subi arg1 c1_i32_75
  let c256_i32_126 : BitVec 32 := 256#32
  let v193 : BitVec 32 := Scalar.muli v130 c256_i32_126
  let v194 : BitVec 32 := v193
  let v195 : Index := Scalar.indexCast v194
  let c384_127 : Index := 384#32
  ![v195.toNat, 384]
def k0_off185 (i : grid0.Coords) : Fin 4 → Nat :=
  let arg1 : BitVec 32 := BitVec.ofNat 32 (i 1).val
  let c1_i32 : BitVec 32 := 1#32
  let v0 : BitVec 32 := Scalar.andi arg1 c1_i32
  let v197 : Index := Scalar.indexCast v0
  let c3_128 : Index := 3#32
  let c0_129 : Index := 0#32
  let c0_130 : Index := 0#32
  ![v197.toNat, 3, 0, 0]
def k0_off186 (i : grid0.Coords) (c3_i32_74 : BitVec 32) : Fin 4 → Nat :=
  let c0_144 : Index := 0#32
  let arg1 : BitVec 32 := BitVec.ofNat 32 (i 1).val
  let v129 : BitVec 32 := Scalar.subi arg1 c3_i32_74
  let v215 : Index := Scalar.indexCast v129
  let c64_145 : Index := 64#32
  let c0_146 : Index := 0#32
  ![0, v215.toNat, 64, 0]
def k0_mult173 (i : grid0.Coords) : BitVec 32 :=
  let arg1 : BitVec 32 := BitVec.ofNat 32 (i 1).val
  let c1_i32_75 : BitVec 32 := 1#32
  let v130 : BitVec 32 := Scalar.subi arg1 c1_i32_75
  let c256_i32_157 : BitVec 32 := 256#32
  let v233 : BitVec 32 := Scalar.muli v130 c256_i32_157
  v233
def k0_off187 (i : grid0.Coords) : Fin 2 → Nat :=
  let arg1 : BitVec 32 := BitVec.ofNat 32 (i 1).val
  let c1_i32_75 : BitVec 32 := 1#32
  let v130 : BitVec 32 := Scalar.subi arg1 c1_i32_75
  let c256_i32_157 : BitVec 32 := 256#32
  let v233 : BitVec 32 := Scalar.muli v130 c256_i32_157
  let v234 : BitVec 32 := v233
  let v235 : Index := Scalar.indexCast v234
  let c512 : Index := 512#32
  ![v235.toNat, 512]
def k0_off188 (i : grid0.Coords) : Fin 4 → Nat :=
  let arg1 : BitVec 32 := BitVec.ofNat 32 (i 1).val
  let c1_i32 : BitVec 32 := 1#32
  let v0 : BitVec 32 := Scalar.andi arg1 c1_i32
  let v237 : Index := Scalar.indexCast v0
  let c4_158 : Index := 4#32
  let c0_159 : Index := 0#32
  let c0_160 : Index := 0#32
  ![v237.toNat, 4, 0, 0]
def k0_off189 (i : grid0.Coords) (c3_i32_74 : BitVec 32) : Fin 4 → Nat :=
  let c0_174 : Index := 0#32
  let arg1 : BitVec 32 := BitVec.ofNat 32 (i 1).val
  let v129 : BitVec 32 := Scalar.subi arg1 c3_i32_74
  let v255 : Index := Scalar.indexCast v129
  let c128_175 : Index := 128#32
  let c0_176 : Index := 0#32
  ![0, v255.toNat, 128, 0]
def k0_mult174 (i : grid0.Coords) : BitVec 32 :=
  let arg1 : BitVec 32 := BitVec.ofNat 32 (i 1).val
  let c1_i32_75 : BitVec 32 := 1#32
  let v130 : BitVec 32 := Scalar.subi arg1 c1_i32_75
  let c256_i32_187 : BitVec 32 := 256#32
  let v273 : BitVec 32 := Scalar.muli v130 c256_i32_187
  v273
def k0_off190 (i : grid0.Coords) : Fin 2 → Nat :=
  let arg1 : BitVec 32 := BitVec.ofNat 32 (i 1).val
  let c1_i32_75 : BitVec 32 := 1#32
  let v130 : BitVec 32 := Scalar.subi arg1 c1_i32_75
  let c256_i32_187 : BitVec 32 := 256#32
  let v273 : BitVec 32 := Scalar.muli v130 c256_i32_187
  let v274 : BitVec 32 := v273
  let v275 : Index := Scalar.indexCast v274
  let c640 : Index := 640#32
  ![v275.toNat, 640]
def k0_off191 (i : grid0.Coords) : Fin 4 → Nat :=
  let arg1 : BitVec 32 := BitVec.ofNat 32 (i 1).val
  let c1_i32 : BitVec 32 := 1#32
  let v0 : BitVec 32 := Scalar.andi arg1 c1_i32
  let v277 : Index := Scalar.indexCast v0
  let c5_188 : Index := 5#32
  let c0_189 : Index := 0#32
  let c0_190 : Index := 0#32
  ![v277.toNat, 5, 0, 0]
def k0_off192 (i : grid0.Coords) (c3_i32_74 : BitVec 32) : Fin 4 → Nat :=
  let c0_204 : Index := 0#32
  let arg1 : BitVec 32 := BitVec.ofNat 32 (i 1).val
  let v129 : BitVec 32 := Scalar.subi arg1 c3_i32_74
  let v295 : Index := Scalar.indexCast v129
  let c192_205 : Index := 192#32
  let c0_206 : Index := 0#32
  ![0, v295.toNat, 192, 0]
def k0_mult175 (i : grid0.Coords) : BitVec 32 :=
  let arg1 : BitVec 32 := BitVec.ofNat 32 (i 1).val
  let c1_i32_75 : BitVec 32 := 1#32
  let v130 : BitVec 32 := Scalar.subi arg1 c1_i32_75
  let c256_i32_217 : BitVec 32 := 256#32
  let v313 : BitVec 32 := Scalar.muli v130 c256_i32_217
  v313
def k0_off193 (i : grid0.Coords) : Fin 2 → Nat :=
  let arg1 : BitVec 32 := BitVec.ofNat 32 (i 1).val
  let c1_i32_75 : BitVec 32 := 1#32
  let v130 : BitVec 32 := Scalar.subi arg1 c1_i32_75
  let c256_i32_217 : BitVec 32 := 256#32
  let v313 : BitVec 32 := Scalar.muli v130 c256_i32_217
  let v314 : BitVec 32 := v313
  let v315 : Index := Scalar.indexCast v314
  let c768 : Index := 768#32
  ![v315.toNat, 768]
def k0_off194 (i : grid0.Coords) : Fin 4 → Nat :=
  let arg1 : BitVec 32 := BitVec.ofNat 32 (i 1).val
  let c1_i32 : BitVec 32 := 1#32
  let v0 : BitVec 32 := Scalar.andi arg1 c1_i32
  let v317 : Index := Scalar.indexCast v0
  let c6_218 : Index := 6#32
  let c0_219 : Index := 0#32
  let c0_220 : Index := 0#32
  ![v317.toNat, 6, 0, 0]
def k0_off195 (i : grid0.Coords) (c3_i32_74 : BitVec 32) : Fin 4 → Nat :=
  let c0_234 : Index := 0#32
  let arg1 : BitVec 32 := BitVec.ofNat 32 (i 1).val
  let v129 : BitVec 32 := Scalar.subi arg1 c3_i32_74
  let v335 : Index := Scalar.indexCast v129
  let c256_235 : Index := 256#32
  let c0_236 : Index := 0#32
  ![0, v335.toNat, 256, 0]
def k0_mult176 (i : grid0.Coords) : BitVec 32 :=
  let arg1 : BitVec 32 := BitVec.ofNat 32 (i 1).val
  let c1_i32_75 : BitVec 32 := 1#32
  let v130 : BitVec 32 := Scalar.subi arg1 c1_i32_75
  let c256_i32_247 : BitVec 32 := 256#32
  let v353 : BitVec 32 := Scalar.muli v130 c256_i32_247
  v353
def k0_off196 (i : grid0.Coords) : Fin 2 → Nat :=
  let arg1 : BitVec 32 := BitVec.ofNat 32 (i 1).val
  let c1_i32_75 : BitVec 32 := 1#32
  let v130 : BitVec 32 := Scalar.subi arg1 c1_i32_75
  let c256_i32_247 : BitVec 32 := 256#32
  let v353 : BitVec 32 := Scalar.muli v130 c256_i32_247
  let v354 : BitVec 32 := v353
  let v355 : Index := Scalar.indexCast v354
  let c896 : Index := 896#32
  ![v355.toNat, 896]
def k0_off197 (i : grid0.Coords) : Fin 4 → Nat :=
  let arg1 : BitVec 32 := BitVec.ofNat 32 (i 1).val
  let c1_i32 : BitVec 32 := 1#32
  let v0 : BitVec 32 := Scalar.andi arg1 c1_i32
  let v357 : Index := Scalar.indexCast v0
  let c7_248 : Index := 7#32
  let c0_249 : Index := 0#32
  let c0_250 : Index := 0#32
  ![v357.toNat, 7, 0, 0]
def k0_off198 (i : grid0.Coords) (c3_i32_74 : BitVec 32) : Fin 4 → Nat :=
  let c0_264 : Index := 0#32
  let arg1 : BitVec 32 := BitVec.ofNat 32 (i 1).val
  let v129 : BitVec 32 := Scalar.subi arg1 c3_i32_74
  let v375 : Index := Scalar.indexCast v129
  let c320_265 : Index := 320#32
  let c0_266 : Index := 0#32
  ![0, v375.toNat, 320, 0]
def k0_off199 (i : grid0.Coords) (c3_i32_74 : BitVec 32) : Fin 4 → Nat :=
  let c0_285 : Index := 0#32
  let arg1 : BitVec 32 := BitVec.ofNat 32 (i 1).val
  let v129 : BitVec 32 := Scalar.subi arg1 c3_i32_74
  let v404 : Index := Scalar.indexCast v129
  let c384_286 : Index := 384#32
  let c0_287 : Index := 0#32
  ![0, v404.toNat, 384, 0]
def k0_off200 (i : grid0.Coords) (c3_i32_74 : BitVec 32) : Fin 4 → Nat :=
  let c0_306 : Index := 0#32
  let arg1 : BitVec 32 := BitVec.ofNat 32 (i 1).val
  let v129 : BitVec 32 := Scalar.subi arg1 c3_i32_74
  let v433 : Index := Scalar.indexCast v129
  let c448_307 : Index := 448#32
  let c0_308 : Index := 0#32
  ![0, v433.toNat, 448, 0]
def k0_mult177 (i : grid0.Coords) : BitVec 32 :=
  let arg1 : BitVec 32 := BitVec.ofNat 32 (i 1).val
  let c256_i32_320 : BitVec 32 := 256#32
  let v452 : BitVec 32 := Scalar.muli arg1 c256_i32_320
  v452
def k0_off201 (i : grid0.Coords) : Fin 2 → Nat :=
  let arg1 : BitVec 32 := BitVec.ofNat 32 (i 1).val
  let c256_i32_320 : BitVec 32 := 256#32
  let v452 : BitVec 32 := Scalar.muli arg1 c256_i32_320
  let v453 : BitVec 32 := v452
  let v454 : Index := Scalar.indexCast v453
  let c0_321 : Index := 0#32
  ![v454.toNat, 0]
def k0_mult178 (i : grid0.Coords) : BitVec 32 :=
  let arg1 : BitVec 32 := BitVec.ofNat 32 (i 1).val
  let c256_i32_330 : BitVec 32 := 256#32
  let v463 : BitVec 32 := Scalar.muli arg1 c256_i32_330
  v463
def k0_off202 (i : grid0.Coords) : Fin 2 → Nat :=
  let arg1 : BitVec 32 := BitVec.ofNat 32 (i 1).val
  let c256_i32_330 : BitVec 32 := 256#32
  let v463 : BitVec 32 := Scalar.muli arg1 c256_i32_330
  let v464 : BitVec 32 := v463
  let v465 : Index := Scalar.indexCast v464
  let c128_331 : Index := 128#32
  ![v465.toNat, 128]
def k0_mult179 (i : grid0.Coords) : BitVec 32 :=
  let arg1 : BitVec 32 := BitVec.ofNat 32 (i 1).val
  let c256_i32_340 : BitVec 32 := 256#32
  let v474 : BitVec 32 := Scalar.muli arg1 c256_i32_340
  v474
def k0_off203 (i : grid0.Coords) : Fin 2 → Nat :=
  let arg1 : BitVec 32 := BitVec.ofNat 32 (i 1).val
  let c256_i32_340 : BitVec 32 := 256#32
  let v474 : BitVec 32 := Scalar.muli arg1 c256_i32_340
  let v475 : BitVec 32 := v474
  let v476 : Index := Scalar.indexCast v475
  let c256_341 : Index := 256#32
  ![v476.toNat, 256]
def k0_mult180 (i : grid0.Coords) : BitVec 32 :=
  let arg1 : BitVec 32 := BitVec.ofNat 32 (i 1).val
  let c256_i32_371 : BitVec 32 := 256#32
  let v514 : BitVec 32 := Scalar.muli arg1 c256_i32_371
  v514
def k0_off204 (i : grid0.Coords) : Fin 2 → Nat :=
  let arg1 : BitVec 32 := BitVec.ofNat 32 (i 1).val
  let c256_i32_371 : BitVec 32 := 256#32
  let v514 : BitVec 32 := Scalar.muli arg1 c256_i32_371
  let v515 : BitVec 32 := v514
  let v516 : Index := Scalar.indexCast v515
  let c384_372 : Index := 384#32
  ![v516.toNat, 384]
def k0_mult181 (i : grid0.Coords) : BitVec 32 :=
  let arg1 : BitVec 32 := BitVec.ofNat 32 (i 1).val
  let c256_i32_402 : BitVec 32 := 256#32
  let v554 : BitVec 32 := Scalar.muli arg1 c256_i32_402
  v554
def k0_off205 (i : grid0.Coords) : Fin 2 → Nat :=
  let arg1 : BitVec 32 := BitVec.ofNat 32 (i 1).val
  let c256_i32_402 : BitVec 32 := 256#32
  let v554 : BitVec 32 := Scalar.muli arg1 c256_i32_402
  let v555 : BitVec 32 := v554
  let v556 : Index := Scalar.indexCast v555
  let c512_403 : Index := 512#32
  ![v556.toNat, 512]
def k0_mult182 (i : grid0.Coords) : BitVec 32 :=
  let arg1 : BitVec 32 := BitVec.ofNat 32 (i 1).val
  let c256_i32_433 : BitVec 32 := 256#32
  let v594 : BitVec 32 := Scalar.muli arg1 c256_i32_433
  v594
def k0_off206 (i : grid0.Coords) : Fin 2 → Nat :=
  let arg1 : BitVec 32 := BitVec.ofNat 32 (i 1).val
  let c256_i32_433 : BitVec 32 := 256#32
  let v594 : BitVec 32 := Scalar.muli arg1 c256_i32_433
  let v595 : BitVec 32 := v594
  let v596 : Index := Scalar.indexCast v595
  let c640_434 : Index := 640#32
  ![v596.toNat, 640]
def k0_mult183 (i : grid0.Coords) : BitVec 32 :=
  let arg1 : BitVec 32 := BitVec.ofNat 32 (i 1).val
  let c256_i32_464 : BitVec 32 := 256#32
  let v634 : BitVec 32 := Scalar.muli arg1 c256_i32_464
  v634
def k0_off207 (i : grid0.Coords) : Fin 2 → Nat :=
  let arg1 : BitVec 32 := BitVec.ofNat 32 (i 1).val
  let c256_i32_464 : BitVec 32 := 256#32
  let v634 : BitVec 32 := Scalar.muli arg1 c256_i32_464
  let v635 : BitVec 32 := v634
  let v636 : Index := Scalar.indexCast v635
  let c768_465 : Index := 768#32
  ![v636.toNat, 768]
def k0_mult184 (i : grid0.Coords) : BitVec 32 :=
  let arg1 : BitVec 32 := BitVec.ofNat 32 (i 1).val
  let c256_i32_495 : BitVec 32 := 256#32
  let v674 : BitVec 32 := Scalar.muli arg1 c256_i32_495
  v674
def k0_off208 (i : grid0.Coords) : Fin 2 → Nat :=
  let arg1 : BitVec 32 := BitVec.ofNat 32 (i 1).val
  let c256_i32_495 : BitVec 32 := 256#32
  let v674 : BitVec 32 := Scalar.muli arg1 c256_i32_495
  let v675 : BitVec 32 := v674
  let v676 : Index := Scalar.indexCast v675
  let c896_496 : Index := 896#32
  ![v676.toNat, 896]
def k0_mult185 : BitVec 32 :=
  let c0_i32_569 : BitVec 32 := 0#32
  c0_i32_569
def k0_off209 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v776 : Index := Scalar.indexCast v1
  let c0_571 : Index := 0#32
  let c0_572 : Index := 0#32
  let c0_573 : Index := 0#32
  ![v776.toNat, 0, 0, 0]
def k0_mult186 : BitVec 32 :=
  let c0_i32_579 : BitVec 32 := 0#32
  c0_i32_579
def k0_off210 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v786 : Index := Scalar.indexCast v1
  let c1_581 : Index := 1#32
  let c0_582 : Index := 0#32
  let c0_583 : Index := 0#32
  ![v786.toNat, 1, 0, 0]
def k0_mult187 : BitVec 32 :=
  let c0_i32_589 : BitVec 32 := 0#32
  c0_i32_589
def k0_off211 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v796 : Index := Scalar.indexCast v1
  let c2_591 : Index := 2#32
  let c0_592 : Index := 0#32
  let c0_593 : Index := 0#32
  ![v796.toNat, 2, 0, 0]
def k0_mult188 : BitVec 32 :=
  let c0_i32_623 : BitVec 32 := 0#32
  c0_i32_623
def k0_off212 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v838 : Index := Scalar.indexCast v1
  let c3_625 : Index := 3#32
  let c0_626 : Index := 0#32
  let c0_627 : Index := 0#32
  ![v838.toNat, 3, 0, 0]
def k0_mult189 : BitVec 32 :=
  let c0_i32_657 : BitVec 32 := 0#32
  c0_i32_657
def k0_off213 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v880 : Index := Scalar.indexCast v1
  let c4_659 : Index := 4#32
  let c0_660 : Index := 0#32
  let c0_661 : Index := 0#32
  ![v880.toNat, 4, 0, 0]
def k0_mult190 : BitVec 32 :=
  let c0_i32_691 : BitVec 32 := 0#32
  c0_i32_691
def k0_off214 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v922 : Index := Scalar.indexCast v1
  let c5_693 : Index := 5#32
  let c0_694 : Index := 0#32
  let c0_695 : Index := 0#32
  ![v922.toNat, 5, 0, 0]
def k0_mult191 : BitVec 32 :=
  let c0_i32_725 : BitVec 32 := 0#32
  c0_i32_725
def k0_off215 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v964 : Index := Scalar.indexCast v1
  let c6_727 : Index := 6#32
  let c0_728 : Index := 0#32
  let c0_729 : Index := 0#32
  ![v964.toNat, 6, 0, 0]
def k0_mult192 : BitVec 32 :=
  let c0_i32_759 : BitVec 32 := 0#32
  c0_i32_759
def k0_off216 (i : grid0.Coords) : Fin 4 → Nat :=
  let c1_i32_0 : BitVec 32 := 1#32
  let arg1 : BitVec 32 := BitVec.ofNat 32 (i 1).val
  let c1_i32 : BitVec 32 := 1#32
  let v0 : BitVec 32 := Scalar.andi arg1 c1_i32
  let v1 : BitVec 32 := Scalar.subi c1_i32_0 v0
  let v1006 : Index := Scalar.indexCast v1
  let c7_761 : Index := 7#32
  let c0_762 : Index := 0#32
  let c0_763 : Index := 0#32
  ![v1006.toNat, 7, 0, 0]
def k0_mult193 : BitVec 32 :=
  let c256_i32_841 : BitVec 32 := 256#32
  c256_i32_841
def k0_mult194 : BitVec 32 :=
  let c256_i32_851 : BitVec 32 := 256#32
  c256_i32_851
def k0_mult195 : BitVec 32 :=
  let c256_i32_861 : BitVec 32 := 256#32
  c256_i32_861
def k0_off217 (i : grid0.Coords) : Fin 4 → Nat :=
  let c0_891 : Index := 0#32
  let arg1 : BitVec 32 := BitVec.ofNat 32 (i 1).val
  let v1172 : Index := Scalar.indexCast arg1
  let c0_892 : Index := 0#32
  let c0_893 : Index := 0#32
  ![0, v1172.toNat, 0, 0]
def k0_mult196 : BitVec 32 :=
  let c256_i32_904 : BitVec 32 := 256#32
  c256_i32_904
def k0_off218 (i : grid0.Coords) : Fin 4 → Nat :=
  let c0_934 : Index := 0#32
  let arg1 : BitVec 32 := BitVec.ofNat 32 (i 1).val
  let v1233 : Index := Scalar.indexCast arg1
  let c64_935 : Index := 64#32
  let c0_936 : Index := 0#32
  ![0, v1233.toNat, 64, 0]
def k0_mult197 : BitVec 32 :=
  let c256_i32_947 : BitVec 32 := 256#32
  c256_i32_947
def k0_off219 (i : grid0.Coords) : Fin 4 → Nat :=
  let c0_977 : Index := 0#32
  let arg1 : BitVec 32 := BitVec.ofNat 32 (i 1).val
  let v1294 : Index := Scalar.indexCast arg1
  let c128_978 : Index := 128#32
  let c0_979 : Index := 0#32
  ![0, v1294.toNat, 128, 0]
def k0_mult198 : BitVec 32 :=
  let c256_i32_990 : BitVec 32 := 256#32
  c256_i32_990
def k0_off220 (i : grid0.Coords) : Fin 4 → Nat :=
  let c0_1020 : Index := 0#32
  let arg1 : BitVec 32 := BitVec.ofNat 32 (i 1).val
  let v1355 : Index := Scalar.indexCast arg1
  let c192_1021 : Index := 192#32
  let c0_1022 : Index := 0#32
  ![0, v1355.toNat, 192, 0]
def k0_mult199 : BitVec 32 :=
  let c256_i32_1033 : BitVec 32 := 256#32
  c256_i32_1033
def k0_off221 (i : grid0.Coords) : Fin 4 → Nat :=
  let c0_1063 : Index := 0#32
  let arg1 : BitVec 32 := BitVec.ofNat 32 (i 1).val
  let v1416 : Index := Scalar.indexCast arg1
  let c256_1064 : Index := 256#32
  let c0_1065 : Index := 0#32
  ![0, v1416.toNat, 256, 0]
def k0_mult200 : BitVec 32 :=
  let c256_i32_1076 : BitVec 32 := 256#32
  c256_i32_1076
def k0_off222 (i : grid0.Coords) : Fin 4 → Nat :=
  let c0_1106 : Index := 0#32
  let arg1 : BitVec 32 := BitVec.ofNat 32 (i 1).val
  let v1477 : Index := Scalar.indexCast arg1
  let c320_1107 : Index := 320#32
  let c0_1108 : Index := 0#32
  ![0, v1477.toNat, 320, 0]
def k0_off223 (i : grid0.Coords) : Fin 4 → Nat :=
  let c0_1139 : Index := 0#32
  let arg1 : BitVec 32 := BitVec.ofNat 32 (i 1).val
  let v1528 : Index := Scalar.indexCast arg1
  let c384_1140 : Index := 384#32
  let c0_1141 : Index := 0#32
  ![0, v1528.toNat, 384, 0]
def k0_off224 (i : grid0.Coords) : Fin 4 → Nat :=
  let c0_1172 : Index := 0#32
  let arg1 : BitVec 32 := BitVec.ofNat 32 (i 1).val
  let v1579 : Index := Scalar.indexCast arg1
  let c448_1173 : Index := 448#32
  let c0_1174 : Index := 0#32
  ![0, v1579.toNat, 448, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Bias.lean ====
abbrev S8x32 : Shape := ⟨2, ![8, 32]⟩
abbrev S8x256x256 : Shape := ⟨3, ![8, 256, 256]⟩
abbrev S1x256x256 : Shape := ⟨3, ![1, 256, 256]⟩
abbrev S256x256 : Shape := ⟨2, ![256, 256]⟩
abbrev S1x1 : Shape := ⟨2, ![1, 1]⟩

abbrev nBuf : Space → Nat
  | .hbm => 3
  | .vmem => 4
  | .smem => 1
  | _ => 0

abbrev bufTy : (tb : Table) → Fin (tcTables nBuf tb) → BufTy
  | .hbm, ⟨0, _⟩ => ⟨S8x32, .f32⟩
  | .hbm, ⟨1, _⟩ => ⟨S8x256x256, .f32⟩
  | .hbm, ⟨2, _⟩ => ⟨S8x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .smem, ⟨0, _⟩ => ⟨S8x32, .f32⟩
  | _, _ => ⟨S8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v9 : Index := Scalar.indexCast arg0
  let c0 : Index := 0#32
  ![v9.toNat, 0]
def k0_off2 (i : grid0.Coords) : Fin 2 → Nat :=
  let arg0 : BitVec 32 := BitVec.ofNat 32 (i 0).val
  let v15 : Index := Scalar.indexCast arg0
  let c1 : Index := 1#32
  ![v15.toNat, 1]
def k0_off3 (i : grid0.Coords) : Fin 2 → Nat :=
  let arg0 : BitVec 32 := BitVec.ofNat 32 (i 0).val
  let v21 : Index := Scalar.indexCast arg0
  let c2 : Index := 2#32
  ![v21.toNat, 2]
def k0_off4 (i : grid0.Coords) : Fin 2 → Nat :=
  let arg0 : BitVec 32 := BitVec.ofNat 32 (i 0).val
  let v27 : Index := Scalar.indexCast arg0
  let c3 : Index := 3#32
  ![v27.toNat, 3]
def k0_off5 (i : grid0.Coords) : Fin 2 → Nat :=
  let arg0 : BitVec 32 := BitVec.ofNat 32 (i 0).val
  let v33 : Index := Scalar.indexCast arg0
  let c4 : Index := 4#32
  ![v33.toNat, 4]
def k0_off6 (i : grid0.Coords) : Fin 2 → Nat :=
  let arg0 : BitVec 32 := BitVec.ofNat 32 (i 0).val
  let v39 : Index := Scalar.indexCast arg0
  let c5 : Index := 5#32
  ![v39.toNat, 5]
def k0_off7 (i : grid0.Coords) : Fin 2 → Nat :=
  let arg0 : BitVec 32 := BitVec.ofNat 32 (i 0).val
  let v45 : Index := Scalar.indexCast arg0
  let c6 : Index := 6#32
  ![v45.toNat, 6]
def k0_off8 (i : grid0.Coords) : Fin 2 → Nat :=
  let arg0 : BitVec 32 := BitVec.ofNat 32 (i 0).val
  let v51 : Index := Scalar.indexCast arg0
  let c7 : Index := 7#32
  ![v51.toNat, 7]
def k0_off9 (i : grid0.Coords) : Fin 2 → Nat :=
  let arg0 : BitVec 32 := BitVec.ofNat 32 (i 0).val
  let v57 : Index := Scalar.indexCast arg0
  let c8 : Index := 8#32
  ![v57.toNat, 8]
def k0_off10 (i : grid0.Coords) : Fin 2 → Nat :=
  let arg0 : BitVec 32 := BitVec.ofNat 32 (i 0).val
  let v63 : Index := Scalar.indexCast arg0
  let c9 : Index := 9#32
  ![v63.toNat, 9]
def k0_off11 (i : grid0.Coords) : Fin 2 → Nat :=
  let arg0 : BitVec 32 := BitVec.ofNat 32 (i 0).val
  let v69 : Index := Scalar.indexCast arg0
  let c10 : Index := 10#32
  ![v69.toNat, 10]
def k0_off12 (i : grid0.Coords) : Fin 2 → Nat :=
  let arg0 : BitVec 32 := BitVec.ofNat 32 (i 0).val
  let v75 : Index := Scalar.indexCast arg0
  let c11 : Index := 11#32
  ![v75.toNat, 11]
def k0_off13 (i : grid0.Coords) : Fin 2 → Nat :=
  let arg0 : BitVec 32 := BitVec.ofNat 32 (i 0).val
  let v81 : Index := Scalar.indexCast arg0
  let c12 : Index := 12#32
  ![v81.toNat, 12]
def k0_off14 (i : grid0.Coords) : Fin 2 → Nat :=
  let arg0 : BitVec 32 := BitVec.ofNat 32 (i 0).val
  let v87 : Index := Scalar.indexCast arg0
  let c13 : Index := 13#32
  ![v87.toNat, 13]
def k0_off15 (i : grid0.Coords) : Fin 2 → Nat :=
  let arg0 : BitVec 32 := BitVec.ofNat 32 (i 0).val
  let v93 : Index := Scalar.indexCast arg0
  let c14 : Index := 14#32
  ![v93.toNat, 14]
def k0_off16 (i : grid0.Coords) : Fin 2 → Nat :=
  let arg0 : BitVec 32 := BitVec.ofNat 32 (i 0).val
  let v99 : Index := Scalar.indexCast arg0
  let c15 : Index := 15#32
  ![v99.toNat, 15]
def k0_off17 (i : grid0.Coords) : Fin 2 → Nat :=
  let arg0 : BitVec 32 := BitVec.ofNat 32 (i 0).val
  let v105 : Index := Scalar.indexCast arg0
  let c16 : Index := 16#32
  ![v105.toNat, 16]
def k0_off18 (i : grid0.Coords) : Fin 2 → Nat :=
  let arg0 : BitVec 32 := BitVec.ofNat 32 (i 0).val
  let v111 : Index := Scalar.indexCast arg0
  let c17 : Index := 17#32
  ![v111.toNat, 17]
def k0_off19 (i : grid0.Coords) : Fin 2 → Nat :=
  let arg0 : BitVec 32 := BitVec.ofNat 32 (i 0).val
  let v117 : Index := Scalar.indexCast arg0
  let c18 : Index := 18#32
  ![v117.toNat, 18]
def k0_off20 (i : grid0.Coords) : Fin 2 → Nat :=
  let arg0 : BitVec 32 := BitVec.ofNat 32 (i 0).val
  let v123 : Index := Scalar.indexCast arg0
  let c19 : Index := 19#32
  ![v123.toNat, 19]
def k0_off21 (i : grid0.Coords) : Fin 2 → Nat :=
  let arg0 : BitVec 32 := BitVec.ofNat 32 (i 0).val
  let v129 : Index := Scalar.indexCast arg0
  let c20 : Index := 20#32
  ![v129.toNat, 20]
def k0_off22 (i : grid0.Coords) : Fin 2 → Nat :=
  let arg0 : BitVec 32 := BitVec.ofNat 32 (i 0).val
  let v135 : Index := Scalar.indexCast arg0
  let c21 : Index := 21#32
  ![v135.toNat, 21]
def k0_off23 (i : grid0.Coords) : Fin 2 → Nat :=
  let arg0 : BitVec 32 := BitVec.ofNat 32 (i 0).val
  let v141 : Index := Scalar.indexCast arg0
  let c22 : Index := 22#32
  ![v141.toNat, 22]
def k0_off24 (i : grid0.Coords) : Fin 2 → Nat :=
  let arg0 : BitVec 32 := BitVec.ofNat 32 (i 0).val
  let v147 : Index := Scalar.indexCast arg0
  let c23 : Index := 23#32
  ![v147.toNat, 23]
def k0_off25 (i : grid0.Coords) : Fin 2 → Nat :=
  let arg0 : BitVec 32 := BitVec.ofNat 32 (i 0).val
  let v153 : Index := Scalar.indexCast arg0
  let c24 : Index := 24#32
  ![v153.toNat, 24]
def k0_off26 (i : grid0.Coords) : Fin 2 → Nat :=
  let arg0 : BitVec 32 := BitVec.ofNat 32 (i 0).val
  let v159 : Index := Scalar.indexCast arg0
  let c25 : Index := 25#32
  ![v159.toNat, 25]
def k0_off27 (i : grid0.Coords) : Fin 2 → Nat :=
  let arg0 : BitVec 32 := BitVec.ofNat 32 (i 0).val
  let v165 : Index := Scalar.indexCast arg0
  let c26 : Index := 26#32
  ![v165.toNat, 26]
def k0_off28 (i : grid0.Coords) : Fin 2 → Nat :=
  let arg0 : BitVec 32 := BitVec.ofNat 32 (i 0).val
  let v171 : Index := Scalar.indexCast arg0
  let c27 : Index := 27#32
  ![v171.toNat, 27]
def k0_off29 (i : grid0.Coords) : Fin 2 → Nat :=
  let arg0 : BitVec 32 := BitVec.ofNat 32 (i 0).val
  let v177 : Index := Scalar.indexCast arg0
  let c28 : Index := 28#32
  ![v177.toNat, 28]
def k0_off30 (i : grid0.Coords) : Fin 2 → Nat :=
  let arg0 : BitVec 32 := BitVec.ofNat 32 (i 0).val
  let v183 : Index := Scalar.indexCast arg0
  let c29 : Index := 29#32
  ![v183.toNat, 29]
def k0_off31 (i : grid0.Coords) : Fin 2 → Nat :=
  let arg0 : BitVec 32 := BitVec.ofNat 32 (i 0).val
  let v189 : Index := Scalar.indexCast arg0
  let c30 : Index := 30#32
  ![v189.toNat, 30]
def k0_off32 (i : grid0.Coords) : Fin 2 → Nat :=
  let arg0 : BitVec 32 := BitVec.ofNat 32 (i 0).val
  let v195 : Index := Scalar.indexCast arg0
  let c31 : Index := 31#32
  ![v195.toNat, 31]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasRefIdeal.lean ====
abbrev S8x32 : Shape := ⟨2, ![8, 32]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S256x256x1 : Shape := ⟨3, ![256, 256, 1]⟩
abbrev S8x256x256 : Shape := ⟨3, ![8, 256, 256]⟩
abbrev S1x256x256 : Shape := ⟨3, ![1, 256, 256]⟩

abbrev nBuf : Space → Nat
  | .hbm => 99
  | .vmem => 0
  | .smem => 0
  | _ => 0

abbrev bufTy : (tb : Table) → Fin (tcTables nBuf tb) → BufTy
  | .hbm, ⟨0, _⟩ => ⟨S8x32, .f32⟩
  | .hbm, ⟨1, _⟩ => ⟨S256, .i32⟩
  | .hbm, ⟨2, _⟩ => ⟨S1x256, .i32⟩
  | .hbm, ⟨3, _⟩ => ⟨S256x1, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S_, .i32⟩
  | .hbm, ⟨32, _⟩ => ⟨S256x256, .i32⟩
  | .hbm, ⟨33, _⟩ => ⟨S256x256, .i1⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i1⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S256x256x1, .i32⟩
  | .hbm, ⟨43, _⟩ => ⟨S8x256x256, .f32⟩
  | .hbm, ⟨44, _⟩ => ⟨S_, .i32⟩
  | .hbm, ⟨45, _⟩ => ⟨S256x256, .i32⟩
  | .hbm, ⟨46, _⟩ => ⟨S256x256, .i32⟩
  | .hbm, ⟨47, _⟩ => ⟨S_, .i32⟩
  | .hbm, ⟨48, _⟩ => ⟨S256x256, .i32⟩
  | .hbm, ⟨49, _⟩ => ⟨S256x256, .i32⟩
  | .hbm, ⟨50, _⟩ => ⟨S_, .i32⟩
  | .hbm, ⟨51, _⟩ => ⟨S256x256, .i32⟩
  | .hbm, ⟨52, _⟩ => ⟨S256x256, .i32⟩
  | .hbm, ⟨53, _⟩ => ⟨S256x256, .f32⟩
  | .hbm, ⟨54, _⟩ => ⟨S_, .f32⟩
  | .hbm, ⟨55, _⟩ => ⟨S256x256, .f32⟩
  | .hbm, ⟨56, _⟩ => ⟨S256x256, .f32⟩
  | .hbm, ⟨57, _⟩ => ⟨S256x256, .f32⟩
  | .hbm, ⟨58, _⟩ => ⟨S_, .f32⟩
  | .hbm, ⟨59, _⟩ => ⟨S256x256, .f32⟩
  | .hbm, ⟨60, _⟩ => ⟨S256x256, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S256x256, .i32⟩
  | .hbm, ⟨65, _⟩ => ⟨S_, .i32⟩
  | .hbm, ⟨66, _⟩ => ⟨S256x256, .i32⟩
  | .hbm, ⟨67, _⟩ => ⟨S256x256, .i32⟩
  | .hbm, ⟨68, _⟩ => ⟨S_, .i32⟩
  | .hbm, ⟨69, _⟩ => ⟨S256x256, .i32⟩
  | .hbm, ⟨70, _⟩ => ⟨S256x256, .i32⟩
  | .hbm, ⟨71, _⟩ => ⟨S_, .i32⟩
  | .hbm, ⟨72, _⟩ => ⟨S256x256, .i32⟩
  | .hbm, ⟨73, _⟩ => ⟨S256x256, .i1⟩
  | .hbm, ⟨74, _⟩ => ⟨S256x256, .i32⟩
  | .hbm, ⟨75, _⟩ => ⟨S_, .i32⟩
  | .hbm, ⟨76, _⟩ => ⟨S256x256, .i32⟩
  | .hbm, ⟨77, _⟩ => ⟨S256x256, .i1⟩
  | .hbm, ⟨78, _⟩ => ⟨S_, .i32⟩
  | .hbm, ⟨79, _⟩ => ⟨S256x256, .i32⟩
  | .hbm, ⟨80, _⟩ => ⟨S256x256, .i32⟩
  | .hbm, ⟨81, _⟩ => ⟨S256x256, .i32⟩
  | .hbm, ⟨82, _⟩ => ⟨S256x256x1, .i32⟩
  | .hbm, ⟨83, _⟩ => ⟨S8x256x256, .f32⟩
  | .hbm, ⟨84, _⟩ => ⟨S_, .i32⟩
  | .hbm, ⟨85, _⟩ => ⟨S256x256, .i32⟩
  | .hbm, ⟨86, _⟩ => ⟨S256x256, .i1⟩
  | .hbm, ⟨87, _⟩ => ⟨S1x256x256, .i1⟩
  | .hbm, ⟨88, _⟩ => ⟨S_, .f32⟩
  | .hbm, ⟨89, _⟩ => ⟨S8x256x256, .f32⟩
  | .hbm, ⟨90, _⟩ => ⟨S8x256x256, .f32⟩
  | .hbm, ⟨91, _⟩ => ⟨S_, .f32⟩
  | .hbm, ⟨92, _⟩ => ⟨S_, .f32⟩
  | .hbm, ⟨93, _⟩ => ⟨S8x256x256, .i1⟩
  | .hbm, ⟨94, _⟩ => ⟨S8x256x256, .f32⟩
  | .hbm, ⟨95, _⟩ => ⟨S8x256x256, .f32⟩
  | .hbm, ⟨96, _⟩ => ⟨S_, .f32⟩
  | .hbm, ⟨97, _⟩ => ⟨S8x256x256, .f32⟩
  | .hbm, ⟨98, _⟩ => ⟨S8x256x256, .f32⟩
  | _, _ => ⟨S8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_c_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_v20 : Ref sig .tc := ⟨.hbm, 27, rfl⟩
abbrev main_c_4 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_c_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_8 : Ref sig .tc := ⟨.hbm, 44, rfl⟩
abbrev main_v33 : Ref sig .tc := ⟨.hbm, 45, rfl⟩
abbrev main_v34 : Ref sig .tc := ⟨.hbm, 46, rfl⟩
abbrev main_c_9 : Ref sig .tc := ⟨.hbm, 47, rfl⟩
abbrev main_v35 : Ref sig .tc := ⟨.hbm, 48, rfl⟩
abbrev main_v36 : Ref sig .tc := ⟨.hbm, 49, rfl⟩
abbrev main_c_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_14 : Ref sig .tc := ⟨.hbm, 65, rfl⟩
abbrev main_v48 : Ref sig .tc := ⟨.hbm, 66, rfl⟩
abbrev main_v49 : Ref sig .tc := ⟨.hbm, 67, rfl⟩
abbrev main_c_15 : Ref sig .tc := ⟨.hbm, 68, rfl⟩
abbrev main_v50 : Ref sig .tc := ⟨.hbm, 69, rfl⟩
abbrev main_v51 : Ref sig .tc := ⟨.hbm, 70, rfl⟩
abbrev main_c_16 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_17 : Ref sig .tc := ⟨.hbm, 75, rfl⟩
abbrev main_v55 : Ref sig .tc := ⟨.hbm, 76, rfl⟩
abbrev main_v56 : Ref sig .tc := ⟨.hbm, 77, rfl⟩
abbrev main_c_18 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_19 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_20 : Ref sig .tc := ⟨.hbm, 88, rfl⟩
abbrev main_v65 : Ref sig .tc := ⟨.hbm, 89, rfl⟩
abbrev main_v66 : Ref sig .tc := ⟨.hbm, 90, rfl⟩
abbrev main_cst_21 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v67 : Ref sig .tc := ⟨.hbm, 95, rfl⟩
abbrev main_cst_22 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Proof.FfnChunk.lean ====
module

public import proofs.«01_k».proof.Proof.Gen.FfnIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

/-- One chunk of 256 hidden columns: the gated activation that the body computes from the tile of `h`, the chunk's two blocks of input weights, its
    eight carried rows, its three filter taps and its bias. The body is printed with its chunks cut in different places; this is the first one's text. -/
def chunk (x0 : Vec Ideal S1x1024x1024 .f32) (wa wu : Vec Ideal S1024x256 .bf16) (car : Vec Ideal S1x8x256 .f32) (cw : Vec Ideal S3x256 .f32)
    (cb : Vec Ideal S1x256 .f32) : Vec Ideal S1024x256 .bf16 :=
  k0_pay14 (k0_pay13 (iota .tc S8x256 32 [0] iota_S8x256_d0_w32) (k0_pay5 x0 wa) (k0_pay6 x0 wu) (k0_pay9 car) (k0_pay11 cw) (k0_pay12 cb))

variable (x0 : Vec Ideal S1x1024x1024 .f32) (wa wu : Vec Ideal S1024x256 .bf16) (car : Vec Ideal S1x8x256 .f32) (cw : Vec Ideal S3x256 .f32)
  (cb : Vec Ideal S1x256 .f32)

/-- Chunk 0 as printed is the common text. -/
theorem chunk_0 : k0_pay14 (k0_pay13 (iota .tc S8x256 32 [0] iota_S8x256_d0_w32) (k0_pay5 x0 wa) (k0_pay6 x0 wu) (k0_pay9 car) (k0_pay11 cw) (k0_pay12 cb))
    = chunk x0 wa wu car cw cb := rfl

/-- Chunk 1 as printed is the common text. -/
theorem chunk_1 : k0_pay21 (iota .tc S8x256 32 [0] iota_S8x256_d0_w32) (k0_pay7 x0 wa) (k0_pay8 x0 wu) (k0_pay17 car) (k0_pay19 cw) (k0_pay20 (iota .tc S8x256 32 [0] iota_S8x256_d0_w32) (k0_pay7 x0 wa) car cw cb)
    = chunk x0 wa wu car cw cb := rfl

/-- Chunk 2 as printed is the common text. -/
theorem chunk_2 : k0_pay29 (k0_pay16 (k0_pay4 x0) wu) (k0_pay27 (iota .tc S8x256 32 [0] iota_S8x256_d0_w32) (k0_pay15 (k0_pay4 x0) wa) (k0_pay24 car) cw cb) (k0_pay28 (iota .tc S8x256 32 [0] iota_S8x256_d0_w32) (k0_pay15 (k0_pay4 x0) wa) (k0_pay24 car) cw cb) (FloatOps.ofBits .f32 1060439283#32)
    = chunk x0 wa wu car cw cb := rfl

/-- Chunk 3 as printed is the common text. -/
theorem chunk_3 : k0_pay39 (iota .tc S8x256 32 [0] iota_S8x256_d0_w32) (k0_pay22 (k0_pay4 x0) wa) (k0_pay23 (k0_pay4 x0) wu) (k0_pay32 car) (k0_pay34 cw) (k0_pay35 cb) (k0_pay36 (k0_pay22 (k0_pay4 x0) wa)) (k0_pay37 (iota .tc S8x256 32 [0] iota_S8x256_d0_w32) (k0_pay22 (k0_pay4 x0) wa) car) k0_pay38
    = chunk x0 wa wu car cw cb := rfl

/-- Chunk 4 as printed is the common text. -/
theorem chunk_4 : k0_pay47 (k0_pay30 (k0_pay4 x0) wa) (k0_pay31 (k0_pay4 x0) wu) (k0_pay44 cw) (k0_pay45 (iota .tc S8x256 32 [0] iota_S8x256_d0_w32) (k0_pay30 (k0_pay4 x0) wa) car cw cb) (k0_pay46 (iota .tc S8x256 32 [0] iota_S8x256_d0_w32) (k0_pay30 (k0_pay4 x0) wa) car)
    = chunk x0 wa wu car cw cb := rfl

/-- Chunk 5 as printed is the common text. -/
theorem chunk_5 : k0_pay55 (k0_pay54 (iota .tc S8x256 32 [0] iota_S8x256_d0_w32) (k0_pay40 (k0_pay4 x0) wa) (k0_pay41 (k0_pay4 x0) wu) (k0_pay50 car) (k0_pay52 cw) (k0_pay53 cb))
    = chunk x0 wa wu car cw cb := rfl

/-- Chunk 6 as printed is the common text. -/
theorem chunk_6 : k0_pay62 (iota .tc S8x256 32 [0] iota_S8x256_d0_w32) (k0_pay48 (k0_pay4 x0) wa) (k0_pay49 (k0_pay4 x0) wu) (k0_pay58 car) (k0_pay60 cw) (k0_pay61 (iota .tc S8x256 32 [0] iota_S8x256_d0_w32) (k0_pay48 (k0_pay4 x0) wa) car cw cb)
    = chunk x0 wa wu car cw cb := rfl

/-- Chunk 7 as printed is the common text. -/
theorem chunk_7 : k0_pay70 (k0_pay57 (k0_pay4 x0) wu) (k0_pay68 (iota .tc S8x256 32 [0] iota_S8x256_d0_w32) (k0_pay56 (k0_pay4 x0) wa) (k0_pay65 car) cw cb) (k0_pay69 (iota .tc S8x256 32 [0] iota_S8x256_d0_w32) (k0_pay56 (k0_pay4 x0) wa) (k0_pay65 car) cw cb) (FloatOps.ofBits .f32 1060439283#32)
    = chunk x0 wa wu car cw cb := rfl

/-- Chunk 8 as printed is the common text. -/
theorem chunk_8 : k0_pay80 (iota .tc S8x256 32 [0] iota_S8x256_d0_w32) (k0_pay63 (k0_pay4 x0) wa) (k0_pay64 (k0_pay4 x0) wu) (k0_pay73 car) (k0_pay75 cw) (k0_pay76 cb) (k0_pay77 (k0_pay63 (k0_pay4 x0) wa)) (k0_pay78 (iota .tc S8x256 32 [0] iota_S8x256_d0_w32) (k0_pay63 (k0_pay4 x0) wa) car) k0_pay79
    = chunk x0 wa wu car cw cb := rfl

/-- Chunk 9 as printed is the common text. -/
theorem chunk_9 : k0_pay88 (k0_pay71 (k0_pay4 x0) wa) (k0_pay72 (k0_pay4 x0) wu) (k0_pay85 cw) (k0_pay86 (iota .tc S8x256 32 [0] iota_S8x256_d0_w32) (k0_pay71 (k0_pay4 x0) wa) car cw cb) (k0_pay87 (iota .tc S8x256 32 [0] iota_S8x256_d0_w32) (k0_pay71 (k0_pay4 x0) wa) car)
    = chunk x0 wa wu car cw cb := rfl

/-- Chunk 10 as printed is the common text. -/
theorem chunk_10 : k0_pay96 (iota .tc S8x256 32 [0] iota_S8x256_d0_w32) (k0_pay81 (k0_pay4 x0) wa) (k0_pay82 (k0_pay4 x0) wu) (k0_pay89 car) (k0_pay91 cw) (k0_pay92 cb) (k0_pay93 (k0_pay81 (k0_pay4 x0) wa)) (k0_pay94 (iota .tc S8x256 32 [0] iota_S8x256_d0_w32) (k0_pay81 (k0_pay4 x0) wa) car) k0_pay95
    = chunk x0 wa wu car cw cb := rfl

end Cert.FfnIdeal.Hand
-- ==== Proof.FfnSpec.lean ====
module

public import proofs.«01_k».proof.Proof.FfnChunk
public import Idealize.ShloMosaic.Lib.Pointwise

@[expose] public section

set_option maxRecDepth 16384

noncomputable section

open Idealize.ShloMosaic Idealize.ShloMosaic.TcCoe Idealize.SL.Sem

/-! # The gated convolution MLP, element by element -/

namespace Cert.FfnSpec

/-- The causal filter of width three, with its bias: `p2`, `p1`, `p0` are the rows two back, one back and here. -/
def conv (b p2 p1 p0 w0 w1 w2 : EReal) : EReal := b + p2 * w0 + p1 * w1 + p0 * w2

/-- The exact GELU of `y`, times the gate `u`. -/
def gated (y u : EReal) : EReal :=
  Ideal.ofBits FTy.f32 0x3F000000#32 * y * (1 + (FloatOps.erf (F := Ideal) (φ := .f32) (y * Ideal.ofBits FTy.f32 0x3F3504F3#32) : EReal)) * u

/-- One element of the layer norm of the row `v`. -/
def lnorm (v : Fin 1024 → EReal) (g b : EReal) (d : Fin 1024) : EReal :=
  (v d - Ideal.div (∑ x, v x) (Ideal.ofBits FTy.f32 0x44800000#32))
    * Ideal.rsqrt (Ideal.div (∑ x, (v x - Ideal.div (∑ z, v z) (Ideal.ofBits FTy.f32 0x44800000#32)) * (v x - Ideal.div (∑ z, v z) (Ideal.ofBits FTy.f32 0x44800000#32)))
        (Ideal.ofBits FTy.f32 0x44800000#32) + Ideal.ofBits FTy.f32 0x3727C5AC#32)
    * g + b

end Cert.FfnSpec

namespace Cert.FfnIdeal.Hand

open Cert.FfnIdeal Cert.FfnIdeal.Gen Cert.FfnSpec

section Chunk
variable (x0 : Vec Ideal S1x1024x1024 .f32) (wa wu : Vec Ideal S1024x256 .bf16) (car : Vec Ideal S1x8x256 .f32) (cw : Vec Ideal S3x256 .f32)
  (cb : Vec Ideal S1x256 .f32)

/-- The first projection of a chunk, at a row and a column. -/
theorem pay5_at (r : Fin 1024) (l : Fin 256) : k0_pay5 x0 wa (ix2 r l) = ∑ x : Fin 1024, x0 (ix3 0 r x) * wa (ix2 x l) := by
  pointwise [k0_pay5, k0_pay4, k0_pay3]

/-- The gate's projection of a chunk, at a row and a column. -/
theorem pay6_at (r : Fin 1024) (l : Fin 256) : k0_pay6 x0 wa (ix2 r l) = ∑ x : Fin 1024, x0 (ix3 0 r x) * wa (ix2 x l) := by
  pointwise [k0_pay6, k0_pay4, k0_pay3]

/-- Rows before the tile come from the carried rows: row `r - 2` of the projection with the carried rows 6 and 7 before it. -/
def back2 (A : Fin 1024 → EReal) (c6 c7 : EReal) (r : Fin 1024) : EReal :=
  if h : 2 ≤ (r : ℕ) then A ⟨(r : ℕ) - 2, by omega⟩ else if (r : ℕ) = 1 then c7 else c6

/-- Row `r - 1` likewise. -/
def back1 (A : Fin 1024 → EReal) (c7 : EReal) (r : Fin 1024) : EReal :=
  if h : 1 ≤ (r : ℕ) then A ⟨(r : ℕ) - 1, by omega⟩ else c7

theorem fin_ext_apply {n : ℕ} (A : Fin n → EReal) {a b : ℕ} (ha : a < n) (hb : b < n) (h : a = b) : A ⟨a, ha⟩ = A ⟨b, hb⟩ := by
  subst h; rfl

/-- The select on the row number is an `if`. -/
theorem select_row (r k : ℕ) (hr : r < 1024) (hk : k < 1024) (a b : EReal) :
    Scalar.select (IntOp.cmpi CmpIPredicate.eq (BitVec.ofNat 32 r) (BitVec.ofNat 32 k)) a b = if r = k then a else b := by
  unfold Scalar.select IntOp.cmpi
  have e : (BitVec.ofNat 32 r = BitVec.ofNat 32 k) ↔ r = k := by
    constructor
    · intro h
      have := congrArg BitVec.toNat h
      simp only [BitVec.toNat_ofNat] at this
      omega
    · rintro rfl; rfl
  have e3 : (BitVec.ofBool (BitVec.ofNat 32 r == BitVec.ofNat 32 k) = 1#1) ↔ r = k := by
    rw [← e]; rcases hb : (BitVec.ofNat 32 r == BitVec.ofNat 32 k) with _ | _
    · simp only [beq_eq_false_iff_ne, ne_eq] at hb; exact iff_of_false (by decide) hb
    · simp only [beq_iff_eq] at hb; exact iff_of_true (by decide) hb
  by_cases h : r = k
  · rw [if_pos h]; simp [e3.mpr h]
  · rw [if_neg h]; simp [mt e3.mp h]

/-- One chunk's gated activation at a row and a column. -/
theorem chunk_at (r : Fin 1024) (l : Fin 256) : chunk x0 wa wu car cw cb (ix2 r l)
    = gated (conv (cb (ix2 0 l)) (back2 (fun q => ∑ x : Fin 1024, x0 (ix3 0 q x) * wa (ix2 x l)) (car (ix3 0 6 l)) (car (ix3 0 7 l)) r)
        (back1 (fun q => ∑ x : Fin 1024, x0 (ix3 0 q x) * wa (ix2 x l)) (car (ix3 0 7 l)) r)
        (∑ x : Fin 1024, x0 (ix3 0 r x) * wa (ix2 x l)) (cw (ix2 0 l)) (cw (ix2 1 l)) (cw (ix2 2 l)))
      (∑ x : Fin 1024, x0 (ix3 0 r x) * wu (ix2 x l)) := by
  pointwise [chunk, k0_pay14, k0_pay13, k0_pay9, k0_pay11, k0_pay12]
  simp only [pay5_at, pay6_at]
  have e2 : (if h : (r : ℕ) < 8 then
        Scalar.select (IntOp.cmpi CmpIPredicate.eq (BitVec.ofNat 32 (r : ℕ)) 1#32) (car (ix3 0 7 l))
          (Scalar.select (IntOp.cmpi CmpIPredicate.eq (BitVec.ofNat 32 (r : ℕ)) 0#32) (car (ix3 0 6 l))
            (∑ x : Fin 1024, x0 (ix3 0 ⟨((r : ℕ) + 1024 - 2) % 1024, by omega⟩ x) * wa (ix2 x l)))
      else ∑ x : Fin 1024, x0 (ix3 0 ⟨(8 + ((r : ℕ) - 8) + 1024 - 2) % 1024, by omega⟩ x) * wa (ix2 x l) : EReal)
      = back2 (fun q => ∑ x : Fin 1024, x0 (ix3 0 q x) * wa (ix2 x l)) (car (ix3 0 6 l)) (car (ix3 0 7 l)) r := by
    have hr := r.isLt
    have s1 := select_row r 1 hr (by omega)
    have s0 := select_row r 0 hr (by omega)
    simp only [s1, s0]
    unfold back2
    by_cases h8 : (r : ℕ) < 8
    · rw [dif_pos h8]
      by_cases h2 : 2 ≤ (r : ℕ)
      · rw [dif_pos h2, if_neg (by omega), if_neg (by omega)]
        exact fin_ext_apply (fun q => ∑ x : Fin 1024, x0 (ix3 0 q x) * wa (ix2 x l)) _ _ (by omega)
      · rw [dif_neg h2]
        by_cases h1 : (r : ℕ) = 1
        · rw [if_pos h1, if_pos h1]
        · rw [if_neg h1, if_neg h1, if_pos (by omega)]
    · rw [dif_neg h8, dif_pos (by omega)]
      exact fin_ext_apply (fun q => ∑ x : Fin 1024, x0 (ix3 0 q x) * wa (ix2 x l)) _ _ (by omega)
  have e1 : (if h : (r : ℕ) < 8 then
        Scalar.select (IntOp.cmpi CmpIPredicate.eq (BitVec.ofNat 32 (r : ℕ)) 0#32) (car (ix3 0 7 l))
            (∑ x : Fin 1024, x0 (ix3 0 ⟨((r : ℕ) + 1024 - 1) % 1024, by omega⟩ x) * wa (ix2 x l))
      else ∑ x : Fin 1024, x0 (ix3 0 ⟨(8 + ((r : ℕ) - 8) + 1024 - 1) % 1024, by omega⟩ x) * wa (ix2 x l) : EReal)
      = back1 (fun q => ∑ x : Fin 1024, x0 (ix3 0 q x) * wa (ix2 x l)) (car (ix3 0 7 l)) r := by
    have hr := r.isLt
    have s0 := select_row r 0 hr (by omega)
    simp only [s0]
    unfold back1
    by_cases h8 : (r : ℕ) < 8
    · rw [dif_pos h8]
      by_cases h1 : 1 ≤ (r : ℕ)
      · rw [dif_pos h1, if_neg (by omega)]
        exact fin_ext_apply (fun q => ∑ x : Fin 1024, x0 (ix3 0 q x) * wa (ix2 x l)) _ _ (by omega)
      · rw [dif_neg h1, if_pos (by omega)]
    · rw [dif_neg h8, dif_pos (by omega)]
      exact fin_ext_apply (fun q => ∑ x : Fin 1024, x0 (ix3 0 q x) * wa (ix2 x l)) _ _ (by omega)
  unfold gated conv
  rw [← e2, ← e1]

end Chunk

section Tail
variable (x0 : Vec Ideal S1x1024x1024 .f32) (a : Vec Ideal S256x2560 .bf16) (w : Vec Ideal S2560x1024 .bf16) (a2 : Vec Ideal S256x256 .bf16)
  (w2 : Vec Ideal S256x1024 .bf16) (g b : Vec Ideal S1x1024 .f32)

/-- Rows 768 on of the tile: the layer norm of the scaled hidden state plus the second projection, contracted in two parts. -/
theorem tail3_at (q : Fin 1) (r : Fin 256) (l : Fin 1024) : k0_pay1 (k0_pay102 (k0_pay3 x0) a w a2 w2 g b) (ix3 q r l)
    = lnorm (fun d => Ideal.ofBits FTy.f32 0x3F9837F0#32 * x0 (ix3 0 ⟨768 + (r : ℕ), by omega⟩ d)
        + (∑ x : Fin 2560, a (ix2 r x) * w (ix2 x d) + ∑ x : Fin 256, a2 (ix2 r x) * w2 (ix2 x d))) (g (ix2 0 l)) (b (ix2 0 l)) l := by
  pointwise [k0_pay1, k0_pay102, k0_pay3, lnorm]

/-- Rows 512 on of the tile likewise. -/
theorem tail2_at (q : Fin 1) (r : Fin 256) (l : Fin 1024) : k0_pay101 (k0_pay100 (k0_pay3 x0) a w a2 w2 g b) (ix3 q r l)
    = lnorm (fun d => Ideal.ofBits FTy.f32 0x3F9837F0#32 * x0 (ix3 0 ⟨512 + (r : ℕ), by omega⟩ d)
        + (∑ x : Fin 2560, a (ix2 r x) * w (ix2 x d) + ∑ x : Fin 256, a2 (ix2 r x) * w2 (ix2 x d))) (g (ix2 0 l)) (b (ix2 0 l)) l := by
  pointwise [k0_pay101, k0_pay100, k0_pay3, lnorm]

/-- Rows 256 on of the tile likewise. -/
theorem tail1_at (q : Fin 1) (r : Fin 256) (l : Fin 1024) : k0_pay99 (k0_pay3 x0) a w a2 w2 g b (ix3 q r l)
    = lnorm (fun d => Ideal.ofBits FTy.f32 0x3F9837F0#32 * x0 (ix3 0 ⟨256 + (r : ℕ), by omega⟩ d)
        + (∑ x : Fin 2560, a (ix2 r x) * w (ix2 x d) + ∑ x : Fin 256, a2 (ix2 r x) * w2 (ix2 x d))) (g (ix2 0 l)) (b (ix2 0 l)) l := by
  pointwise [k0_pay99, k0_pay3, lnorm]

/-- The first 256 rows of the tile likewise. -/
theorem tail0_at (q : Fin 1) (r : Fin 256) (l : Fin 1024) : k0_pay98 (k0_pay3 x0) (k0_pay97 a w) a2 w2 g b (ix3 q r l)
    = lnorm (fun d => Ideal.ofBits FTy.f32 0x3F9837F0#32 * x0 (ix3 0 ⟨0 + (r : ℕ), by omega⟩ d)
        + (∑ x : Fin 2560, a (ix2 r x) * w (ix2 x d) + ∑ x : Fin 256, a2 (ix2 r x) * w2 (ix2 x d))) (g (ix2 0 l)) (b (ix2 0 l)) l := by
  pointwise [k0_pay98, k0_pay97, k0_pay3, lnorm]

end Tail

end Cert.FfnIdeal.Hand
-- ==== Proof.FfnBody.lean ====
module

public import proofs.«01_k».proof.Proof.FfnSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # What one grid point of the gated convolution MLP stores, in both cases, as one list of stores -/

namespace Cert.FfnIdeal.Hand

open Cert.FfnIdeal Cert.FfnIdeal.Gen Cert.FfnSpec

/-- The last eight rows of a chunk's first projection: what the next tile's first rows need. -/
def lastRows (x0 : Vec Ideal S1x1024x1024 .f32) (wa : Vec Ideal S1024x256 .bf16) : Vec Ideal S1x8x256 .f32 := k0_pay10 x0 wa

section
variable (x0 : Vec Ideal S1x1024x1024 .f32) (wa : Vec Ideal S1024x256 .bf16)

/-- Chunk 0's carried rows as printed. -/
theorem carry_0 : k0_pay10 x0 wa = lastRows x0 wa := rfl

/-- Chunk 1's carried rows as printed. -/
theorem carry_1 : k0_pay18 (k0_pay7 x0 wa) = lastRows x0 wa := rfl

/-- Chunk 2's carried rows as printed. -/
theorem carry_2 : k0_pay26 (k0_pay25 (k0_pay15 (k0_pay4 x0) wa)) = lastRows x0 wa := rfl

/-- Chunk 3's carried rows as printed. -/
theorem carry_3 : k0_pay33 (k0_pay22 (k0_pay4 x0) wa) = lastRows x0 wa := rfl

/-- Chunk 4's carried rows as printed. -/
theorem carry_4 : k0_pay43 (k0_pay30 (k0_pay4 x0) wa) = lastRows x0 wa := rfl

/-- Chunk 5's carried rows as printed. -/
theorem carry_5 : k0_pay51 (k0_pay40 (k0_pay4 x0) wa) = lastRows x0 wa := rfl

/-- Chunk 6's carried rows as printed. -/
theorem carry_6 : k0_pay59 (k0_pay48 (k0_pay4 x0) wa) = lastRows x0 wa := rfl

/-- Chunk 7's carried rows as printed. -/
theorem carry_7 : k0_pay67 (k0_pay66 (k0_pay56 (k0_pay4 x0) wa)) = lastRows x0 wa := rfl

/-- Chunk 8's carried rows as printed. -/
theorem carry_8 : k0_pay74 (k0_pay63 (k0_pay4 x0) wa) = lastRows x0 wa := rfl

/-- Chunk 9's carried rows as printed. -/
theorem carry_9 : k0_pay84 (k0_pay71 (k0_pay4 x0) wa) = lastRows x0 wa := rfl

/-- Chunk 10's carried rows as printed. -/
theorem carry_10 : k0_pay90 (k0_pay81 (k0_pay4 x0) wa) = lastRows x0 wa := rfl

end

/-- What a load of a rectangle finds after the stores `L`. -/
def rd {s : Shape} {e : EltTy} (L : List (View.Piece (Elt Ideal) s e)) (r : Rect s) : r.shape.Idx → Elt Ideal e := fun j => View.canon L (r.toLoadRect.idx j)

/-- The eleven stores of the gated activation, the last first. -/
def actL (x0 : Vec Ideal S1x1024x1024 .f32) (x1 : Vec Ideal S1024x5632 .bf16) (x2 : Vec Ideal S3x2816 .f32) (x3 : Vec Ideal S1x2816 .f32) (p : Vec Ideal S11x8x256 .f32) : List (View.Piece (Elt Ideal) S1024x2816 .bf16) :=
   [⟨Rect.unit ![0, 2560] ![1024, 256] inb_S1024x2816_S1024x256_0_2560, chunk x0 (View.ld x1 (Rect.unit ![0, 2560] ![1024, 256] inb_S1024x5632_S1024x256_0_2560))
      (View.ld x1 (Rect.unit ![0, 5376] ![1024, 256] inb_S1024x5632_S1024x256_0_5376)) (View.ld p (Rect.unit ![10, 0, 0] ![1, 8, 256] inb_S11x8x256_S1x8x256_10_0_0))
      (View.ld x2 (Rect.unit ![0, 2560] ![3, 256] inb_S3x2816_S3x256_0_2560)) (View.ld x3 (Rect.unit ![0, 2560] ![1, 256] inb_S1x2816_S1x256_0_2560))⟩,
    ⟨Rect.unit ![0, 2304] ![1024, 256] inb_S1024x2816_S1024x256_0_2304, chunk x0 (View.ld x1 (Rect.unit ![0, 2304] ![1024, 256] inb_S1024x5632_S1024x256_0_2304))
      (View.ld x1 (Rect.unit ![0, 5120] ![1024, 256] inb_S1024x5632_S1024x256_0_5120)) (View.ld p (Rect.unit ![9, 0, 0] ![1, 8, 256] inb_S11x8x256_S1x8x256_9_0_0))
      (View.ld x2 (Rect.unit ![0, 2304] ![3, 256] inb_S3x2816_S3x256_0_2304)) (View.ld x3 (Rect.unit ![0, 2304] ![1, 256] inb_S1x2816_S1x256_0_2304))⟩,
    ⟨Rect.unit ![0, 2048] ![1024, 256] inb_S1024x2816_S1024x256_0_2048, chunk x0 (View.ld x1 (Rect.unit ![0, 2048] ![1024, 256] inb_S1024x5632_S1024x256_0_2048))
      (View.ld x1 (Rect.unit ![0, 4864] ![1024, 256] inb_S1024x5632_S1024x256_0_4864)) (View.ld p (Rect.unit ![8, 0, 0] ![1, 8, 256] inb_S11x8x256_S1x8x256_8_0_0))
      (View.ld x2 (Rect.unit ![0, 2048] ![3, 256] inb_S3x2816_S3x256_0_2048)) (View.ld x3 (Rect.unit ![0, 2048] ![1, 256] inb_S1x2816_S1x256_0_2048))⟩,
    ⟨Rect.unit ![0, 1792] ![1024, 256] inb_S1024x2816_S1024x256_0_1792, chunk x0 (View.ld x1 (Rect.unit ![0, 1792] ![1024, 256] inb_S1024x5632_S1024x256_0_1792))
      (View.ld x1 (Rect.unit ![0, 4608] ![1024, 256] inb_S1024x5632_S1024x256_0_4608)) (View.ld p (Rect.unit ![7, 0, 0] ![1, 8, 256] inb_S11x8x256_S1x8x256_7_0_0))
      (View.ld x2 (Rect.unit ![0, 1792] ![3, 256] inb_S3x2816_S3x256_0_1792)) (View.ld x3 (Rect.unit ![0, 1792] ![1, 256] inb_S1x2816_S1x256_0_1792))⟩,
    ⟨Rect.unit ![0, 1536] ![1024, 256] inb_S1024x2816_S1024x256_0_1536, chunk x0 (View.ld x1 (Rect.unit ![0, 1536] ![1024, 256] inb_S1024x5632_S1024x256_0_1536))
      (View.ld x1 (Rect.unit ![0, 4352] ![1024, 256] inb_S1024x5632_S1024x256_0_4352)) (View.ld p (Rect.unit ![6, 0, 0] ![1, 8, 256] inb_S11x8x256_S1x8x256_6_0_0))
      (View.ld x2 (Rect.unit ![0, 1536] ![3, 256] inb_S3x2816_S3x256_0_1536)) (View.ld x3 (Rect.unit ![0, 1536] ![1, 256] inb_S1x2816_S1x256_0_1536))⟩,
    ⟨Rect.unit ![0, 1280] ![1024, 256] inb_S1024x2816_S1024x256_0_1280, chunk x0 (View.ld x1 (Rect.unit ![0, 1280] ![1024, 256] inb_S1024x5632_S1024x256_0_1280))
      (View.ld x1 (Rect.unit ![0, 4096] ![1024, 256] inb_S1024x5632_S1024x256_0_4096)) (View.ld p (Rect.unit ![5, 0, 0] ![1, 8, 256] inb_S11x8x256_S1x8x256_5_0_0))
      (View.ld x2 (Rect.unit ![0, 1280] ![3, 256] inb_S3x2816_S3x256_0_1280)) (View.ld x3 (Rect.unit ![0, 1280] ![1, 256] inb_S1x2816_S1x256_0_1280))⟩,
    ⟨Rect.unit ![0, 1024] ![1024, 256] inb_S1024x2816_S1024x256_0_1024, chunk x0 (View.ld x1 (Rect.unit ![0, 1024] ![1024, 256] inb_S1024x5632_S1024x256_0_1024))
      (View.ld x1 (Rect.unit ![0, 3840] ![1024, 256] inb_S1024x5632_S1024x256_0_3840)) (View.ld p (Rect.unit ![4, 0, 0] ![1, 8, 256] inb_S11x8x256_S1x8x256_4_0_0))
      (View.ld x2 (Rect.unit ![0, 1024] ![3, 256] inb_S3x2816_S3x256_0_1024)) (View.ld x3 (Rect.unit ![0, 1024] ![1, 256] inb_S1x2816_S1x256_0_1024))⟩,
    ⟨Rect.unit ![0, 768] ![1024, 256] inb_S1024x2816_S1024x256_0_768, chunk x0 (View.ld x1 (Rect.unit ![0, 768] ![1024, 256] inb_S1024x5632_S1024x256_0_768))
      (View.ld x1 (Rect.unit ![0, 3584] ![1024, 256] inb_S1024x5632_S1024x256_0_3584)) (View.ld p (Rect.unit ![3, 0, 0] ![1, 8, 256] inb_S11x8x256_S1x8x256_3_0_0))
      (View.ld x2 (Rect.unit ![0, 768] ![3, 256] inb_S3x2816_S3x256_0_768)) (View.ld x3 (Rect.unit ![0, 768] ![1, 256] inb_S1x2816_S1x256_0_768))⟩,
    ⟨Rect.unit ![0, 512] ![1024, 256] inb_S1024x2816_S1024x256_0_512, chunk x0 (View.ld x1 (Rect.unit ![0, 512] ![1024, 256] inb_S1024x5632_S1024x256_0_512))
      (View.ld x1 (Rect.unit ![0, 3328] ![1024, 256] inb_S1024x5632_S1024x256_0_3328)) (View.ld p (Rect.unit ![2, 0, 0] ![1, 8, 256] inb_S11x8x256_S1x8x256_2_0_0))
      (View.ld x2 (Rect.unit ![0, 512] ![3, 256] inb_S3x2816_S3x256_0_512)) (View.ld x3 (Rect.unit ![0, 512] ![1, 256] inb_S1x2816_S1x256_0_512))⟩,
    ⟨Rect.unit ![0, 256] ![1024, 256] inb_S1024x2816_S1024x256_0_256, chunk x0 (View.ld x1 (Rect.unit ![0, 256] ![1024, 256] inb_S1024x5632_S1024x256_0_256))
      (View.ld x1 (Rect.unit ![0, 3072] ![1024, 256] inb_S1024x5632_S1024x256_0_3072)) (View.ld p (Rect.unit ![1, 0, 0] ![1, 8, 256] inb_S11x8x256_S1x8x256_1_0_0))
      (View.ld x2 (Rect.unit ![0, 256] ![3, 256] inb_S3x2816_S3x256_0_256)) (View.ld x3 (Rect.unit ![0, 256] ![1, 256] inb_S1x2816_S1x256_0_256))⟩,
    ⟨Rect.unit ![0, 0] ![1024, 256] inb_S1024x2816_S1024x256_0_0, chunk x0 (View.ld x1 (Rect.unit ![0, 0] ![1024, 256] inb_S1024x5632_S1024x256_0_0))
      (View.ld x1 (Rect.unit ![0, 2816] ![1024, 256] inb_S1024x5632_S1024x256_0_2816)) (View.ld p (Rect.unit ![0, 0, 0] ![1, 8, 256] inb_S11x8x256_S1x8x256_0_0_0))
      (View.ld x2 (Rect.unit ![0, 0] ![3, 256] inb_S3x2816_S3x256_0_0)) (View.ld x3 (Rect.unit ![0, 0] ![1, 256] inb_S1x2816_S1x256_0_0))⟩]

/-- The eleven stores of the carried rows, the last first. -/
def carL (x0 : Vec Ideal S1x1024x1024 .f32) (x1 : Vec Ideal S1024x5632 .bf16) : List (View.Piece (Elt Ideal) S11x8x256 .f32) :=
   [⟨Rect.unit ![10, 0, 0] ![1, 8, 256] inb_S11x8x256_S1x8x256_10_0_0, lastRows x0 (View.ld x1 (Rect.unit ![0, 2560] ![1024, 256] inb_S1024x5632_S1024x256_0_2560))⟩,
    ⟨Rect.unit ![9, 0, 0] ![1, 8, 256] inb_S11x8x256_S1x8x256_9_0_0, lastRows x0 (View.ld x1 (Rect.unit ![0, 2304] ![1024, 256] inb_S1024x5632_S1024x256_0_2304))⟩,
    ⟨Rect.unit ![8, 0, 0] ![1, 8, 256] inb_S11x8x256_S1x8x256_8_0_0, lastRows x0 (View.ld x1 (Rect.unit ![0, 2048] ![1024, 256] inb_S1024x5632_S1024x256_0_2048))⟩,
    ⟨Rect.unit ![7, 0, 0] ![1, 8, 256] inb_S11x8x256_S1x8x256_7_0_0, lastRows x0 (View.ld x1 (Rect.unit ![0, 1792] ![1024, 256] inb_S1024x5632_S1024x256_0_1792))⟩,
    ⟨Rect.unit ![6, 0, 0] ![1, 8, 256] inb_S11x8x256_S1x8x256_6_0_0, lastRows x0 (View.ld x1 (Rect.unit ![0, 1536] ![1024, 256] inb_S1024x5632_S1024x256_0_1536))⟩,
    ⟨Rect.unit ![5, 0, 0] ![1, 8, 256] inb_S11x8x256_S1x8x256_5_0_0, lastRows x0 (View.ld x1 (Rect.unit ![0, 1280] ![1024, 256] inb_S1024x5632_S1024x256_0_1280))⟩,
    ⟨Rect.unit ![4, 0, 0] ![1, 8, 256] inb_S11x8x256_S1x8x256_4_0_0, lastRows x0 (View.ld x1 (Rect.unit ![0, 1024] ![1024, 256] inb_S1024x5632_S1024x256_0_1024))⟩,
    ⟨Rect.unit ![3, 0, 0] ![1, 8, 256] inb_S11x8x256_S1x8x256_3_0_0, lastRows x0 (View.ld x1 (Rect.unit ![0, 768] ![1024, 256] inb_S1024x5632_S1024x256_0_768))⟩,
    ⟨Rect.unit ![2, 0, 0] ![1, 8, 256] inb_S11x8x256_S1x8x256_2_0_0, lastRows x0 (View.ld x1 (Rect.unit ![0, 512] ![1024, 256] inb_S1024x5632_S1024x256_0_512))⟩,
    ⟨Rect.unit ![1, 0, 0] ![1, 8, 256] inb_S11x8x256_S1x8x256_1_0_0, lastRows x0 (View.ld x1 (Rect.unit ![0, 256] ![1024, 256] inb_S1024x5632_S1024x256_0_256))⟩,
    ⟨Rect.unit ![0, 0, 0] ![1, 8, 256] inb_S11x8x256_S1x8x256_0_0_0, lastRows x0 (View.ld x1 (Rect.unit ![0, 0] ![1024, 256] inb_S1024x5632_S1024x256_0_0))⟩]

/-- The four stores of the output tile, the last first. -/
def outL (x0 : Vec Ideal S1x1024x1024 .f32) (x1 : Vec Ideal S1024x5632 .bf16) (x2 : Vec Ideal S3x2816 .f32) (x3 : Vec Ideal S1x2816 .f32) (x4 : Vec Ideal S2816x1024 .bf16) (x5 : Vec Ideal S1x1024 .f32) (x6 : Vec Ideal S1x1024 .f32) (p : Vec Ideal S11x8x256 .f32) : List (View.Piece (Elt Ideal) S1x1024x1024 .f32) :=
   [⟨Rect.unit ![0, 768, 0] ![1, 256, 1024] inb_S1x1024x1024_S1x256x1024_0_768_0, k0_pay1 (k0_pay102 (k0_pay3 x0) (rd (actL x0 x1 x2 x3 p) (Rect.unit ![768, 0] ![256, 2560] inb_S1024x2816_S256x2560_768_0)) (View.ld x4 (Rect.unit ![0, 0] ![2560, 1024] inb_S2816x1024_S2560x1024_0_0)) (rd (actL x0 x1 x2 x3 p) (Rect.unit ![768, 2560] ![256, 256] inb_S1024x2816_S256x256_768_2560)) (View.ld x4 (Rect.unit ![2560, 0] ![256, 1024] inb_S2816x1024_S256x1024_2560_0)) x5 x6)⟩,
    ⟨Rect.unit ![0, 512, 0] ![1, 256, 1024] inb_S1x1024x1024_S1x256x1024_0_512_0, k0_pay101 (k0_pay100 (k0_pay3 x0) (rd (actL x0 x1 x2 x3 p) (Rect.unit ![512, 0] ![256, 2560] inb_S1024x2816_S256x2560_512_0)) (View.ld x4 (Rect.unit ![0, 0] ![2560, 1024] inb_S2816x1024_S2560x1024_0_0)) (rd (actL x0 x1 x2 x3 p) (Rect.unit ![512, 2560] ![256, 256] inb_S1024x2816_S256x256_512_2560)) (View.ld x4 (Rect.unit ![2560, 0] ![256, 1024] inb_S2816x1024_S256x1024_2560_0)) x5 x6)⟩,
    ⟨Rect.unit ![0, 256, 0] ![1, 256, 1024] inb_S1x1024x1024_S1x256x1024_0_256_0, k0_pay99 (k0_pay3 x0) (rd (actL x0 x1 x2 x3 p) (Rect.unit ![256, 0] ![256, 2560] inb_S1024x2816_S256x2560_256_0)) (View.ld x4 (Rect.unit ![0, 0] ![2560, 1024] inb_S2816x1024_S2560x1024_0_0)) (rd (actL x0 x1 x2 x3 p) (Rect.unit ![256, 2560] ![256, 256] inb_S1024x2816_S256x256_256_2560)) (View.ld x4 (Rect.unit ![2560, 0] ![256, 1024] inb_S2816x1024_S256x1024_2560_0)) x5 x6⟩,
    ⟨Rect.unit ![0, 0, 0] ![1, 256, 1024] inb_S1x1024x1024_S1x256x1024_0_0_0, k0_pay98 (k0_pay3 x0) (k0_pay97 (rd (actL x0 x1 x2 x3 p) (Rect.unit ![0, 0] ![256, 2560] inb_S1024x2816_S256x2560_0_0)) (View.ld x4 (Rect.unit ![0, 0] ![2560, 1024] inb_S2816x1024_S2560x1024_0_0))) (rd (actL x0 x1 x2 x3 p) (Rect.unit ![0, 2560] ![256, 256] inb_S1024x2816_S256x256_0_2560)) (View.ld x4 (Rect.unit ![2560, 0] ![256, 1024] inb_S2816x1024_S256x1024_2560_0)) x5 x6⟩]

/-- A tile that continues its sequence: the rows before it are those carried in. -/
theorem out_B (c : Dev nD) (i : grid0.Coords) (a2 : Memref sig .tc .vmem S1x1024x1024 .f32) (h2 : a2.IsWhole) (a3 : Memref sig .tc .vmem S1024x5632 .bf16) (h3 : a3.IsWhole) (a4 : Memref sig .tc .vmem S3x2816 .f32) (h4 : a4.IsWhole) (a5 : Memref sig .tc .vmem S1x2816 .f32) (h5 : a5.IsWhole) (a6 : Memref sig .tc .vmem S2816x1024 .bf16) (h6 : a6.IsWhole) (a7 : Memref sig .tc .vmem S1x1024 .f32) (h7 : a7.IsWhole) (a8 : Memref sig .tc .vmem S1x1024 .f32) (h8 : a8.IsWhole) (a9 : Memref sig .tc .vmem S1x1024x1024 .f32) (h9 : a9.IsWhole) (a10 : Memref sig .tc .vmem S11x8x256 .f32) (h10 : a10.IsWhole) (a11 : Memref sig .tc .vmem S1024x2816 .bf16) (h11 : a11.IsWhole) (hc : ¬cond0_0 i) (x0 : Vec Ideal S1x1024x1024 .f32) (x1 : Vec Ideal S1024x5632 .bf16) (x2 : Vec Ideal S3x2816 .f32) (x3 : Vec Ideal S1x2816 .f32) (x4 : Vec Ideal S2816x1024 .bf16) (x5 : Vec Ideal S1x1024 .f32) (x6 : Vec Ideal S1x1024 .f32) (p : Vec Ideal S11x8x256 .f32) :
    out0_B_7 c i a2 h2 a3 h3 a4 h4 a5 h5 a6 h6 a7 h7 a8 h8 a9 h9 a10 h10 a11 h11 hc x0 x1 x2 x3 x4 x5 x6 p = View.canon (outL x0 x1 x2 x3 x4 x5 x6 p) := by
  frame_out
  simp only [View.readCov_eq_canon', chunk_0, chunk_1, chunk_2, chunk_3, chunk_4, chunk_5, chunk_6, chunk_7, chunk_8, chunk_9, chunk_10]
  rfl

/-- The first tile of a sequence: the rows before it are zeros. -/
theorem out_A (c : Dev nD) (i : grid0.Coords) (a2 : Memref sig .tc .vmem S1x1024x1024 .f32) (h2 : a2.IsWhole) (a3 : Memref sig .tc .vmem S1024x5632 .bf16) (h3 : a3.IsWhole) (a4 : Memref sig .tc .vmem S3x2816 .f32) (h4 : a4.IsWhole) (a5 : Memref sig .tc .vmem S1x2816 .f32) (h5 : a5.IsWhole) (a6 : Memref sig .tc .vmem S2816x1024 .bf16) (h6 : a6.IsWhole) (a7 : Memref sig .tc .vmem S1x1024 .f32) (h7 : a7.IsWhole) (a8 : Memref sig .tc .vmem S1x1024 .f32) (h8 : a8.IsWhole) (a9 : Memref sig .tc .vmem S1x1024x1024 .f32) (h9 : a9.IsWhole) (a10 : Memref sig .tc .vmem S11x8x256 .f32) (h10 : a10.IsWhole) (a11 : Memref sig .tc .vmem S1024x2816 .bf16) (h11 : a11.IsWhole) (hc : cond0_0 i) (x0 : Vec Ideal S1x1024x1024 .f32) (x1 : Vec Ideal S1024x5632 .bf16) (x2 : Vec Ideal S3x2816 .f32) (x3 : Vec Ideal S1x2816 .f32) (x4 : Vec Ideal S2816x1024 .bf16) (x5 : Vec Ideal S1x1024 .f32) (x6 : Vec Ideal S1x1024 .f32) :
    out0_A_7 c i a2 h2 a3 h3 a4 h4 a5 h5 a6 h6 a7 h7 a8 h8 a9 h9 a10 h10 a11 h11 hc x0 x1 x2 x3 x4 x5 x6 = View.canon (outL x0 x1 x2 x3 x4 x5 x6 (k0_pay2 (F := Ideal))) := by
  frame_out
  simp (decide := true) only [↓View.readCov_skip (s := S11x8x256), ↓View.readCov_fill (s := S11x8x256)]
  simp only [View.readCov_eq_canon', chunk_0, chunk_1, chunk_2, chunk_3, chunk_4, chunk_5, chunk_6, chunk_7, chunk_8, chunk_9, chunk_10]
  rfl

/-- The rows a continuing tile carries out. -/
theorem sout_B (c : Dev nD) (i : grid0.Coords) (a2 : Memref sig .tc .vmem S1x1024x1024 .f32) (h2 : a2.IsWhole) (a3 : Memref sig .tc .vmem S1024x5632 .bf16) (h3 : a3.IsWhole) (a4 : Memref sig .tc .vmem S3x2816 .f32) (h4 : a4.IsWhole) (a5 : Memref sig .tc .vmem S1x2816 .f32) (h5 : a5.IsWhole) (a6 : Memref sig .tc .vmem S2816x1024 .bf16) (h6 : a6.IsWhole) (a7 : Memref sig .tc .vmem S1x1024 .f32) (h7 : a7.IsWhole) (a8 : Memref sig .tc .vmem S1x1024 .f32) (h8 : a8.IsWhole) (a9 : Memref sig .tc .vmem S1x1024x1024 .f32) (h9 : a9.IsWhole) (a10 : Memref sig .tc .vmem S11x8x256 .f32) (h10 : a10.IsWhole) (a11 : Memref sig .tc .vmem S1024x2816 .bf16) (h11 : a11.IsWhole) (hc : ¬cond0_0 i) (x0 : Vec Ideal S1x1024x1024 .f32) (x1 : Vec Ideal S1024x5632 .bf16) (x2 : Vec Ideal S3x2816 .f32) (x3 : Vec Ideal S1x2816 .f32) (x4 : Vec Ideal S2816x1024 .bf16) (x5 : Vec Ideal S1x1024 .f32) (x6 : Vec Ideal S1x1024 .f32) (p : Vec Ideal S11x8x256 .f32) :
    sout0_B_0 c i a2 h2 a3 h3 a4 h4 a5 h5 a6 h6 a7 h7 a8 h8 a9 h9 a10 h10 a11 h11 hc x0 x1 x2 x3 x4 x5 x6 p = View.canon (carL x0 x1) := by
  frame_out
  simp only [carry_0, carry_1, carry_2, carry_3, carry_4, carry_5, carry_6, carry_7, carry_8, carry_9, carry_10]
  rfl

/-- The rows a first tile carries out, over the zeros it starts from. -/
theorem sout_A (c : Dev nD) (i : grid0.Coords) (a2 : Memref sig .tc .vmem S1x1024x1024 .f32) (h2 : a2.IsWhole) (a3 : Memref sig .tc .vmem S1024x5632 .bf16) (h3 : a3.IsWhole) (a4 : Memref sig .tc .vmem S3x2816 .f32) (h4 : a4.IsWhole) (a5 : Memref sig .tc .vmem S1x2816 .f32) (h5 : a5.IsWhole) (a6 : Memref sig .tc .vmem S2816x1024 .bf16) (h6 : a6.IsWhole) (a7 : Memref sig .tc .vmem S1x1024 .f32) (h7 : a7.IsWhole) (a8 : Memref sig .tc .vmem S1x1024 .f32) (h8 : a8.IsWhole) (a9 : Memref sig .tc .vmem S1x1024x1024 .f32) (h9 : a9.IsWhole) (a10 : Memref sig .tc .vmem S11x8x256 .f32) (h10 : a10.IsWhole) (a11 : Memref sig .tc .vmem S1024x2816 .bf16) (h11 : a11.IsWhole) (hc : cond0_0 i) (x0 : Vec Ideal S1x1024x1024 .f32) (x1 : Vec Ideal S1024x5632 .bf16) (x2 : Vec Ideal S3x2816 .f32) (x3 : Vec Ideal S1x2816 .f32) (x4 : Vec Ideal S2816x1024 .bf16) (x5 : Vec Ideal S1x1024 .f32) (x6 : Vec Ideal S1x1024 .f32) :
    sout0_A_0 c i a2 h2 a3 h3 a4 h4 a5 h5 a6 h6 a7 h7 a8 h8 a9 h9 a10 h10 a11 h11 hc x0 x1 x2 x3 x4 x5 x6
      = View.canon (carL x0 x1 ++ [⟨Rect.unit ![0, 0, 0] ![11, 8, 256] inb_S11x8x256_S11x8x256_0_0_0, (k0_pay2 (F := Ideal))⟩]) := by
  frame_out
  simp only [carry_0, carry_1, carry_2, carry_3, carry_4, carry_5, carry_6, carry_7, carry_8, carry_9, carry_10]
  rfl

end Cert.FfnIdeal.Hand
-- ==== Proof.FfnBlock.lean ====
module

public import proofs.«01_k».proof.Proof.FfnBody

@[expose] public section

set_option maxRecDepth 16384

noncomputable section

open Idealize.ShloMosaic Idealize.ShloMosaic.TcCoe Idealize.SL.Sem

/-! # One tile of the gated convolution MLP as a function of its blocks -/

namespace Cert.FfnIdeal.Hand

open Cert.FfnIdeal Cert.FfnIdeal.Gen Cert.FfnSpec

section
variable (x0 : Vec Ideal S1x1024x1024 .f32) (x1 : Vec Ideal S1024x5632 .bf16) (x2 : Vec Ideal S3x2816 .f32) (x3 : Vec Ideal S1x2816 .f32) (p : Vec Ideal S11x8x256 .f32)

/-- The first projection of the tile at a row and a hidden column. -/
def projA (f : Fin 2816) (q : Fin 1024) : EReal := ∑ x : Fin 1024, x0 (ix3 0 q x) * x1 (ix2 x ⟨(f : ℕ), by omega⟩)

/-- The gate's projection of the tile at a row and a hidden column. -/
def projU (f : Fin 2816) (q : Fin 1024) : EReal := ∑ x : Fin 1024, x0 (ix3 0 q x) * x1 (ix2 x ⟨2816 + (f : ℕ), by omega⟩)

/-- A carried row at a hidden column: the carried rows lie in eleven groups of 256 columns. -/
def carAt (f : Fin 2816) (q : Fin 8) : EReal := p (ix3 ⟨(f : ℕ) / 256, by omega⟩ q ⟨(f : ℕ) % 256, by omega⟩)

/-- The gated activation of the tile at a row and a hidden column. -/
def actAt (r : Fin 1024) (f : Fin 2816) : EReal :=
  gated (conv (x3 (ix2 0 f)) (back2 (projA x0 x1 f) (carAt p f 6) (carAt p f 7) r) (back1 (projA x0 x1 f) (carAt p f 7) r) (projA x0 x1 f r)
    (x2 (ix2 0 f)) (x2 (ix2 1 f)) (x2 (ix2 2 f))) (projU x0 x1 f r)

/-- A chunk whose loads are the chunk's parts of the blocks is that part of the activation. -/
theorem chunk_act (j : ℕ) (hj : j < 11) (wa wu : Vec Ideal S1024x256 .bf16) (car : Vec Ideal S1x8x256 .f32) (cw : Vec Ideal S3x256 .f32)
    (cb : Vec Ideal S1x256 .f32) (hwa : ∀ (x : Fin 1024) (l : Fin 256), wa (ix2 x l) = x1 (ix2 x ⟨256 * j + (l : ℕ), by omega⟩))
    (hwu : ∀ (x : Fin 1024) (l : Fin 256), wu (ix2 x l) = x1 (ix2 x ⟨256 * j + 2816 + (l : ℕ), by omega⟩))
    (hcar : ∀ (q : Fin 8) (l : Fin 256), car (ix3 0 q l) = p (ix3 ⟨j, hj⟩ q l))
    (hcw : ∀ (q : Fin 3) (l : Fin 256), cw (ix2 q l) = x2 (ix2 q ⟨256 * j + (l : ℕ), by omega⟩))
    (hcb : ∀ (l : Fin 256), cb (ix2 0 l) = x3 (ix2 0 ⟨256 * j + (l : ℕ), by omega⟩))
    (r r' : Fin 1024) (l : Fin 256) (f : Fin 2816) (hr : (r' : ℕ) = (r : ℕ)) (hf : (f : ℕ) = 256 * j + (l : ℕ)) :
    chunk x0 wa wu car cw cb (ix2 r l) = actAt x0 x1 x2 x3 p r' f := by
  obtain rfl : r = r' := Fin.ext (by omega)
  obtain ⟨f, hfb⟩ := f
  obtain rfl : f = 256 * j + (l : ℕ) := hf
  have e1 : (⟨j, hj⟩ : Fin 11) = ⟨(256 * j + (l : ℕ)) / 256, by omega⟩ := Fin.ext (by show j = (256 * j + (l : ℕ)) / 256; omega)
  have e2 : l = ⟨(256 * j + (l : ℕ)) % 256, by omega⟩ := Fin.ext (by show (l : ℕ) = (256 * j + (l : ℕ)) % 256; omega)
  have e3 : ∀ x : Fin 1024, (ix2 x ⟨256 * j + 2816 + (l : ℕ), by omega⟩ : S1024x5632.Idx) = ix2 x ⟨2816 + (256 * j + (l : ℕ)), by omega⟩ := fun x =>
    congrArg (ix2 x) (Fin.ext (by show 256 * j + 2816 + (l : ℕ) = 2816 + (256 * j + (l : ℕ)); omega))
  have hc : ∀ q : Fin 8, car (ix3 0 q l) = carAt p ⟨256 * j + (l : ℕ), by omega⟩ q := by
    intro q
    rw [hcar, e1]
    exact congrArg (fun z => p (ix3 _ q z)) e2
  rw [chunk_at]
  simp only [hwa, hwu, hcw, hcb, hc, e3]
  rfl

/-- The activation buffer after its eleven stores. -/
theorem act_eq (y : S1024x2816.Idx) : View.canon (actL x0 x1 x2 x3 p) y = actAt x0 x1 x2 x3 p (y 0) (y 1) := by
  unfold actL
  canon_tiles x h
  · rw [eq_ix2 x]
    refine chunk_act x0 x1 x2 x3 p 10 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 9 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 8 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 7 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 6 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 5 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 4 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 3 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 2 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 1 (by decide) _ _ _ _ _ (fun x l => ?_) (fun x l => ?_) (fun x l => ?_) (fun x l => ?_) (fun l => ?_)
      (x 0) (y 0) (x 1) (y 1) h0 (by simpa using h1) <;> pointwise
  · rw [eq_ix2 x]
    refine chunk_act x0 x1 x2 x3 p 0 (by decide) _ _ _ _ _ (fun x l => ?_) (fun x l => ?_) (fun x l => ?_) (fun x l => ?_) (fun l => ?_)
      (x 0) (y 0) (x 1) (y 1) h0 (by simpa using h1) <;> pointwise

/-- A row carried out, in its group of 256 columns. -/
def carOutAt (j : Fin 11) (q : Fin 8) (l : Fin 256) : EReal :=
  ∑ x : Fin 1024, x0 (ix3 0 ⟨1016 + (q : ℕ), by omega⟩ x) * x1 (ix2 x ⟨256 * (j : ℕ) + (l : ℕ), by omega⟩)

/-- The rows carried out. -/
def carOut (y : S11x8x256.Idx) : EReal := carOutAt x0 x1 (y 0) (y 1) (y 2)

/-- One chunk's carried rows. -/
theorem lastRows_at (wa : Vec Ideal S1024x256 .bf16) (q : Fin 1) (r : Fin 8) (l : Fin 256) :
    lastRows x0 wa (ix3 q r l) = ∑ x : Fin 1024, x0 (ix3 0 ⟨1016 + (r : ℕ), by omega⟩ x) * wa (ix2 x l) := by
  pointwise [lastRows, k0_pay10, k0_pay5, k0_pay4, k0_pay3]

/-- One chunk's carried rows as a part of all. -/
theorem lastRows_out (j : ℕ) (hj : j < 11) (wa : Vec Ideal S1024x256 .bf16) (hwa : ∀ (x : Fin 1024) (l : Fin 256), wa (ix2 x l) = x1 (ix2 x ⟨256 * j + (l : ℕ), by omega⟩))
    (q : Fin 1) (r : Fin 8) (l : Fin 256) (y : S11x8x256.Idx) (h0 : ((y 0 : Fin 11) : ℕ) = j) (h1 : ((y 1 : Fin 8) : ℕ) = (r : ℕ)) (h2 : ((y 2 : Fin 256) : ℕ) = (l : ℕ)) :
    lastRows x0 wa (ix3 q r l) = carOut x0 x1 y := by
  rw [lastRows_at]
  unfold carOut carOutAt
  simp only [hwa, h0, h1, h2]

/-- The stores of the carried rows, one conjunct each. -/
theorem car_pieces : View.PiecesOf (Val := Elt Ideal) (e := .f32) (carOut x0 x1) (carL x0 x1) := by
  refine ⟨fun x => ?_, fun x => ?_, fun x => ?_, fun x => ?_, fun x => ?_, fun x => ?_, fun x => ?_, fun x => ?_, fun x => ?_, fun x => ?_, fun x => ?_, trivial⟩
  · obtain ⟨q, r, l, rfl⟩ : ∃ (q : Fin 1) (r : Fin 8) (l : Fin 256), x = ix3 q r l := ⟨x 0, x 1, x 2, eq_ix3 x⟩
    refine lastRows_out x0 x1 10 (by decide) _ (fun x l => ?_) q r l _ (by show 10 + 1 * (q : ℕ) = 10; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 9 (by decide) _ (fun x l => ?_) q r l _ (by show 9 + 1 * (q : ℕ) = 9; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 8 (by decide) _ (fun x l => ?_) q r l _ (by show 8 + 1 * (q : ℕ) = 8; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 7 (by decide) _ (fun x l => ?_) q r l _ (by show 7 + 1 * (q : ℕ) = 7; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 6 (by decide) _ (fun x l => ?_) q r l _ (by show 6 + 1 * (q : ℕ) = 6; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 5 (by decide) _ (fun x l => ?_) q r l _ (by show 5 + 1 * (q : ℕ) = 5; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 4 (by decide) _ (fun x l => ?_) q r l _ (by show 4 + 1 * (q : ℕ) = 4; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 3 (by decide) _ (fun x l => ?_) q r l _ (by show 3 + 1 * (q : ℕ) = 3; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 2 (by decide) _ (fun x l => ?_) q r l _ (by show 2 + 1 * (q : ℕ) = 2; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 1 (by decide) _ (fun x l => ?_) q r l _ (by show 1 + 1 * (q : ℕ) = 1; omega) (by show 0 + 1 * (r : ℕ) = (r : ℕ); omega) (by show 0 + 1 * (l : ℕ) = (l : ℕ); omega)
    pointwise
  · obtain ⟨q, r, l, rfl⟩ : ∃ (q : Fin 1) (r : Fin 8) (l : Fin 256), x = ix3 q r l := ⟨x 0, x 1, x 2, eq_ix3 x⟩
    refine lastRows_out x0 x1 0 (by decide) _ (fun x l => ?_) q r l _ (by show 0 + 1 * (q : ℕ) = 0; omega) (by show 0 + 1 * (r : ℕ) = (r : ℕ); omega) (by show 0 + 1 * (l : ℕ) = (l : ℕ); omega)
    pointwise

/-- The carried rows after a tile, whatever lay there before. -/
theorem car_eq (L' : List (View.Piece (Elt Ideal) S11x8x256 .f32)) (y : S11x8x256.Idx) : View.canon (carL x0 x1 ++ L') y = carOut x0 x1 y :=
  View.canon_append_of_piecesOf (carOut x0 x1) L' (carL x0 x1) (car_pieces x0 x1) y (View.cover_of_tiledL (carL x0 x1) ![1, 8, 256] (by sl_kernel_rfl) y)

variable (x4 : Vec Ideal S2816x1024 .bf16) (x5 x6 : Vec Ideal S1x1024 .f32)

/-- The tile's result at a row and a column. -/
def outAt (r d : Fin 1024) : EReal :=
  lnorm (fun d => Ideal.ofBits FTy.f32 0x3F9837F0#32 * x0 (ix3 0 r d) + ∑ f : Fin 2816, actAt x0 x1 x2 x3 p r f * x4 (ix2 f d)) (x5 (ix2 0 d)) (x6 (ix2 0 d)) d

/-- A contraction over 2816 cut at 2560. -/
theorem sum_cut (A : Fin 2816 → EReal) : (∑ x : Fin 2560, A ⟨(x : ℕ), by omega⟩) + (∑ x : Fin 256, A ⟨2560 + (x : ℕ), by omega⟩) = ∑ f, A f :=
  (Fin.sum_univ_add (a := 2560) (b := 256) (f := A)).symm

/-- The layer norm over the contraction in two parts is the result's. -/
theorem tail_out (o : ℕ) (ho : o + 256 ≤ 1024) (a : Vec Ideal S256x2560 .bf16) (w : Vec Ideal S2560x1024 .bf16) (a2 : Vec Ideal S256x256 .bf16)
    (w2 : Vec Ideal S256x1024 .bf16) (ha : ∀ (r : Fin 256) (x : Fin 2560), a (ix2 r x) = actAt x0 x1 x2 x3 p ⟨o + (r : ℕ), by omega⟩ ⟨(x : ℕ), by omega⟩)
    (ha2 : ∀ (r : Fin 256) (x : Fin 256), a2 (ix2 r x) = actAt x0 x1 x2 x3 p ⟨o + (r : ℕ), by omega⟩ ⟨2560 + (x : ℕ), by omega⟩)
    (hw : ∀ (x : Fin 2560) (d : Fin 1024), w (ix2 x d) = x4 (ix2 ⟨(x : ℕ), by omega⟩ d))
    (hw2 : ∀ (x : Fin 256) (d : Fin 1024), w2 (ix2 x d) = x4 (ix2 ⟨2560 + (x : ℕ), by omega⟩ d))
    (r : Fin 256) (r' l l' : Fin 1024) (hr : (r' : ℕ) = o + (r : ℕ)) (hl : (l' : ℕ) = (l : ℕ)) :
    lnorm (fun d => Ideal.ofBits FTy.f32 0x3F9837F0#32 * x0 (ix3 0 ⟨o + (r : ℕ), by omega⟩ d)
        + (∑ x : Fin 2560, a (ix2 r x) * w (ix2 x d) + ∑ x : Fin 256, a2 (ix2 r x) * w2 (ix2 x d))) (x5 (ix2 0 l)) (x6 (ix2 0 l)) l
      = outAt x0 x1 x2 x3 p x4 x5 x6 r' l' := by
  obtain ⟨r', hrb⟩ := r'
  obtain rfl : r' = o + (r : ℕ) := hr
  obtain rfl : l' = l := Fin.ext (by omega)
  unfold outAt
  simp only [ha, ha2, hw, hw2]
  simp only [← sum_cut]

/-- A read of the activation buffer at a row and a column. -/
theorem rd_act {o0 o1 m n : ℕ} (inb : ∀ a, ![o0, o1] a + ![m, n] a ≤ S1024x2816.size a) (i : Fin m) (j : Fin n) (r : Fin 1024) (f : Fin 2816)
    (hr : (r : ℕ) = o0 + (i : ℕ)) (hf : (f : ℕ) = o1 + (j : ℕ)) :
    rd (actL x0 x1 x2 x3 p) (Rect.unit (s := S1024x2816) ![o0, o1] ![m, n] inb) (ix2 i j) = actAt x0 x1 x2 x3 p r f := by
  unfold rd
  rw [act_eq]
  exact congrArg₂ (actAt x0 x1 x2 x3 p) (Fin.ext (by rw [hr]; show o0 + 1 * (i : ℕ) = o0 + (i : ℕ); omega)) (Fin.ext (by rw [hf]; show o1 + 1 * (j : ℕ) = o1 + (j : ℕ); omega))

/-- The output tile after its four stores. -/
theorem out_eq (y : S1x1024x1024.Idx) : View.canon (outL x0 x1 x2 x3 x4 x5 x6 p) y = outAt x0 x1 x2 x3 p x4 x5 x6 (y 1) (y 2) := by
  unfold outL
  canon_tiles x h
  · rw [eq_ix3 x]
    refine (tail3_at x0 _ _ _ _ x5 x6 (x 0) (x 1) (x 2)).trans (tail_out x0 x1 x2 x3 p x4 x5 x6 768 (by decide) _ _ _ _ ?_ ?_ ?_ ?_ (x 1) (y 1) (x 2) (y 2) (by simpa using h1) h2)
    · exact fun r x => rd_act x0 x1 x2 x3 p _ r x _ _ rfl (by show (x : ℕ) = 0 + (x : ℕ); omega)
    · exact fun r x => rd_act x0 x1 x2 x3 p _ r x _ _ rfl rfl
    · exact fun x d => by pointwise
    · exact fun x d => by pointwise
  · rw [eq_ix3 x]
    refine (tail2_at x0 _ _ _ _ x5 x6 (x 0) (x 1) (x 2)).trans (tail_out x0 x1 x2 x3 p x4 x5 x6 512 (by decide) _ _ _ _ ?_ ?_ ?_ ?_ (x 1) (y 1) (x 2) (y 2) (by simpa using h1) h2)
    · exact fun r x => rd_act x0 x1 x2 x3 p _ r x _ _ rfl (by show (x : ℕ) = 0 + (x : ℕ); omega)
    · exact fun r x => rd_act x0 x1 x2 x3 p _ r x _ _ rfl rfl
    · exact fun x d => by pointwise
    · exact fun x d => by pointwise
  · rw [eq_ix3 x]
    refine (tail1_at x0 _ _ _ _ x5 x6 (x 0) (x 1) (x 2)).trans (tail_out x0 x1 x2 x3 p x4 x5 x6 256 (by decide) _ _ _ _ ?_ ?_ ?_ ?_ (x 1) (y 1) (x 2) (y 2) (by simpa using h1) h2)
    · exact fun r x => rd_act x0 x1 x2 x3 p _ r x _ _ rfl (by show (x : ℕ) = 0 + (x : ℕ); omega)
    · exact fun r x => rd_act x0 x1 x2 x3 p _ r x _ _ rfl rfl
    · exact fun x d => by pointwise
    · exact fun x d => by pointwise
  · rw [eq_ix3 x]
    refine (tail0_at x0 _ _ _ _ x5 x6 (x 0) (x 1) (x 2)).trans (tail_out x0 x1 x2 x3 p x4 x5 x6 0 (by decide) _ _ _ _ ?_ ?_ ?_ ?_ (x 1) (y 1) (x 2) (y 2) (by simpa using h1) h2)
    · exact fun r x => rd_act x0 x1 x2 x3 p _ r x _ _ rfl (by show (x : ℕ) = 0 + (x : ℕ); omega)
    · exact fun r x => rd_act x0 x1 x2 x3 p _ r x _ _ rfl rfl
    · exact fun x d => by pointwise
    · exact fun x d => by pointwise

end

end Cert.FfnIdeal.Hand
-- ==== Proof.FfnValue.lean ====
module

public import proofs.«01_k».proof.Proof.FfnBlock

@[expose] public section

set_option maxRecDepth 16384

noncomputable section

open Idealize.ShloMosaic Idealize.ShloMosaic.TcCoe Idealize.SL.Sem
open Idealize.ShloMosaic.Pipeline (Dat)

/-! # The gated convolution MLP over whole arrays, and the array the kernel leaves -/

namespace Cert.FfnSpec

/-- The row `k` back in the sequence, zero before its start. -/
def prev (k : ℕ) (A : Fin 4096 → EReal) (s : Fin 4096) : EReal := if h : k ≤ (s : ℕ) then A ⟨(s : ℕ) - k, by omega⟩ else 0

section
variable (h : Fin 8 → Fin 4096 → Fin 1024 → EReal) (wi : Fin 1024 → Fin 5632 → EReal) (cw : Fin 3 → Fin 2816 → EReal) (cb : Fin 2816 → EReal)
  (wo : Fin 2816 → Fin 1024 → EReal) (g b : Fin 1024 → EReal)

/-- The first projection. -/
def aAt (n : Fin 8) (f : Fin 2816) (s : Fin 4096) : EReal := ∑ x, h n s x * wi x ⟨(f : ℕ), by omega⟩

/-- The gate's projection. -/
def uAt (n : Fin 8) (f : Fin 2816) (s : Fin 4096) : EReal := ∑ x, h n s x * wi x ⟨2816 + (f : ℕ), by omega⟩

/-- The gated activation. -/
def actSeq (n : Fin 8) (s : Fin 4096) (f : Fin 2816) : EReal :=
  gated (conv (cb f) (prev 2 (aAt h wi n f) s) (prev 1 (aAt h wi n f) s) (aAt h wi n f s) (cw 0 f) (cw 1 f) (cw 2 f)) (uAt h wi n f s)

/-- The block's result. -/
def ffnAt (n : Fin 8) (s : Fin 4096) (d : Fin 1024) : EReal :=
  lnorm (fun d => Ideal.ofBits FTy.f32 0x3F9837F0#32 * h n s d + ∑ f, actSeq h wi cw cb n s f * wo f d) (g d) (b d) d

end

end Cert.FfnSpec

namespace Cert.FfnIdeal.Hand

open Cert.FfnIdeal Cert.FfnIdeal.Gen Cert.FfnSpec

variable (m : (b : Loc nD τ sig) → Buf (Elt Ideal) b) (c : Dev nD)

/-- The windows' blocks, all grid points at once. -/
theorem idx_tab : ∀ t : Fin cfg0.N, win0_0.index t = ![t.val / 4, t.val % 4, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![t.val / 4, t.val % 4, 0] :=
  (by decide +kernel : ∀ t : Fin grid0.N, _)

/-- The hidden state, the weights and the norm's parameters as the spec reads them. -/
def hA (n : Fin 8) (s : Fin 4096) (x : Fin 1024) : EReal := m ((c : Thread nD τ).loc main_arg0) (ix3 n s x)
def wiA (x : Fin 1024) (f : Fin 5632) : EReal := m ((c : Thread nD τ).loc main_arg1) (ix3 0 x f)
def cwA (q : Fin 3) (f : Fin 2816) : EReal := m ((c : Thread nD τ).loc main_arg2) (ix3 0 q f)
def cbA (f : Fin 2816) : EReal := m ((c : Thread nD τ).loc main_arg3) (ix2 0 f)
def woA (f : Fin 2816) (d : Fin 1024) : EReal := m ((c : Thread nD τ).loc main_arg4) (ix3 0 f d)
def gA (d : Fin 1024) : EReal := m ((c : Thread nD τ).loc main_arg5) (ix2 0 d)
def bA (d : Fin 1024) : EReal := m ((c : Thread nD τ).loc main_arg6) (ix2 0 d)

theorem blk0_at (t : Fin cfg0.N) (q x : Fin 1024) : iblk m c 0 t (ix3 0 q x)
    = hA m c ⟨t.val / 4, by have : t.val < 32 := t.isLt; omega⟩ ⟨1024 * (t.val % 4) + (q : ℕ), by omega⟩ x := by
  unfold hA
  blk_ext [iblk, V, idx_tab t]

theorem blk1_at (t : Fin cfg0.N) (x : Fin 1024) (f : Fin 5632) : iblk m c 1 t (ix2 x f) = wiA m c x f := by
  unfold wiA
  blk_simp [iblk, idx_tab t]
  entry_read
  pointwise
  blk_ext [idx_tab t]

theorem blk2_at (t : Fin cfg0.N) (x : Fin 3) (f : Fin 2816) : iblk m c 2 t (ix2 x f) = cwA m c x f := by
  unfold cwA
  blk_simp [iblk, idx_tab t]
  entry_read
  pointwise
  blk_ext [idx_tab t]

theorem blk3_at (t : Fin cfg0.N) (f : Fin 2816) : iblk m c 3 t (ix2 0 f) = cbA m c f := by
  unfold cbA
  blk_simp [iblk, idx_tab t]
  entry_read
  pointwise
  blk_ext [idx_tab t]

theorem blk4_at (t : Fin cfg0.N) (f : Fin 2816) (d : Fin 1024) : iblk m c 4 t (ix2 f d) = woA m c f d := by
  unfold woA
  blk_simp [iblk, idx_tab t]
  entry_read
  pointwise
  blk_ext [idx_tab t]

theorem blk5_at (t : Fin cfg0.N) (d : Fin 1024) : iblk m c 5 t (ix2 0 d) = gA m c d := by
  unfold gA
  blk_simp [iblk, idx_tab t]
  entry_read
  pointwise
  blk_ext [idx_tab t]

theorem blk6_at (t : Fin cfg0.N) (d : Fin 1024) : iblk m c 6 t (ix2 0 d) = bA m c d := by
  unfold bA
  blk_simp [iblk, idx_tab t]
  entry_read
  pointwise
  blk_ext [idx_tab t]

/-- The rows a tile leaves for the next one: its last eight rows of the first projection, whichever case the tile is. -/
theorem carry_at (t : Fin cfg0.N) : (outsAt0 m c t.val t.isLt).2 = carOut (iblk m c 0 t) (iblk m c 1 t) := by
  by_cases h0 : t.val % 4 = 0
  · rw [outsAt0_A m c t h0]
    dsimp only
    rw [sout_A]
    exact funext fun y => car_eq _ _ _ y
  · rw [outsAt0_B m c t h0]
    dsimp only
    rw [sout_B]
    exact funext fun y => (congrArg (fun L => View.canon L y) (List.append_nil _).symm).trans (car_eq _ _ [] y)

variable (t : Fin cfg0.N)

/-- The tile's first projection is the sequence's, at the tile's rows. -/
theorem projA_at (f : Fin 2816) (q : Fin 1024) : projA (iblk m c 0 t) (iblk m c 1 t) f q
    = aAt (hA m c) (wiA m c) ⟨t.val / 4, by have : t.val < 32 := t.isLt; omega⟩ f ⟨1024 * (t.val % 4) + (q : ℕ), by omega⟩ := by
  unfold projA aAt
  simp only [blk0_at, blk1_at]

/-- The tile's gate likewise. -/
theorem projU_at (f : Fin 2816) (q : Fin 1024) : projU (iblk m c 0 t) (iblk m c 1 t) f q
    = uAt (hA m c) (wiA m c) ⟨t.val / 4, by have : t.val < 32 := t.isLt; omega⟩ f ⟨1024 * (t.val % 4) + (q : ℕ), by omega⟩ := by
  unfold projU uAt
  simp only [blk0_at, blk1_at]

/-- Two reads of a sequence at rows that agree. -/
theorem seq_congr (A : Fin 4096 → EReal) {i j : ℕ} (hi : i < 4096) (hj : j < 4096) (h : i = j) : A ⟨i, hi⟩ = A ⟨j, hj⟩ := by
  subst h; rfl

/-- Rows before the tile, read from carried rows that hold the sequence's, or zeros at its start. -/
theorem back2_prev (A : Fin 4096 → EReal) (k : ℕ) (hk : k < 4) (c6 c7 : EReal)
    (h6 : c6 = if h : 0 < k then A ⟨1024 * k - 2, by omega⟩ else 0) (h7 : c7 = if h : 0 < k then A ⟨1024 * k - 1, by omega⟩ else 0) (r : Fin 1024) :
    back2 (fun q => A ⟨1024 * k + (q : ℕ), by omega⟩) c6 c7 r = prev 2 A ⟨1024 * k + (r : ℕ), by omega⟩ := by
  have hr := r.isLt
  unfold back2 prev
  subst h6 h7
  by_cases h2 : 2 ≤ (r : ℕ)
  · rw [dif_pos h2, dif_pos (show 2 ≤ 1024 * k + (r : ℕ) by omega)]
    exact seq_congr A _ _ (show 1024 * k + ((r : ℕ) - 2) = 1024 * k + (r : ℕ) - 2 by omega)
  · rw [dif_neg h2]
    by_cases hk0 : 0 < k
    · rw [dif_pos hk0, dif_pos hk0, dif_pos (show 2 ≤ 1024 * k + (r : ℕ) by omega)]
      by_cases h1 : (r : ℕ) = 1
      · rw [if_pos h1]
        exact seq_congr A _ _ (show 1024 * k - 1 = 1024 * k + (r : ℕ) - 2 by omega)
      · rw [if_neg h1]
        exact seq_congr A _ _ (show 1024 * k - 2 = 1024 * k + (r : ℕ) - 2 by omega)
    · rw [dif_neg hk0, dif_neg hk0, dif_neg (show ¬2 ≤ 1024 * k + (r : ℕ) by omega), ite_self]

/-- The row just before likewise. -/
theorem back1_prev (A : Fin 4096 → EReal) (k : ℕ) (hk : k < 4) (c7 : EReal) (h7 : c7 = if h : 0 < k then A ⟨1024 * k - 1, by omega⟩ else 0)
    (r : Fin 1024) :
    back1 (fun q => A ⟨1024 * k + (q : ℕ), by omega⟩) c7 r = prev 1 A ⟨1024 * k + (r : ℕ), by omega⟩ := by
  have hr := r.isLt
  unfold back1 prev
  subst h7
  by_cases h1 : 1 ≤ (r : ℕ)
  · rw [dif_pos h1, dif_pos (show 1 ≤ 1024 * k + (r : ℕ) by omega)]
    exact seq_congr A _ _ (show 1024 * k + ((r : ℕ) - 1) = 1024 * k + (r : ℕ) - 1 by omega)
  · rw [dif_neg h1]
    by_cases hk0 : 0 < k
    · rw [dif_pos hk0, dif_pos (show 1 ≤ 1024 * k + (r : ℕ) by omega)]
      exact seq_congr A _ _ (show 1024 * k - 1 = 1024 * k + (r : ℕ) - 1 by omega)
    · rw [dif_neg hk0, dif_neg (show ¬1 ≤ 1024 * k + (r : ℕ) by omega)]

/-- The carried rows as the tile uses them: the sequence's rows before the tile, zero at its start. -/
def CarOk (p : Vec Ideal S11x8x256 .f32) : Prop :=
  ∀ f : Fin 2816,
    (carAt p f 6 = if h : 0 < t.val % 4 then
        aAt (hA m c) (wiA m c) ⟨t.val / 4, by have : t.val < 32 := t.isLt; omega⟩ f ⟨1024 * (t.val % 4) - 2, by omega⟩ else 0) ∧
    (carAt p f 7 = if h : 0 < t.val % 4 then
        aAt (hA m c) (wiA m c) ⟨t.val / 4, by have : t.val < 32 := t.isLt; omega⟩ f ⟨1024 * (t.val % 4) - 1, by omega⟩ else 0)

/-- The tile's activation is the sequence's. -/
theorem actAt_seq (p : Vec Ideal S11x8x256 .f32) (hp : CarOk m c t p) (r : Fin 1024) (f : Fin 2816) :
    actAt (iblk m c 0 t) (iblk m c 1 t) (iblk m c 2 t) (iblk m c 3 t) p r f
      = actSeq (hA m c) (wiA m c) (cwA m c) (cbA m c) ⟨t.val / 4, by have : t.val < 32 := t.isLt; omega⟩ ⟨1024 * (t.val % 4) + (r : ℕ), by omega⟩ f := by
  have e : projA (iblk m c 0 t) (iblk m c 1 t) f
      = fun q : Fin 1024 => aAt (hA m c) (wiA m c) ⟨t.val / 4, by have : t.val < 32 := t.isLt; omega⟩ f ⟨1024 * (t.val % 4) + (q : ℕ), by omega⟩ :=
    funext fun q => projA_at m c t f q
  unfold actAt actSeq
  rw [e, back2_prev _ (t.val % 4) (by omega) _ _ (hp f).1 (hp f).2 r, back1_prev _ (t.val % 4) (by omega) _ (hp f).2 r, projU_at, blk3_at, blk2_at, blk2_at, blk2_at]

/-- The tile's result is the sequence's. -/
theorem outAt_seq (p : Vec Ideal S11x8x256 .f32) (hp : CarOk m c t p) (r d : Fin 1024) :
    outAt (iblk m c 0 t) (iblk m c 1 t) (iblk m c 2 t) (iblk m c 3 t) p (iblk m c 4 t) (iblk m c 5 t) (iblk m c 6 t) r d
      = ffnAt (hA m c) (wiA m c) (cwA m c) (cbA m c) (woA m c) (gA m c) (bA m c) ⟨t.val / 4, by have : t.val < 32 := t.isLt; omega⟩
          ⟨1024 * (t.val % 4) + (r : ℕ), by omega⟩ d := by
  unfold outAt ffnAt
  simp only [actAt_seq m c t p hp, blk0_at, blk4_at, blk5_at, blk6_at]

/-- At the start of a sequence the carried rows are the zeros stored there. -/
theorem carOk_zero (h0 : t.val % 4 = 0) : CarOk m c t (k0_pay2 (F := Ideal)) := by
  have z : ∀ y, (k0_pay2 (F := Ideal) : Vec Ideal S11x8x256 .f32) y = (0 : EReal) := by
    intro y
    idx_vars y
    pointwise [k0_pay2]
  intro f
  rw [dif_neg (by omega), dif_neg (by omega)]
  exact ⟨z _, z _⟩

/-- Elsewhere they are what the tile before left. -/
theorem carOk_carried (h0 : ¬t.val % 4 = 0) (s : Fin cfg0.N) (hs : s.val + 1 = t.val) : CarOk m c t (carOut (iblk m c 0 s) (iblk m c 1 s)) := by
  have ht : t.val < 32 := t.isLt
  have key : ∀ (f : Fin 2816) (q : Fin 8), carAt (carOut (iblk m c 0 s) (iblk m c 1 s)) f q
      = aAt (hA m c) (wiA m c) ⟨t.val / 4, by omega⟩ f ⟨1024 * (t.val % 4) - 8 + (q : ℕ), by omega⟩ := by
    intro f q
    have hq := q.isLt
    show carOutAt (iblk m c 0 s) (iblk m c 1 s) ⟨(f : ℕ) / 256, _⟩ q ⟨(f : ℕ) % 256, _⟩ = _
    unfold carOutAt aAt
    simp only [blk0_at, blk1_at]
    refine Finset.sum_congr rfl fun x _ => ?_
    refine congrArg₂ (· * ·) ?_ ?_
    · exact congrArg₂ (fun a b => hA m c a b x) (Fin.ext (by show s.val / 4 = t.val / 4; omega))
        (Fin.ext (by show 1024 * (s.val % 4) + (1016 + (q : ℕ)) = 1024 * (t.val % 4) - 8 + (q : ℕ); omega))
    · exact congrArg (wiA m c x) (Fin.ext (by show 256 * ((f : ℕ) / 256) + (f : ℕ) % 256 = (f : ℕ); omega))
  intro f
  rw [dif_pos (by omega), dif_pos (by omega), key, key]
  exact ⟨seq_congr _ _ _ (by show 1024 * (t.val % 4) - 8 + 6 = _; omega), seq_congr _ _ _ (by show 1024 * (t.val % 4) - 8 + 7 = _; omega)⟩

/-- The array the kernel leaves. -/
def outArr : S8x4096x1024.Idx → EReal := fun i =>
  ffnAt (hA m c) (wiA m c) (cwA m c) (cbA m c) (woA m c) (gA m c) (bA m c) (i 0) (i 1) (i 2)

/-- What a tile leaves in the output's buffer. -/
theorem tile_at (q : Fin 1) (r d : Fin 1024) : (outsAt0 m c t.val t.isLt).1 (ix3 q r d)
    = ffnAt (hA m c) (wiA m c) (cwA m c) (cbA m c) (woA m c) (gA m c) (bA m c) ⟨t.val / 4, by have : t.val < 32 := t.isLt; omega⟩
        ⟨1024 * (t.val % 4) + (r : ℕ), by omega⟩ d := by
  by_cases h0 : t.val % 4 = 0
  · rw [outsAt0_A m c t h0]
    dsimp only
    rw [out_A, out_eq]
    exact outAt_seq m c t _ (carOk_zero m c t h0) r d
  · have ht : t.val < 32 := t.isLt
    rw [outsAt0_B m c t h0]
    dsimp only
    rw [out_B, out_eq]
    have e : (outsAt0 m c (t.val - 1) (by show t.val - 1 < 32; omega)).2 = _ := carry_at m c ⟨t.val - 1, by show t.val - 1 < 32; omega⟩
    rw [e]
    exact outAt_seq m c t _ (carOk_carried m c t h0 ⟨t.val - 1, by show t.val - 1 < 32; omega⟩ (by show t.val - 1 + 1 = t.val; omega)) r d

/-- The output array after the run. -/
theorem final : (dats m 0 c).arrAt 7 cfg0.N = outArr m c := by
  refine (dats m 0 c).arrAt_eq_of_covers 7 _ (by decide +kernel) fun t hf y => ?_
  obtain ⟨q, r, d, rfl⟩ : ∃ (q : Fin 1) (r d : Fin 1024), y = ix3 q r d := ⟨y 0, y 1, y 2, eq_ix3 y⟩
  blk_simp
  rw [after0_7]
  refine (tile_at m c t q r d).trans ?_
  unfold outArr
  have ht : t.val < 32 := t.isLt
  refine congr (congrArg₂ _ (Fin.ext ?_) (Fin.ext ?_)) (Fin.ext ?_)
  all_goals blk_simp [idx_tab t]
  show 1024 * (t.val % 4) + (r : ℕ) = _
  omega

end Cert.FfnIdeal.Hand
-- ==== Proof.FfnRef.lean ====
module

public import proofs.«01_k».proof.Proof.Gen.FfnRefIdeal.Read
public import proofs.«01_k».proof.Proof.FfnValue

@[expose] public section

set_option maxRecDepth 16384

noncomputable section

open Idealize.ShloMosaic Idealize.ShloMosaic.TcCoe Idealize.SL.Sem

/-! # The reference of the gated convolution MLP, element by element -/

namespace Cert.FfnRefIdeal.Hand

open Cert.FfnRefIdeal Cert.FfnRefIdeal.Gen Cert.FfnRefIdeal.Read Cert.FfnSpec

variable (x0 : FVec Ideal S8x4096x1024 .f32) (x1 : FVec Ideal S1x1024x5632 .f32) (x2 : FVec Ideal S1x3x2816 .f32) (x3 : FVec Ideal S1x2816 .f32)
  (x4 : FVec Ideal S1x2816x1024 .f32) (x5 x6 : FVec Ideal S1x1024 .f32)

/-- The first projection. -/
theorem ref_a (n : Fin 8) (s : Fin 4096) (f : Fin 2816) : val_main_v2 (F := Ideal) x0 x1 (ix3 n s f)
    = aAt (fun n s x => x0 (ix3 n s x)) (fun x f => x1 (ix3 0 x f)) n f s := by
  pointwise [val_main_v2, val_main_v1, val_main_v0, aAt]

/-- The gate's projection. -/
theorem ref_u (n : Fin 8) (s : Fin 4096) (f : Fin 2816) : val_main_v3 (F := Ideal) x0 x1 (ix3 n s f)
    = uAt (fun n s x => x0 (ix3 n s x)) (fun x f => x1 (ix3 0 x f)) n f s := by
  pointwise [val_main_v3, val_main_v1, val_main_v0, uAt]

/-- Two zero rows before the sequence. -/
theorem ref_pad (n : Fin 8) (s : Fin 4098) (f : Fin 2816) : val_main_v6 (F := Ideal) x0 x1 (ix3 n s f)
    = if h : 2 ≤ (s : ℕ) then val_main_v2 (F := Ideal) x0 x1 (ix3 n ⟨(s : ℕ) - 2, by omega⟩ f) else 0 := by
  pointwise [val_main_v6, val_main_call0_v0, val_main_c]
  have z : (FloatOps.sitofp (F := Ideal) FTy.f32 0#32 : EReal) = 0 := by simp [FloatOps.sitofp]
  by_cases h : 2 ≤ (s : ℕ)
  · rw [dif_pos h, dif_pos (by omega)]
  · rw [dif_neg h, dif_neg (by omega), z]

/-- The filter of width three. -/
theorem ref_conv (n : Fin 8) (s : Fin 4096) (f : Fin 2816) : val_main_v29 (F := Ideal) x0 x1 x2 x3 (ix3 n s f)
    = conv (x3 (ix2 0 f)) (val_main_v6 (F := Ideal) x0 x1 (ix3 n ⟨(s : ℕ), by omega⟩ f)) (val_main_v6 (F := Ideal) x0 x1 (ix3 n ⟨1 + (s : ℕ), by omega⟩ f))
        (val_main_v6 (F := Ideal) x0 x1 (ix3 n ⟨2 + (s : ℕ), by omega⟩ f)) (x2 (ix3 0 0 f)) (x2 (ix3 0 1 f)) (x2 (ix3 0 2 f)) := by
  pointwise [val_main_v4, val_main_v5, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, conv]

/-- The gated activation. -/
theorem ref_act (n : Fin 8) (s : Fin 4096) (f : Fin 2816) : val_main_v38 (F := Ideal) x0 x1 x2 x3 (ix3 n s f)
    = gated (val_main_v29 (F := Ideal) x0 x1 x2 x3 (ix3 n s f)) (val_main_v3 (F := Ideal) x0 x1 (ix3 n s f)) := by
  pointwise [val_main_v30, val_main_v31, val_main_v32, val_main_v33, val_main_v34, val_main_v35, val_main_v36, val_main_v37, val_main_v38, val_main_cst, val_main_cst_0, val_main_cst_1, gated]
  rfl

/-- The row before its norm. -/
theorem ref_row (n : Fin 8) (s : Fin 4096) (d : Fin 1024) : val_main_v43 (F := Ideal) x0 x1 x2 x3 x4 (ix3 n s d)
    = Ideal.ofBits FTy.f32 0x3F9837F0#32 * x0 (ix3 n s d) + ∑ f : Fin 2816, val_main_v38 (F := Ideal) x0 x1 x2 x3 (ix3 n s f) * x4 (ix3 0 f d) := by
  pointwise [val_main_v39, val_main_v40, val_main_v41, val_main_v42, val_main_v43, val_main_cst_2]

/-- The mean of a row. -/
theorem ref_mean (n : Fin 8) (s : Fin 4096) (q : Fin 1) : val_main_v49 (F := Ideal) x0 x1 x2 x3 x4 (ix3 n s q)
    = Ideal.div (∑ d : Fin 1024, val_main_v43 (F := Ideal) x0 x1 x2 x3 x4 (ix3 n s d)) (Ideal.ofBits FTy.f32 0x44800000#32) := by
  pointwise [val_main_v46, val_main_v47, val_main_v48, val_main_v49, val_main_cst_3, val_main_cst_4]

/-- A row's deviation from its mean. -/
theorem ref_dev (n : Fin 8) (s : Fin 4096) (d : Fin 1024) : val_main_v51 (F := Ideal) x0 x1 x2 x3 x4 (ix3 n s d)
    = val_main_v43 (F := Ideal) x0 x1 x2 x3 x4 (ix3 n s d) - val_main_v49 (F := Ideal) x0 x1 x2 x3 x4 (ix3 n s 0) := by
  pointwise [val_main_v50, val_main_v51]

/-- The norm of a row. -/
theorem ref_norm (n : Fin 8) (s : Fin 4096) (d : Fin 1024) : val_main_v69 (F := Ideal) x0 x1 x2 x3 x4 x5 x6 (ix3 n s d)
    = lnorm (fun d => val_main_v43 (F := Ideal) x0 x1 x2 x3 x4 (ix3 n s d)) (x5 (ix2 0 d)) (x6 (ix2 0 d)) d := by
  pointwise [val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v44, val_main_v45, val_main_cst_5, val_main_cst_6, val_main_cst_7]
  simp only [ref_dev, ref_mean]
  rfl

/-- The filter's rows before the sequence are zeros. -/
theorem ref_prev (k : ℕ) (hk : k ≤ 2) (n : Fin 8) (s : Fin 4096) (f : Fin 2816) (hs : 2 - k + (s : ℕ) < 4098) :
    val_main_v6 (F := Ideal) x0 x1 (ix3 n ⟨2 - k + (s : ℕ), hs⟩ f)
      = prev k (aAt (fun n s x => x0 (ix3 n s x)) (fun x f => x1 (ix3 0 x f)) n f) s := by
  rw [ref_pad]
  unfold prev
  by_cases h : k ≤ (s : ℕ)
  · rw [dif_pos h, dif_pos (show 2 ≤ 2 - k + (s : ℕ) by omega), ref_a]
    exact congrArg _ (Fin.ext (show 2 - k + (s : ℕ) - 2 = (s : ℕ) - k by omega))
  · rw [dif_neg h, dif_neg (show ¬2 ≤ 2 - k + (s : ℕ) by omega)]

/-- The reference at an index. -/
theorem ref_at (n : Fin 8) (s : Fin 4096) (d : Fin 1024) : val_main_v69 (F := Ideal) x0 x1 x2 x3 x4 x5 x6 (ix3 n s d)
    = ffnAt (fun n s x => x0 (ix3 n s x)) (fun x f => x1 (ix3 0 x f)) (fun q f => x2 (ix3 0 q f)) (fun f => x3 (ix2 0 f)) (fun f d => x4 (ix3 0 f d))
        (fun d => x5 (ix2 0 d)) (fun d => x6 (ix2 0 d)) n s d := by
  have e : ∀ f : Fin 2816, val_main_v38 (F := Ideal) x0 x1 x2 x3 (ix3 n s f)
      = actSeq (fun n s x => x0 (ix3 n s x)) (fun x f => x1 (ix3 0 x f)) (fun q f => x2 (ix3 0 q f)) (fun f => x3 (ix2 0 f)) n s f := by
    intro f
    have p2 := ref_prev x0 x1 2 (by omega) n s f (by omega)
    have p1 := ref_prev x0 x1 1 (by omega) n s f (by omega)
    have p0 := ref_prev x0 x1 0 (by omega) n s f (by omega)
    have z : ∀ A : Fin 4096 → EReal, prev 0 A s = A s := fun A => by
      unfold prev
      rw [dif_pos (Nat.zero_le _)]
      rfl
    rw [z] at p0
    simp only [Nat.sub_self, Nat.zero_add, Nat.sub_zero, Nat.reduceSub] at p2 p1 p0
    rw [ref_act, ref_conv, ref_u, p2, p1, p0]
    rfl
  rw [ref_norm]
  simp only [ref_row, e]
  rfl

end Cert.FfnRefIdeal.Hand
-- ==== Proof.MixBody.lean ====
module

public import proofs.«01_k».proof.Proof.Gen.MixIdeal.Value
public import Idealize.ShloMosaic.Lib.Pipeline.ValueKit
public import Idealize.ShloMosaic.Lib.Pointwise
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

/-! # What one grid point of the mixer stores, in both cases, over one text -/

namespace Cert.MixIdeal.Hand

open Cert.MixIdeal Cert.MixIdeal.Gen

/-- The row buffer: sixteen rows of `C`, then the tile's rows of `P`. -/
def over (P : Vec Ideal S1024x512 .f32) (C : Vec Ideal S1040x512 .f32) : Vec Ideal S1040x512 .f32 := fun y =>
  if h : 16 ≤ (y 0 : ℕ) then P (ix2 ⟨(y 0 : ℕ) - 16, by have : (y 0 : ℕ) < 1040 := (y 0).isLt; omega⟩ (y 1)) else C y

/-- The gated sum of the two branches, over the row buffer `b`. -/
def mixed (iv : BitVec 32) (x0 : Vec Ideal S1x1024x1024 .f32) (x1 : Vec Ideal S1x4x512x256 .bf16) (x3 : Vec Ideal S1024x2048 .bf16) (x4 : Vec Ideal S4x128x128 .bf16)
    (x5 : Vec Ideal S1x512 .f32) (x6 x7 : Vec Ideal S512x1024 .bf16) (P : Vec Ideal S1024x512 .f32) (b : Vec Ideal S1040x512 .f32) : Vec Ideal S1024x1024 .f32 :=
  k0_pay23 (k0_pay6 x0 x3) (k0_pay11 (k0_pay7 (View.ld x1 (Rect.unit ![0, 0, 0, 0] ![1, 1, 512, 256] inb_S1x4x512x256_S1x1x512x256_0_0_0_0)) x6) (k0_pay8 (View.ld x1
    (Rect.unit ![0, 1, 0, 0] ![1, 1, 512, 256] inb_S1x4x512x256_S1x1x512x256_0_1_0_0)) x6) (k0_pay9 (View.ld x1 (Rect.unit ![0, 2, 0, 0] ![1, 1, 512, 256]
    inb_S1x4x512x256_S1x1x512x256_0_2_0_0))) (k0_pay10 x6) (View.ld x1 (Rect.unit ![0, 3, 0, 0] ![1, 1, 512, 256] inb_S1x4x512x256_S1x1x512x256_0_3_0_0)) x6) (k0_pay13
    iv) (k0_pay14 iv P (View.ld b (Rect.unit ![15, 0] ![1024, 128] inb_S1040x512_S1024x128_15_0)) (View.ld x4 (Rect.unit ![0, 0, 0] ![1, 128, 128]
    inb_S4x128x128_S1x128x128_0_0_0))) (k0_pay17 (k0_pay13 iv) (k0_pay15 P) (k0_pay16 P (View.ld b (Rect.unit ![15, 128] ![1024, 128] inb_S1040x512_S1024x128_15_128))
    (View.ld b (Rect.unit ![14, 128] ![1024, 128] inb_S1040x512_S1024x128_14_128))) (View.ld b (Rect.unit ![13, 128] ![1024, 128] inb_S1040x512_S1024x128_13_128))
    (View.ld x4 (Rect.unit ![1, 0, 0] ![1, 128, 128] inb_S4x128x128_S1x128x128_1_0_0))) (k0_pay19 (k0_pay18 P (k0_pay13 iv) (View.ld b (Rect.unit ![15, 256] ![1024, 128]
    inb_S1040x512_S1024x128_15_256)) (View.ld b (Rect.unit ![14, 256] ![1024, 128] inb_S1040x512_S1024x128_14_256)) (View.ld b (Rect.unit ![13, 256] ![1024, 128]
    inb_S1040x512_S1024x128_13_256)) (View.ld b (Rect.unit ![12, 256] ![1024, 128] inb_S1040x512_S1024x128_12_256)) (View.ld b (Rect.unit ![11, 256] ![1024, 128]
    inb_S1040x512_S1024x128_11_256)) (View.ld b (Rect.unit ![10, 256] ![1024, 128] inb_S1040x512_S1024x128_10_256)) (View.ld b (Rect.unit ![9, 256] ![1024, 128]
    inb_S1040x512_S1024x128_9_256))) (View.ld x4 (Rect.unit ![2, 0, 0] ![1, 128, 128] inb_S4x128x128_S1x128x128_2_0_0))) (k0_pay20 P) (k0_pay21 P (View.ld b (Rect.unit
    ![15, 384] ![1024, 128] inb_S1040x512_S1024x128_15_384)) (View.ld b (Rect.unit ![14, 384] ![1024, 128] inb_S1040x512_S1024x128_14_384)) (View.ld b (Rect.unit ![13,
    384] ![1024, 128] inb_S1040x512_S1024x128_13_384)) (View.ld b (Rect.unit ![12, 384] ![1024, 128] inb_S1040x512_S1024x128_12_384)) (View.ld b (Rect.unit ![11, 384]
    ![1024, 128] inb_S1040x512_S1024x128_11_384)) (View.ld b (Rect.unit ![10, 384] ![1024, 128] inb_S1040x512_S1024x128_10_384)) (View.ld b (Rect.unit ![9, 384] ![1024,
    128] inb_S1040x512_S1024x128_9_384)) (View.ld b (Rect.unit ![8, 384] ![1024, 128] inb_S1040x512_S1024x128_8_384)) (View.ld b (Rect.unit ![7, 384] ![1024, 128]
    inb_S1040x512_S1024x128_7_384)) (View.ld b (Rect.unit ![6, 384] ![1024, 128] inb_S1040x512_S1024x128_6_384)) (View.ld b (Rect.unit ![5, 384] ![1024, 128]
    inb_S1040x512_S1024x128_5_384)) (View.ld b (Rect.unit ![4, 384] ![1024, 128] inb_S1040x512_S1024x128_4_384)) (View.ld b (Rect.unit ![3, 384] ![1024, 128]
    inb_S1040x512_S1024x128_3_384))) (View.ld b (Rect.unit ![2, 384] ![1024, 128] inb_S1040x512_S1024x128_2_384)) (View.ld b (Rect.unit ![1, 384] ![1024, 128]
    inb_S1040x512_S1024x128_1_384)) (View.ld x4 (Rect.unit ![3, 0, 0] ![1, 128, 128] inb_S4x128x128_S1x128x128_3_0_0)) x5 x7

/-- The four stores of the output tile, the last first. -/
def outL (x0 : Vec Ideal S1x1024x1024 .f32) (M : Vec Ideal S1024x1024 .f32) (x8 : Vec Ideal S1024x1024 .bf16) (x9 x10 : Vec Ideal S1x1024 .f32) :
    List (View.Piece (Elt Ideal) S1x1024x1024 .f32) :=
  [⟨Rect.unit ![0, 768, 0] ![1, 256, 1024] inb_S1x1024x1024_S1x256x1024_0_768_0, k0_pay1 (k0_pay31 (k0_pay3 x0) (k0_pay24 M) x8) (k0_pay32 x9) (k0_pay33 x10) (k0_pay34 (k0_pay3 x0) (k0_pay24 M) x8)⟩,
   ⟨Rect.unit ![0, 512, 0] ![1, 256, 1024] inb_S1x1024x1024_S1x256x1024_0_512_0, k0_pay30 (k0_pay29 (k0_pay3 x0) (k0_pay24 M) x8) x9 x10⟩,
   ⟨Rect.unit ![0, 256, 0] ![1, 256, 1024] inb_S1x1024x1024_S1x256x1024_0_256_0, k0_pay28 (k0_pay26 (k0_pay3 x0)) (k0_pay27 M) x8 x9 x10⟩,
   ⟨Rect.unit ![0, 0, 0] ![1, 256, 1024] inb_S1x1024x1024_S1x256x1024_0_0_0, k0_pay25 (k0_pay3 x0) M x8 x9 x10⟩]

/-- The tile's rows stored over a buffer's rows sixteen on. -/
theorem read_over (a : Memref sig .tc .vmem S1040x512 .f32) (h : a.IsWhole) (p : Vec Ideal S1040x512 .f32) (P : Vec Ideal S1024x512 .f32) :
    View.read (Elt Ideal) a.view (a.view.writes (Elt Ideal) (h.unread p) [⟨Rect.unit ![16, 0] ![1024, 512] inb_S1040x512_S1024x512_16_0, k0_pay12 (F := Ideal) P⟩]) = over P p := by
  have e : k0_pay12 (F := Ideal) P = P := by
    funext y; idx_vars y; pointwise [k0_pay12]
  rw [e]
  funext y
  unfold over
  by_cases hy : 16 ≤ (y 0 : ℕ)
  · have hlt : (y 0 : ℕ) < 1040 := (y 0).isLt
    rw [dif_pos hy]
    exact View.read_writes_cons_rows_of_mem (d := ![1040, 512]) a.view _ inb_S1040x512_S1024x512_16_0 P [] y (ix2 ⟨(y 0 : ℕ) - 16, by omega⟩ (y 1)) rfl
      (by show (y 0 : ℕ) = 16 + ((y 0 : ℕ) - 16); omega) rfl
  · rw [dif_neg hy]
    refine (View.read_writes_cons_rows_of_not_mem (d := ![1040, 512]) (W := 1024) a.view _ inb_S1040x512_S1024x512_16_0 P [] y rfl rfl (Or.inl (by omega))).trans ?_
    rw [View.writes_nil, h.read_unread]

/-- The tile's rows stored after zeros in the sixteen rows before them. -/
theorem canon_over (P : Vec Ideal S1024x512 .f32) :
    View.canon (Val := Elt Ideal) [⟨Rect.unit ![16, 0] ![1024, 512] inb_S1040x512_S1024x512_16_0, k0_pay12 (F := Ideal) P⟩, ⟨Rect.unit ![0, 0] ![16, 512] inb_S1040x512_S16x512_0_0, k0_pay2 (F := Ideal)⟩]
      = over P (fun _ => (0 : EReal)) := by
  funext y
  canon_tiles x h using (View.cover_of_tiledBy _ ![16, 512] (by sl_kernel_rfl) y)
  · rw [eq_ix2 x]
    have h0' : (y 0 : ℕ) = 16 + (x 0 : ℕ) := by simpa using h0
    unfold over
    rw [dif_pos (by omega)]
    pointwise [k0_pay12]
    refine (congrArg P (eq_ix2 x)).trans ?_
    refine congrArg₂ (fun (a : Fin 1024) (b : Fin 512) => P (ix2 a b)) (Fin.ext ?_) (Fin.ext ?_)
    · show (x 0 : ℕ) = (y 0 : ℕ) - 16
      omega
    · simpa using h1.symm
  · rw [eq_ix2 x]
    have hx : (x 0 : ℕ) < 16 := (x 0).isLt
    have h0' : (y 0 : ℕ) = (x 0 : ℕ) := by simpa using h0
    unfold over
    rw [dif_neg (by omega)]
    pointwise [k0_pay2]

theorem out_B (c : Dev nD) (i : grid0.Coords) (a2 : Memref sig .tc .vmem S1x1024x1024 .f32) (h2 : a2.IsWhole) (a3 : Memref sig .tc .vmem S1x4x512x256 .bf16) (h3 : a3.IsWhole) (a4 : Memref sig .tc .vmem S1024x512 .bf16) (h4 : a4.IsWhole) (a5 : Memref sig .tc .vmem S1024x2048 .bf16) (h5 : a5.IsWhole) (a6 : Memref sig .tc .vmem S4x128x128 .bf16) (h6 : a6.IsWhole) (a7 : Memref sig .tc .vmem S1x512 .f32) (h7 : a7.IsWhole) (a8 : Memref sig .tc .vmem S512x1024 .bf16) (h8 : a8.IsWhole) (a9 : Memref sig .tc .vmem S512x1024 .bf16) (h9 : a9.IsWhole) (a10 : Memref sig .tc .vmem S1024x1024 .bf16) (h10 : a10.IsWhole) (a11 : Memref sig .tc .vmem S1x1024 .f32) (h11 : a11.IsWhole) (a12 : Memref sig .tc .vmem S1x1024 .f32) (h12 : a12.IsWhole) (a13 : Memref sig .tc .vmem S1x1024x1024 .f32) (h13 : a13.IsWhole) (a14 : Memref sig .tc .vmem S1040x512 .f32) (h14 : a14.IsWhole) (hc : ¬cond0_0 i) (x0 : Vec Ideal S1x1024x1024 .f32) (x1 : Vec Ideal S1x4x512x256 .bf16) (x2 : Vec Ideal S1024x512 .bf16) (x3 : Vec Ideal S1024x2048 .bf16) (x4 : Vec Ideal S4x128x128 .bf16) (x5 : Vec Ideal S1x512 .f32) (x6 : Vec Ideal S512x1024 .bf16) (x7 : Vec Ideal S512x1024 .bf16) (x8 : Vec Ideal S1024x1024 .bf16) (x9 : Vec Ideal S1x1024 .f32) (x10 : Vec Ideal S1x1024 .f32) (p : Vec Ideal S1040x512 .f32) :
    out0_B_11 c i a2 h2 a3 h3 a4 h4 a5 h5 a6 h6 a7 h7 a8 h8 a9 h9 a10 h10 a11 h11 a12 h12 a13 h13 a14 h14 hc x0 x1 x2 x3 x4 x5 x6 x7 x8 x9 x10 p
      = View.canon (outL x0 (mixed (BitVec.ofNat 32 (i 1 : ℕ)) x0 x1 x3 x4 x5 x6 x7 (k0_pay5 x0 x2) (over (k0_pay5 x0 x2) p)) x8 x9 x10) := by
  frame_out
  simp only [read_over]
  rfl

theorem out_A (c : Dev nD) (i : grid0.Coords) (a2 : Memref sig .tc .vmem S1x1024x1024 .f32) (h2 : a2.IsWhole) (a3 : Memref sig .tc .vmem S1x4x512x256 .bf16) (h3 : a3.IsWhole) (a4 : Memref sig .tc .vmem S1024x512 .bf16) (h4 : a4.IsWhole) (a5 : Memref sig .tc .vmem S1024x2048 .bf16) (h5 : a5.IsWhole) (a6 : Memref sig .tc .vmem S4x128x128 .bf16) (h6 : a6.IsWhole) (a7 : Memref sig .tc .vmem S1x512 .f32) (h7 : a7.IsWhole) (a8 : Memref sig .tc .vmem S512x1024 .bf16) (h8 : a8.IsWhole) (a9 : Memref sig .tc .vmem S512x1024 .bf16) (h9 : a9.IsWhole) (a10 : Memref sig .tc .vmem S1024x1024 .bf16) (h10 : a10.IsWhole) (a11 : Memref sig .tc .vmem S1x1024 .f32) (h11 : a11.IsWhole) (a12 : Memref sig .tc .vmem S1x1024 .f32) (h12 : a12.IsWhole) (a13 : Memref sig .tc .vmem S1x1024x1024 .f32) (h13 : a13.IsWhole) (a14 : Memref sig .tc .vmem S1040x512 .f32) (h14 : a14.IsWhole) (hc : cond0_0 i) (x0 : Vec Ideal S1x1024x1024 .f32) (x1 : Vec Ideal S1x4x512x256 .bf16) (x2 : Vec Ideal S1024x512 .bf16) (x3 : Vec Ideal S1024x2048 .bf16) (x4 : Vec Ideal S4x128x128 .bf16) (x5 : Vec Ideal S1x512 .f32) (x6 : Vec Ideal S512x1024 .bf16) (x7 : Vec Ideal S512x1024 .bf16) (x8 : Vec Ideal S1024x1024 .bf16) (x9 : Vec Ideal S1x1024 .f32) (x10 : Vec Ideal S1x1024 .f32) :
    out0_A_11 c i a2 h2 a3 h3 a4 h4 a5 h5 a6 h6 a7 h7 a8 h8 a9 h9 a10 h10 a11 h11 a12 h12 a13 h13 a14 h14 hc x0 x1 x2 x3 x4 x5 x6 x7 x8 x9 x10
      = View.canon (outL x0 (mixed (BitVec.ofNat 32 (i 1 : ℕ)) x0 x1 x3 x4 x5 x6 x7 (k0_pay5 x0 x2) (over (k0_pay5 x0 x2) (fun _ => (0 : EReal)))) x8 x9 x10) := by
  frame_out
  simp only [View.readCov_eq_canon', canon_over]
  rfl

/-- The rows carried out: sixteen from the end of the tile; the tile's rows lie after them. -/
def carOut (P : Vec Ideal S1024x512 .f32) : Vec Ideal S1040x512 .f32 := over P (fun y => P (ix2 ⟨(1008 + (y 0 : ℕ)) % 1024, by omega⟩ (y 1)))

/-- A read of the tile's last sixteen rows. -/
theorem last_rows (a : Memref sig .tc .vmem S1040x512 .f32) (P : Vec Ideal S1024x512 .f32) (L : List (View.Piece (Elt Ideal) S1040x512 .f32)) (q : Fin 16) (f : Fin 512) :
    a.view.readCov (⟨Rect.unit ![16, 0] ![1024, 512] inb_S1040x512_S1024x512_16_0, k0_pay12 (F := Ideal) P⟩ :: L)
      (Rect.unit (s := S1040x512) ![1024, 0] ![16, 512] inb_S1040x512_S16x512_1024_0).toLoadRect (ix2 q f : S16x512.Idx) = P (ix2 ⟨1008 + (q : ℕ), by omega⟩ f) := by
  rw [View.readCov_eq_canon']
  have e : (Rect.unit (s := S1040x512) ![1024, 0] ![16, 512] inb_S1040x512_S16x512_1024_0).toLoadRect.idx (ix2 q f)
      = (Rect.unit (s := S1040x512) ![16, 0] ![1024, 512] inb_S1040x512_S1024x512_16_0).emb (ix2 ⟨1008 + (q : ℕ), by omega⟩ f) := by
    funext k
    refine Fin.ext ?_
    match k with
    | ⟨0, _⟩ => show 1024 + 1 * (q : ℕ) = 16 + 1 * (1008 + (q : ℕ)); omega
    | ⟨1, _⟩ => rfl
  dsimp only
  rw [e, View.canon_cons_emb]
  pointwise [k0_pay12]

/-- The row buffer after a tile, whatever lay there before. -/
theorem car_eq (a : Memref sig .tc .vmem S1040x512 .f32) (P : Vec Ideal S1024x512 .f32) (L L' : List (View.Piece (Elt Ideal) S1040x512 .f32)) :
    View.canon (⟨Rect.unit ![0, 0] ![16, 512] inb_S1040x512_S16x512_0_0,
        k0_pay22 (a.view.readCov (⟨Rect.unit ![16, 0] ![1024, 512] inb_S1040x512_S1024x512_16_0, k0_pay12 (F := Ideal) P⟩ :: L)
          (Rect.unit (s := S1040x512) ![1024, 0] ![16, 512] inb_S1040x512_S16x512_1024_0).toLoadRect)⟩
      :: ⟨Rect.unit ![16, 0] ![1024, 512] inb_S1040x512_S1024x512_16_0, k0_pay12 (F := Ideal) P⟩ :: L') = carOut P := by
  funext y
  refine View.canon_append_of_piecesOf (carOut P) L' [⟨Rect.unit ![0, 0] ![16, 512] inb_S1040x512_S16x512_0_0, _⟩, ⟨Rect.unit ![16, 0] ![1024, 512] inb_S1040x512_S1024x512_16_0, _⟩]
    ⟨fun x => ?_, fun x => ?_, trivial⟩ y (View.cover_of_tiledBy _ ![16, 512] (by sl_kernel_rfl) y)
  · obtain ⟨q, f, rfl⟩ : ∃ (q : Fin 16) (f : Fin 512), x = ix2 q f := ⟨x 0, x 1, eq_ix2 x⟩
    have hq := q.isLt
    pointwise [k0_pay22]
    rw [last_rows]
    unfold carOut over
    rw [dif_neg (by show ¬16 ≤ 0 + 1 * (q : ℕ); omega)]
    exact congrArg₂ (fun (a : Fin 1024) (b : Fin 512) => P (ix2 a b)) (Fin.ext (by show 1008 + (q : ℕ) = (1008 + (0 + 1 * (q : ℕ))) % 1024; omega)) (Fin.ext (by show (f : ℕ) = 0 + 1 * (f : ℕ); omega))
  · obtain ⟨q, f, rfl⟩ : ∃ (q : Fin 1024) (f : Fin 512), x = ix2 q f := ⟨x 0, x 1, eq_ix2 x⟩
    pointwise [k0_pay12]
    unfold carOut over
    rw [dif_pos (by show 16 ≤ 16 + 1 * (q : ℕ); omega)]
    exact congrArg₂ (fun (a : Fin 1024) (b : Fin 512) => P (ix2 a b)) (Fin.ext (by show (q : ℕ) = 16 + 1 * (q : ℕ) - 16; omega)) (Fin.ext (by show (f : ℕ) = 0 + 1 * (f : ℕ); omega))

theorem sout_B (c : Dev nD) (i : grid0.Coords) (a2 : Memref sig .tc .vmem S1x1024x1024 .f32) (h2 : a2.IsWhole) (a3 : Memref sig .tc .vmem S1x4x512x256 .bf16) (h3 : a3.IsWhole) (a4 : Memref sig .tc .vmem S1024x512 .bf16) (h4 : a4.IsWhole) (a5 : Memref sig .tc .vmem S1024x2048 .bf16) (h5 : a5.IsWhole) (a6 : Memref sig .tc .vmem S4x128x128 .bf16) (h6 : a6.IsWhole) (a7 : Memref sig .tc .vmem S1x512 .f32) (h7 : a7.IsWhole) (a8 : Memref sig .tc .vmem S512x1024 .bf16) (h8 : a8.IsWhole) (a9 : Memref sig .tc .vmem S512x1024 .bf16) (h9 : a9.IsWhole) (a10 : Memref sig .tc .vmem S1024x1024 .bf16) (h10 : a10.IsWhole) (a11 : Memref sig .tc .vmem S1x1024 .f32) (h11 : a11.IsWhole) (a12 : Memref sig .tc .vmem S1x1024 .f32) (h12 : a12.IsWhole) (a13 : Memref sig .tc .vmem S1x1024x1024 .f32) (h13 : a13.IsWhole) (a14 : Memref sig .tc .vmem S1040x512 .f32) (h14 : a14.IsWhole) (hc : ¬cond0_0 i) (x0 : Vec Ideal S1x1024x1024 .f32) (x1 : Vec Ideal S1x4x512x256 .bf16) (x2 : Vec Ideal S1024x512 .bf16) (x3 : Vec Ideal S1024x2048 .bf16) (x4 : Vec Ideal S4x128x128 .bf16) (x5 : Vec Ideal S1x512 .f32) (x6 : Vec Ideal S512x1024 .bf16) (x7 : Vec Ideal S512x1024 .bf16) (x8 : Vec Ideal S1024x1024 .bf16) (x9 : Vec Ideal S1x1024 .f32) (x10 : Vec Ideal S1x1024 .f32) (p : Vec Ideal S1040x512 .f32) :
    sout0_B_0 c i a2 h2 a3 h3 a4 h4 a5 h5 a6 h6 a7 h7 a8 h8 a9 h9 a10 h10 a11 h11 a12 h12 a13 h13 a14 h14 hc x0 x1 x2 x3 x4 x5 x6 x7 x8 x9 x10 p = carOut (k0_pay5 x0 x2) := by
  frame_out
  exact car_eq a14 (k0_pay5 x0 x2) [] []

theorem sout_A (c : Dev nD) (i : grid0.Coords) (a2 : Memref sig .tc .vmem S1x1024x1024 .f32) (h2 : a2.IsWhole) (a3 : Memref sig .tc .vmem S1x4x512x256 .bf16) (h3 : a3.IsWhole) (a4 : Memref sig .tc .vmem S1024x512 .bf16) (h4 : a4.IsWhole) (a5 : Memref sig .tc .vmem S1024x2048 .bf16) (h5 : a5.IsWhole) (a6 : Memref sig .tc .vmem S4x128x128 .bf16) (h6 : a6.IsWhole) (a7 : Memref sig .tc .vmem S1x512 .f32) (h7 : a7.IsWhole) (a8 : Memref sig .tc .vmem S512x1024 .bf16) (h8 : a8.IsWhole) (a9 : Memref sig .tc .vmem S512x1024 .bf16) (h9 : a9.IsWhole) (a10 : Memref sig .tc .vmem S1024x1024 .bf16) (h10 : a10.IsWhole) (a11 : Memref sig .tc .vmem S1x1024 .f32) (h11 : a11.IsWhole) (a12 : Memref sig .tc .vmem S1x1024 .f32) (h12 : a12.IsWhole) (a13 : Memref sig .tc .vmem S1x1024x1024 .f32) (h13 : a13.IsWhole) (a14 : Memref sig .tc .vmem S1040x512 .f32) (h14 : a14.IsWhole) (hc : cond0_0 i) (x0 : Vec Ideal S1x1024x1024 .f32) (x1 : Vec Ideal S1x4x512x256 .bf16) (x2 : Vec Ideal S1024x512 .bf16) (x3 : Vec Ideal S1024x2048 .bf16) (x4 : Vec Ideal S4x128x128 .bf16) (x5 : Vec Ideal S1x512 .f32) (x6 : Vec Ideal S512x1024 .bf16) (x7 : Vec Ideal S512x1024 .bf16) (x8 : Vec Ideal S1024x1024 .bf16) (x9 : Vec Ideal S1x1024 .f32) (x10 : Vec Ideal S1x1024 .f32) :
    sout0_A_0 c i a2 h2 a3 h3 a4 h4 a5 h5 a6 h6 a7 h7 a8 h8 a9 h9 a10 h10 a11 h11 a12 h12 a13 h13 a14 h14 hc x0 x1 x2 x3 x4 x5 x6 x7 x8 x9 x10 = carOut (k0_pay5 x0 x2) := by
  frame_out
  exact car_eq a14 (k0_pay5 x0 x2) _ _

end Cert.MixIdeal.Hand
-- ==== Proof.MixBlock.lean ====
module

public import proofs.«01_k».proof.Proof.MixBody
public import proofs.«01_k».proof.Proof.FfnSpec
public import Idealize.ShloMosaic.Lib.Pointwise

@[expose] public section

set_option maxRecDepth 16384

noncomputable section

open Idealize.ShloMosaic Idealize.ShloMosaic.TcCoe Idealize.SL.Sem

/-! # The mixer's tile, element by element -/

namespace Cert.MixSpec

open Cert.FfnSpec

/-- The windows' widths, one per group of 128 columns. -/
def wid (g : ℕ) : ℕ := 2 ^ (g + 1)

/-- The sum of the last `w` rows of a column that begins with sixteen rows before the sequence. -/
def win (w : ℕ) (z : ℕ → EReal) (s : ℕ) : EReal := ∑ k ∈ Finset.range w, z (16 - k + s)

/-- How many of the last `w` positions lie in the sequence, as the program counts them. -/
def cnt (w s : ℕ) : EReal := FloatOps.sitofp (F := Ideal) FTy.f32 (IntOp.minsi (BitVec.ofNat 32 s + 1#32) (BitVec.ofNat 32 w))

/-- The window's mean less the row itself. -/
def diff (w : ℕ) (z : ℕ → EReal) (s : ℕ) : EReal := Ideal.div (win w z s) (cnt w s) - z (16 + s)

/-- One element of the pooling branch before its projection. -/
def poolY (Z : ℕ → Fin 512 → EReal) (pg : Fin 4 → Fin 128 → Fin 128 → EReal) (ps : Fin 512 → EReal) (s : ℕ) (f : Fin 512) : EReal :=
  (∑ c : Fin 128, diff (wid ((f : ℕ) / 128)) (fun j => Z j ⟨128 * ((f : ℕ) / 128) + (c : ℕ), by omega⟩) s * pg ⟨(f : ℕ) / 128, by omega⟩ c ⟨(f : ℕ) % 128, by omega⟩) * ps f

/-- The logistic gate. -/
def gate (y : EReal) : EReal := Ideal.div 1 (1 + Ideal.exp (-y))

end Cert.MixSpec

namespace Cert.MixIdeal.Hand

open Cert.MixIdeal Cert.MixIdeal.Gen Cert.FfnSpec Cert.MixSpec

section Tail
variable (x0 : Vec Ideal S1x1024x1024 .f32) (M : Vec Ideal S1024x1024 .f32) (w : Vec Ideal S1024x1024 .bf16) (g b : Vec Ideal S1x1024 .f32)

/-- The row of a tile before its norm. -/
def rowAt (r : Fin 1024) (d : Fin 1024) : EReal := Ideal.ofBits FTy.f32 0x3F9837F0#32 * x0 (ix3 0 r d) + ∑ e : Fin 1024, M (ix2 r e) * w (ix2 e d)

/-- Rows 768 on of the tile: the layer norm of the scaled tokens plus the projected mix. -/
theorem tail3_at (q : Fin 1) (r : Fin 256) (l : Fin 1024) : k0_pay1 (k0_pay31 (k0_pay3 x0) (k0_pay24 M) w) (k0_pay32 g) (k0_pay33 b) (k0_pay34 (k0_pay3 x0) (k0_pay24 M) w) (ix3 q r l)
    = lnorm (rowAt x0 M w ⟨768 + (r : ℕ), by omega⟩) (g (ix2 0 l)) (b (ix2 0 l)) l := by
  pointwise [k0_pay1, k0_pay31, k0_pay32, k0_pay33, k0_pay34, k0_pay3, k0_pay24, lnorm, rowAt]

/-- Rows 512 on of the tile likewise. -/
theorem tail2_at (q : Fin 1) (r : Fin 256) (l : Fin 1024) : k0_pay30 (k0_pay29 (k0_pay3 x0) (k0_pay24 M) w) g b (ix3 q r l)
    = lnorm (rowAt x0 M w ⟨512 + (r : ℕ), by omega⟩) (g (ix2 0 l)) (b (ix2 0 l)) l := by
  pointwise [k0_pay30, k0_pay29, k0_pay3, k0_pay24, lnorm, rowAt]

/-- Rows 256 on of the tile likewise. -/
theorem tail1_at (q : Fin 1) (r : Fin 256) (l : Fin 1024) : k0_pay28 (k0_pay26 (k0_pay3 x0)) (k0_pay27 M) w g b (ix3 q r l)
    = lnorm (rowAt x0 M w ⟨256 + (r : ℕ), by omega⟩) (g (ix2 0 l)) (b (ix2 0 l)) l := by
  pointwise [k0_pay28, k0_pay26, k0_pay27, k0_pay3, k0_pay24, lnorm, rowAt]

/-- The first 256 rows of the tile likewise. -/
theorem tail0_at (q : Fin 1) (r : Fin 256) (l : Fin 1024) : k0_pay25 (k0_pay3 x0) M w g b (ix3 q r l)
    = lnorm (rowAt x0 M w ⟨0 + (r : ℕ), by omega⟩) (g (ix2 0 l)) (b (ix2 0 l)) l := by
  pointwise [k0_pay25, k0_pay3, k0_pay24, lnorm, rowAt]

/-- The norm of one of the four parts' rows as the tile's. -/
theorem row_out (o : ℕ) (ho : o + 256 ≤ 1024) (r : Fin 256) (r' l l' : Fin 1024) (hr : (r' : ℕ) = o + (r : ℕ)) (hl : (l' : ℕ) = (l : ℕ)) :
    lnorm (rowAt x0 M w ⟨o + (r : ℕ), by omega⟩) (g (ix2 0 l)) (b (ix2 0 l)) l = lnorm (rowAt x0 M w r') (g (ix2 0 l')) (b (ix2 0 l')) l' := by
  obtain ⟨r', hrb⟩ := r'
  obtain rfl : r' = o + (r : ℕ) := hr
  obtain rfl : l' = l := Fin.ext hl
  rfl

/-- The output tile after its four stores. -/
theorem out_eq (y : S1x1024x1024.Idx) : View.canon (outL x0 M w g b) y = lnorm (rowAt x0 M w (y 1)) (g (ix2 0 (y 2))) (b (ix2 0 (y 2))) (y 2) := by
  unfold outL
  canon_tiles x h
  · rw [eq_ix3 x]
    exact (tail3_at x0 M w g b (x 0) (x 1) (x 2)).trans (row_out x0 M w g b 768 (by decide) (x 1) (y 1) (x 2) (y 2) (by simpa using h1) h2)
  · rw [eq_ix3 x]
    exact (tail2_at x0 M w g b (x 0) (x 1) (x 2)).trans (row_out x0 M w g b 512 (by decide) (x 1) (y 1) (x 2) (y 2) (by simpa using h1) h2)
  · rw [eq_ix3 x]
    exact (tail1_at x0 M w g b (x 0) (x 1) (x 2)).trans (row_out x0 M w g b 256 (by decide) (x 1) (y 1) (x 2) (y 2) (by simpa using h1) h2)
  · rw [eq_ix3 x]
    exact (tail0_at x0 M w g b (x 0) (x 1) (x 2)).trans (row_out x0 M w g b 0 (by decide) (x 1) (y 1) (x 2) (y 2) (by simpa using h1) h2)
end Tail

/-- The pooling projection of a tile. -/
theorem pay5_at (x0 : Vec Ideal S1x1024x1024 .f32) (w : Vec Ideal S1024x512 .bf16) (r : Fin 1024) (f : Fin 512) :
    k0_pay5 x0 w (ix2 r f) = ∑ k : Fin 1024, x0 (ix3 0 r k) * w (ix2 k f) := by
  pointwise [k0_pay5, k0_pay4, k0_pay3]

section Groups
variable (iv : BitVec 32) (P : Vec Ideal S1024x512 .f32) (a1 a2 a3 a4 a5 a6 a7 a8 a9 a10 a11 a12 a13 a14 a15 : Vec Ideal S1024x128 .f32) (g : Vec Ideal S1x128x128 .bf16)

/-- The position of a row, as a word. -/
theorem pos_at (r : Fin 1024) (l : Fin 128) : k0_pay13 iv (ix2 r l) = iv * 1024#32 + BitVec.ofNat 32 (r : ℕ) := by
  pointwise [k0_pay13]
  rfl

/-- The first group's part: windows of two rows. -/
theorem grp0_at (r : Fin 1024) (l : Fin 128) : k0_pay14 iv P a1 g (ix2 r l)
    = ∑ c : Fin 128, (Ideal.div (P (ix2 r ⟨(c : ℕ), by omega⟩) + a1 (ix2 r c))
        (FloatOps.sitofp (F := Ideal) FTy.f32 (IntOp.minsi (iv * 1024#32 + BitVec.ofNat 32 (r : ℕ) + 1#32) 2#32)) - P (ix2 r ⟨(c : ℕ), by omega⟩)) * g (ix3 0 c l) := by
  pointwise [k0_pay14, k0_pay13]
  rfl

/-- The second group's part: windows of four rows. -/
theorem grp1_at (r : Fin 1024) (l : Fin 128) : k0_pay17 (k0_pay13 iv) (k0_pay15 P) (k0_pay16 P a1 a2) a3 g (ix2 r l)
    = ∑ c : Fin 128, (Ideal.div (P (ix2 r ⟨128 + (c : ℕ), by omega⟩) + a1 (ix2 r c) + a2 (ix2 r c) + a3 (ix2 r c))
        (FloatOps.sitofp (F := Ideal) FTy.f32 (IntOp.minsi (iv * 1024#32 + BitVec.ofNat 32 (r : ℕ) + 1#32) 4#32)) - P (ix2 r ⟨128 + (c : ℕ), by omega⟩)) * g (ix3 0 c l) := by
  pointwise [k0_pay17, k0_pay16, k0_pay15, k0_pay13]
  rfl

/-- The third group's part: windows of eight rows. -/
theorem grp2_at (r : Fin 1024) (l : Fin 128) : k0_pay19 (k0_pay18 P (k0_pay13 iv) a1 a2 a3 a4 a5 a6 a7) g (ix2 r l)
    = ∑ c : Fin 128, (Ideal.div (P (ix2 r ⟨256 + (c : ℕ), by omega⟩) + a1 (ix2 r c) + a2 (ix2 r c) + a3 (ix2 r c) + a4 (ix2 r c) + a5 (ix2 r c) + a6 (ix2 r c) + a7 (ix2 r c))
        (FloatOps.sitofp (F := Ideal) FTy.f32 (IntOp.minsi (iv * 1024#32 + BitVec.ofNat 32 (r : ℕ) + 1#32) 8#32)) - P (ix2 r ⟨256 + (c : ℕ), by omega⟩)) * g (ix3 0 c l) := by
  pointwise [k0_pay19, k0_pay18, k0_pay13]
  rfl

/-- The last group's window sum, but for its two oldest rows. -/
theorem grp3_at (r : Fin 1024) (c : Fin 128) : k0_pay21 P a1 a2 a3 a4 a5 a6 a7 a8 a9 a10 a11 a12 a13 (ix2 r c)
    = P (ix2 r ⟨384 + (c : ℕ), by omega⟩) + a1 (ix2 r c) + a2 (ix2 r c) + a3 (ix2 r c) + a4 (ix2 r c) + a5 (ix2 r c) + a6 (ix2 r c) + a7 (ix2 r c)
      + a8 (ix2 r c) + a9 (ix2 r c) + a10 (ix2 r c) + a11 (ix2 r c) + a12 (ix2 r c) + a13 (ix2 r c) := by
  pointwise [k0_pay21, k0_pay20]

end Groups

section Gates
variable (gl : Vec Ideal S1024x2048 .f32) (ya : Vec Ideal S1024x1024 .f32) (ps : IVec S1024x128 32) (u0 u1 u2 : Vec Ideal S1024x128 .f32)
  (P : Vec Ideal S1024x512 .f32) (u3 a14 a15 : Vec Ideal S1024x128 .f32) (g : Vec Ideal S1x128x128 .bf16) (sc : Vec Ideal S1x512 .f32) (wp : Vec Ideal S512x1024 .bf16)

/-- The four groups side by side. -/
def cat (a0 a1 a2 a3 : Fin 128 → EReal) (f : Fin 512) : EReal :=
  if h : (f : ℕ) < 128 then a0 ⟨(f : ℕ), h⟩ else if h : (f : ℕ) - 128 < 128 then a1 ⟨(f : ℕ) - 128, h⟩
    else if h : (f : ℕ) - 128 - 128 < 128 then a2 ⟨(f : ℕ) - 128 - 128, h⟩ else a3 ⟨(f : ℕ) - 128 - 128 - 128, by omega⟩

/-- The gated sum at a row and a column. -/
theorem mix_at (r d : Fin 1024) : k0_pay23 gl ya ps u0 u1 u2 (k0_pay20 P) u3 a14 a15 g sc wp (ix2 r d)
    = gate (gl (ix2 r ⟨(d : ℕ), by omega⟩)) * ya (ix2 r d) + gate (gl (ix2 r ⟨1024 + (d : ℕ), by omega⟩)) * ∑ f : Fin 512,
        cat (fun l => u0 (ix2 r l)) (fun l => u1 (ix2 r l)) (fun l => u2 (ix2 r l)) (fun l => ∑ c : Fin 128,
          (Ideal.div (u3 (ix2 r c) + a14 (ix2 r c) + a15 (ix2 r c)) (FloatOps.sitofp (F := Ideal) FTy.f32 (IntOp.minsi (ps (ix2 r c) + 1#32) 16#32))
            - P (ix2 r ⟨384 + (c : ℕ), by omega⟩)) * g (ix3 0 c l)) f * sc (ix2 0 f) * wp (ix2 f d) := by
  pointwise [k0_pay23, k0_pay20, gate, cat]
  simp only [zero_sub]
  rfl
end Gates

section Mixed
variable (T : ℕ) (x0 : Vec Ideal S1x1024x1024 .f32) (x1 : Vec Ideal S1x4x512x256 .bf16) (x3 : Vec Ideal S1024x2048 .bf16) (x4 : Vec Ideal S4x128x128 .bf16)
  (x5 : Vec Ideal S1x512 .f32) (x6 x7 : Vec Ideal S512x1024 .bf16) (P : Vec Ideal S1024x512 .f32) (b : Vec Ideal S1040x512 .f32) (Z : ℕ → Fin 512 → EReal)

/-- The attention's projection of a tile, whose rows lie in four blocks of 256. -/
theorem attn_at (r d : Fin 1024) : k0_pay11 (k0_pay7 (View.ld x1 (Rect.unit ![0, 0, 0, 0] ![1, 1, 512, 256] inb_S1x4x512x256_S1x1x512x256_0_0_0_0)) x6)
      (k0_pay8 (View.ld x1 (Rect.unit ![0, 1, 0, 0] ![1, 1, 512, 256] inb_S1x4x512x256_S1x1x512x256_0_1_0_0)) x6)
      (k0_pay9 (View.ld x1 (Rect.unit ![0, 2, 0, 0] ![1, 1, 512, 256] inb_S1x4x512x256_S1x1x512x256_0_2_0_0))) (k0_pay10 x6)
      (View.ld x1 (Rect.unit ![0, 3, 0, 0] ![1, 1, 512, 256] inb_S1x4x512x256_S1x1x512x256_0_3_0_0)) x6 (ix2 r d)
    = ∑ f : Fin 512, x1 (ix4 0 ⟨(r : ℕ) / 256, by omega⟩ f ⟨(r : ℕ) % 256, by omega⟩) * x6 (ix2 f d) := by
  pointwise [k0_pay11, k0_pay7, k0_pay8, k0_pay9, k0_pay10]
  have hr := r.isLt
  split_ifs with h0 h1 h2 <;> refine Finset.sum_congr rfl fun f _ => congrArg (· * x6 (ix2 f d)) (congrArg₂ (fun (a : Fin 4) (b : Fin 256) => x1 (ix4 0 a f b)) (Fin.ext ?_) (Fin.ext ?_))
  all_goals (simp only [Fin.val_zero, Fin.val_one, Fin.val_two, Fin.coe_ofNat_eq_mod, Nat.reduceMod]; omega)

/-- The position as the program computes it. -/
theorem pos_word (r : ℕ) : BitVec.ofNat 32 T * 1024#32 + BitVec.ofNat 32 r = BitVec.ofNat 32 (1024 * T + r) := by
  refine BitVec.eq_of_toNat_eq ?_
  simp only [BitVec.toNat_add, BitVec.toNat_mul, BitVec.toNat_ofNat]
  omega

/-- A group's part of the pooling branch, at the group's own column. -/
theorem pool_in (pg : Fin 4 → Fin 128 → Fin 128 → EReal) (s : ℕ) (G : ℕ) (hG : G < 4) (l : Fin 128) (f : Fin 512) (hf : (f : ℕ) = 128 * G + (l : ℕ)) :
    (∑ c : Fin 128, diff (wid ((f : ℕ) / 128)) (fun j => Z j ⟨128 * ((f : ℕ) / 128) + (c : ℕ), by omega⟩) s * pg ⟨(f : ℕ) / 128, by omega⟩ c ⟨(f : ℕ) % 128, by omega⟩)
      = ∑ c : Fin 128, diff (wid G) (fun j => Z j ⟨128 * G + (c : ℕ), by omega⟩) s * pg ⟨G, hG⟩ c l := by
  obtain ⟨f, hfb⟩ := f
  obtain rfl : f = 128 * G + (l : ℕ) := hf
  have e1 : (128 * G + (l : ℕ)) / 128 = G := by omega
  have e2 : (128 * G + (l : ℕ)) % 128 = (l : ℕ) := by omega
  simp only [e1, e2]

/-- The gated sum of a tile, from rows that are a sequence's. -/
theorem mixed_at (hP : ∀ (r : Fin 1024) (f : Fin 512), P (ix2 r f) = Z (16 + (1024 * T + (r : ℕ))) f)
    (hb : ∀ (k : ℕ) (r : Fin 1024) (hk : k + (r : ℕ) < 1040) (f : Fin 512), b (ix2 ⟨k + (r : ℕ), hk⟩ f) = Z (k + (1024 * T + (r : ℕ))) f) (r d : Fin 1024) :
    mixed (BitVec.ofNat 32 T) x0 x1 x3 x4 x5 x6 x7 P b (ix2 r d)
      = gate (∑ x : Fin 1024, x0 (ix3 0 r x) * x3 (ix2 x ⟨(d : ℕ), by omega⟩))
          * ∑ f : Fin 512, x1 (ix4 0 ⟨(r : ℕ) / 256, by omega⟩ f ⟨(r : ℕ) % 256, by omega⟩) * x6 (ix2 f d)
        + gate (∑ x : Fin 1024, x0 (ix3 0 r x) * x3 (ix2 x ⟨1024 + (d : ℕ), by omega⟩))
          * ∑ f : Fin 512, poolY Z (fun g c l => x4 (ix3 g c l)) (fun f => x5 (ix2 0 f)) (1024 * T + (r : ℕ)) f * x7 (ix2 f d) := by
  unfold mixed
  rw [mix_at, attn_at]
  have hg : ∀ (l : Fin 2048), k0_pay6 x0 x3 (ix2 r l) = ∑ x : Fin 1024, x0 (ix3 0 r x) * x3 (ix2 x l) := by
    intro l
    pointwise [k0_pay6, k0_pay4, k0_pay3]
  rw [hg, hg]
  refine congrArg₂ (· + ·) rfl (congrArg₂ (· * ·) rfl (Finset.sum_congr rfl fun f _ => congrArg (· * x7 (ix2 f d)) (congrArg (· * x5 (ix2 0 f)) ?_)))
  simp only [grp0_at, grp1_at, grp2_at, grp3_at, pos_at, pos_word]
  have hf := f.isLt
  unfold cat
  split_ifs with h0 h1 h2
  · refine Eq.trans ?_ (pool_in Z (fun g c l => x4 (ix3 g c l)) (1024 * T + (r : ℕ)) 0 (by decide) ⟨(f : ℕ), by omega⟩ f (by show (f : ℕ) = 128 * 0 + ((f : ℕ)); omega)).symm
    pointwise
    simp only [hP, hb]
    refine Finset.sum_congr rfl fun c _ => congrArg (· * x4 (ix3 0 c ⟨(f : ℕ), by omega⟩)) ?_
    simp only [diff, win, cnt, wid, Nat.reduceAdd, Nat.reducePow, Nat.reduceMul, zero_add, Finset.sum_range_succ, Finset.sum_range_zero, Nat.reduceSub, Nat.sub_zero, BitVec.ofNat_eq_ofNat]
  · refine Eq.trans ?_ (pool_in Z (fun g c l => x4 (ix3 g c l)) (1024 * T + (r : ℕ)) 1 (by decide) ⟨(f : ℕ) - 128, by omega⟩ f (by show (f : ℕ) = 128 * 1 + ((f : ℕ) - 128); omega)).symm
    pointwise
    simp only [hP, hb]
    refine Finset.sum_congr rfl fun c _ => congrArg (· * x4 (ix3 1 c ⟨(f : ℕ) - 128, by omega⟩)) ?_
    simp only [diff, win, cnt, wid, Nat.reduceAdd, Nat.reducePow, Nat.reduceMul, zero_add, Finset.sum_range_succ, Finset.sum_range_zero, Nat.reduceSub, Nat.sub_zero, BitVec.ofNat_eq_ofNat]
  · refine Eq.trans ?_ (pool_in Z (fun g c l => x4 (ix3 g c l)) (1024 * T + (r : ℕ)) 2 (by decide) ⟨(f : ℕ) - 128 - 128, by omega⟩ f (by show (f : ℕ) = 128 * 2 + ((f : ℕ) - 128 - 128); omega)).symm
    pointwise
    simp only [hP, hb]
    refine Finset.sum_congr rfl fun c _ => congrArg (· * x4 (ix3 2 c ⟨(f : ℕ) - 128 - 128, by omega⟩)) ?_
    simp only [diff, win, cnt, wid, Nat.reduceAdd, Nat.reducePow, Nat.reduceMul, zero_add, Finset.sum_range_succ, Finset.sum_range_zero, Nat.reduceSub, Nat.sub_zero, BitVec.ofNat_eq_ofNat]
  · refine Eq.trans ?_ (pool_in Z (fun g c l => x4 (ix3 g c l)) (1024 * T + (r : ℕ)) 3 (by decide) ⟨(f : ℕ) - 128 - 128 - 128, by omega⟩ f (by show (f : ℕ) = 128 * 3 + ((f : ℕ) - 128 - 128 - 128); omega)).symm
    pointwise
    simp only [hP, hb]
    refine Finset.sum_congr rfl fun c _ => congrArg (· * x4 (ix3 3 c ⟨(f : ℕ) - 128 - 128 - 128, by omega⟩)) ?_
    simp only [diff, win, cnt, wid, Nat.reduceAdd, Nat.reducePow, Nat.reduceMul, zero_add, Finset.sum_range_succ, Finset.sum_range_zero, Nat.reduceSub, Nat.sub_zero, BitVec.ofNat_eq_ofNat]
end Mixed

end Cert.MixIdeal.Hand
-- ==== Proof.MixValue.lean ====
module

public import proofs.«01_k».proof.Proof.MixBlock

@[expose] public section

set_option maxRecDepth 16384

noncomputable section

open Idealize.ShloMosaic Idealize.ShloMosaic.TcCoe Idealize.SL.Sem
open Idealize.ShloMosaic.Pipeline (Dat)

/-! # The mixer over whole arrays, and the array the kernel leaves -/

namespace Cert.MixSpec

open Cert.FfnSpec

section
variable (x : Fin 8 → Fin 4096 → Fin 1024 → EReal) (at_ : Fin 8 → Fin 16 → Fin 512 → Fin 256 → EReal) (wi : Fin 1024 → Fin 4096 → EReal)
  (pg : Fin 4 → Fin 128 → Fin 128 → EReal) (ps : Fin 512 → EReal) (ba bp : Fin 512 → Fin 1024 → EReal) (wo : Fin 1024 → Fin 1024 → EReal) (g b : Fin 1024 → EReal)

/-- The pooling branch's projection. -/
def pAt (n : Fin 8) (s : Fin 4096) (f : Fin 512) : EReal := ∑ k, x n s k * wi k ⟨1536 + (f : ℕ), by omega⟩

/-- The same with sixteen zero rows before the sequence. -/
def pPad (n : Fin 8) (j : ℕ) (f : Fin 512) : EReal := if h : 16 ≤ j ∧ j - 16 < 4096 then pAt x wi n ⟨j - 16, h.2⟩ f else 0

/-- The gates' logits. -/
def gAt (n : Fin 8) (s : Fin 4096) (f : Fin 2048) : EReal := ∑ k, x n s k * wi k ⟨2048 + (f : ℕ), by omega⟩

/-- The gated sum of the branches. -/
def mixAt (n : Fin 8) (s : Fin 4096) (d : Fin 1024) : EReal :=
  gate (gAt x wi n s ⟨(d : ℕ), by omega⟩) * ∑ f, at_ n ⟨(s : ℕ) / 256, by omega⟩ f ⟨(s : ℕ) % 256, by omega⟩ * ba f d
    + gate (gAt x wi n s ⟨1024 + (d : ℕ), by omega⟩) * ∑ f, poolY (pPad x wi n) pg ps (s : ℕ) f * bp f d

/-- The block's result. -/
def outSeq (n : Fin 8) (s : Fin 4096) (d : Fin 1024) : EReal :=
  lnorm (fun d => Ideal.ofBits FTy.f32 0x3F9837F0#32 * x n s d + ∑ e, mixAt x at_ wi pg ps ba bp n s e * wo e d) (g d) (b d) d

end

end Cert.MixSpec

namespace Cert.MixIdeal.Hand

open Cert.MixIdeal Cert.MixIdeal.Gen Cert.FfnSpec Cert.MixSpec

variable (m : (b : Loc nD τ sig) → Buf (Elt Ideal) b) (c : Dev nD)

/-- The windows' blocks, all grid points at once. -/
theorem idx_tab : ∀ t : Fin cfg0.N, win0_0.index t = ![t.val / 4, t.val % 4, 0] ∧ win0_1.index t = ![t.val / 4, t.val % 4, 0, 0] ∧ win0_2.index t = ![0, 0]
    ∧ win0_3.index t = ![0, 0] ∧ win0_4.index t = ![0, 0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val / 4, t.val % 4, 0] ∧ ((grid0.coords t) 1 : ℕ) = t.val % 4 :=
  (by decide +kernel : ∀ t : Fin grid0.N, _)

/-- The operands as the spec reads them. -/
def xA (n : Fin 8) (s : Fin 4096) (k : Fin 1024) : EReal := m ((c : Thread nD τ).loc main_arg0) (ix3 n s k)
def atA (n : Fin 8) (j : Fin 16) (f : Fin 512) (r : Fin 256) : EReal := m ((c : Thread nD τ).loc main_arg1) (ix4 n j f r)
def wiA (k : Fin 1024) (f : Fin 4096) : EReal := m ((c : Thread nD τ).loc main_arg2) (ix3 0 k f)
def pgA (q : Fin 4) (k l : Fin 128) : EReal := m ((c : Thread nD τ).loc main_arg3) (ix4 0 q k l)
def psA (f : Fin 512) : EReal := m ((c : Thread nD τ).loc main_arg4) (ix2 0 f)
def baA (f : Fin 512) (d : Fin 1024) : EReal := m ((c : Thread nD τ).loc main_arg5) (ix3 0 f d)
def bpA (f : Fin 512) (d : Fin 1024) : EReal := m ((c : Thread nD τ).loc main_arg6) (ix3 0 f d)
def woA (e d : Fin 1024) : EReal := m ((c : Thread nD τ).loc main_arg7) (ix3 0 e d)
def lgA (d : Fin 1024) : EReal := m ((c : Thread nD τ).loc main_arg8) (ix2 0 d)
def lbA (d : Fin 1024) : EReal := m ((c : Thread nD τ).loc main_arg9) (ix2 0 d)

theorem blk0_at (t : Fin cfg0.N) (q k : Fin 1024) : iblk m c 0 t (ix3 0 q k) = xA m c ⟨t.val / 4, by have : t.val < 32 := t.isLt; omega⟩ ⟨1024 * (t.val % 4) + (q : ℕ), by omega⟩ k := by
  unfold xA
  blk_ext [iblk, V, idx_tab t]

theorem blk1_at (t : Fin cfg0.N) (j : Fin 4) (f : Fin 512) (r : Fin 256) : iblk m c 1 t (ix4 0 j f r) = atA m c ⟨t.val / 4, by have : t.val < 32 := t.isLt; omega⟩ ⟨4 * (t.val % 4) + (j : ℕ), by omega⟩ f r := by
  unfold atA
  blk_ext [iblk, V, idx_tab t]

theorem blk2_at (t : Fin cfg0.N) (k : Fin 1024) (f : Fin 512) : iblk m c 2 t (ix2 k f) = wiA m c k ⟨1536 + (f : ℕ), by omega⟩ := by
  unfold wiA
  blk_simp [iblk, idx_tab t]
  entry_read
  pointwise
  blk_ext [idx_tab t]

theorem blk3_at (t : Fin cfg0.N) (k : Fin 1024) (f : Fin 2048) : iblk m c 3 t (ix2 k f) = wiA m c k ⟨2048 + (f : ℕ), by omega⟩ := by
  unfold wiA
  blk_simp [iblk, idx_tab t]
  entry_read
  pointwise
  blk_ext [idx_tab t]

theorem blk4_at (t : Fin cfg0.N) (q : Fin 4) (k l : Fin 128) : iblk m c 4 t (ix3 q k l) = pgA m c q k l := by
  unfold pgA
  blk_simp [iblk, idx_tab t]
  entry_read
  pointwise
  blk_ext [idx_tab t]

theorem blk5_at (t : Fin cfg0.N) (f : Fin 512) : iblk m c 5 t (ix2 0 f) = psA m c f := by
  unfold psA
  blk_simp [iblk, idx_tab t]
  entry_read
  pointwise
  blk_ext [idx_tab t]

theorem blk6_at (t : Fin cfg0.N) (f : Fin 512) (d : Fin 1024) : iblk m c 6 t (ix2 f d) = baA m c f d := by
  unfold baA
  blk_simp [iblk, idx_tab t]
  entry_read
  pointwise
  blk_ext [idx_tab t]

theorem blk7_at (t : Fin cfg0.N) (f : Fin 512) (d : Fin 1024) : iblk m c 7 t (ix2 f d) = bpA m c f d := by
  unfold bpA
  blk_simp [iblk, idx_tab t]
  entry_read
  pointwise
  blk_ext [idx_tab t]

theorem blk8_at (t : Fin cfg0.N) (e d : Fin 1024) : iblk m c 8 t (ix2 e d) = woA m c e d := by
  unfold woA
  blk_simp [iblk, idx_tab t]
  entry_read
  pointwise
  blk_ext [idx_tab t]

theorem blk9_at (t : Fin cfg0.N) (d : Fin 1024) : iblk m c 9 t (ix2 0 d) = lgA m c d := by
  unfold lgA
  blk_simp [iblk, idx_tab t]
  entry_read
  pointwise
  blk_ext [idx_tab t]

theorem blk10_at (t : Fin cfg0.N) (d : Fin 1024) : iblk m c 10 t (ix2 0 d) = lbA m c d := by
  unfold lbA
  blk_simp [iblk, idx_tab t]
  entry_read
  pointwise
  blk_ext [idx_tab t]

/-- The rows a tile leaves for the next one, whichever case the tile is. -/
theorem carry_at (t : Fin cfg0.N) : (outsAt0 m c t.val t.isLt).2 = carOut (k0_pay5 (iblk m c 0 t) (iblk m c 2 t)) := by
  by_cases h0 : t.val % 4 = 0
  · rw [outsAt0_A m c t h0]
    dsimp only
    rw [sout_A]
  · rw [outsAt0_B m c t h0]
    dsimp only
    rw [sout_B]

variable (t : Fin cfg0.N)

/-- The tile's pooling projection is the sequence's, at the tile's rows. -/
theorem pool_at (q : Fin 1024) (f : Fin 512) : k0_pay5 (iblk m c 0 t) (iblk m c 2 t) (ix2 q f)
    = pPad (xA m c) (wiA m c) ⟨t.val / 4, by have : t.val < 32 := t.isLt; omega⟩ (16 + (1024 * (t.val % 4) + (q : ℕ))) f := by
  have hq := q.isLt
  rw [pay5_at]
  unfold pPad pAt
  rw [dif_pos (by omega)]
  simp only [blk0_at, blk2_at, Nat.add_sub_cancel_left]

/-- The sixteen rows before the tile, as the tile uses them: the sequence's, zero before its start. -/
def CarOk (p : Vec Ideal S1040x512 .f32) : Prop :=
  ∀ (y : S1040x512.Idx), (y 0 : ℕ) < 16 → p y = pPad (xA m c) (wiA m c) ⟨t.val / 4, by have : t.val < 32 := t.isLt; omega⟩ (1024 * (t.val % 4) + (y 0 : ℕ)) (y 1)

/-- The row buffer holds the sequence's rows. -/
theorem over_at (p : Vec Ideal S1040x512 .f32) (hp : CarOk m c t p) (k : ℕ) (r : Fin 1024) (hk : k + (r : ℕ) < 1040) (f : Fin 512) :
    over (k0_pay5 (iblk m c 0 t) (iblk m c 2 t)) p (ix2 ⟨k + (r : ℕ), hk⟩ f) = pPad (xA m c) (wiA m c) ⟨t.val / 4, by have : t.val < 32 := t.isLt; omega⟩ (k + (1024 * (t.val % 4) + (r : ℕ))) f := by
  unfold over
  by_cases h : 16 ≤ k + (r : ℕ)
  · rw [dif_pos (show 16 ≤ ((ix2 ⟨k + (r : ℕ), hk⟩ f : S1040x512.Idx) 0 : ℕ) from h)]
    refine (pool_at m c t ⟨k + (r : ℕ) - 16, by omega⟩ f).trans (congrArg (fun j => pPad (xA m c) (wiA m c) _ j f) ?_)
    show 16 + (1024 * (t.val % 4) + (k + (r : ℕ) - 16)) = k + (1024 * (t.val % 4) + (r : ℕ))
    omega
  · rw [dif_neg (show ¬16 ≤ ((ix2 ⟨k + (r : ℕ), hk⟩ f : S1040x512.Idx) 0 : ℕ) from h)]
    refine (hp (ix2 ⟨k + (r : ℕ), hk⟩ f) (show k + (r : ℕ) < 16 by omega)).trans (congrArg (fun j => pPad (xA m c) (wiA m c) _ j f) ?_)
    show 1024 * (t.val % 4) + (k + (r : ℕ)) = k + (1024 * (t.val % 4) + (r : ℕ))
    omega

/-- The tile's gated sum is the sequence's. -/
theorem mixed_seq (p : Vec Ideal S1040x512 .f32) (hp : CarOk m c t p) (r d : Fin 1024) :
    mixed (BitVec.ofNat 32 (t.val % 4)) (iblk m c 0 t) (iblk m c 1 t) (iblk m c 3 t) (iblk m c 4 t) (iblk m c 5 t) (iblk m c 6 t) (iblk m c 7 t)
        (k0_pay5 (iblk m c 0 t) (iblk m c 2 t)) (over (k0_pay5 (iblk m c 0 t) (iblk m c 2 t)) p) (ix2 r d)
      = mixAt (xA m c) (atA m c) (wiA m c) (pgA m c) (psA m c) (baA m c) (bpA m c) ⟨t.val / 4, by have : t.val < 32 := t.isLt; omega⟩ ⟨1024 * (t.val % 4) + (r : ℕ), by omega⟩ d := by
  have hr := r.isLt
  rw [mixed_at (t.val % 4) _ _ _ _ _ _ _ _ _ (pPad (xA m c) (wiA m c) ⟨t.val / 4, by have : t.val < 32 := t.isLt; omega⟩) (pool_at m c t) (over_at m c t p hp)]
  unfold mixAt gAt
  simp only [blk0_at, blk1_at, blk3_at, blk4_at, blk5_at, blk6_at, blk7_at]
  have e1 : (1024 * (t.val % 4) + (r : ℕ)) / 256 = 4 * (t.val % 4) + (r : ℕ) / 256 := by omega
  have e2 : (1024 * (t.val % 4) + (r : ℕ)) % 256 = (r : ℕ) % 256 := by omega
  simp only [e1, e2]

/-- What a tile leaves in the output's buffer, given the rows before it. -/
theorem out_seq (p : Vec Ideal S1040x512 .f32) (hp : CarOk m c t p) (q : Fin 1) (r d : Fin 1024) :
    View.canon (outL (iblk m c 0 t) (mixed (BitVec.ofNat 32 ((grid0.coords t) 1 : ℕ)) (iblk m c 0 t) (iblk m c 1 t) (iblk m c 3 t) (iblk m c 4 t) (iblk m c 5 t) (iblk m c 6 t) (iblk m c 7 t)
        (k0_pay5 (iblk m c 0 t) (iblk m c 2 t)) (over (k0_pay5 (iblk m c 0 t) (iblk m c 2 t)) p)) (iblk m c 8 t) (iblk m c 9 t) (iblk m c 10 t)) (ix3 q r d)
      = outSeq (xA m c) (atA m c) (wiA m c) (pgA m c) (psA m c) (baA m c) (bpA m c) (woA m c) (lgA m c) (lbA m c) ⟨t.val / 4, by have : t.val < 32 := t.isLt; omega⟩ ⟨1024 * (t.val % 4) + (r : ℕ), by omega⟩ d := by
  rw [(idx_tab t).2.2.2.2.2.2.2.2.2.2.2.2, out_eq]
  unfold outSeq
  have e : rowAt (iblk m c 0 t) (mixed (BitVec.ofNat 32 (t.val % 4)) (iblk m c 0 t) (iblk m c 1 t) (iblk m c 3 t) (iblk m c 4 t) (iblk m c 5 t) (iblk m c 6 t) (iblk m c 7 t)
        (k0_pay5 (iblk m c 0 t) (iblk m c 2 t)) (over (k0_pay5 (iblk m c 0 t) (iblk m c 2 t)) p)) (iblk m c 8 t) r
      = fun d => Ideal.ofBits FTy.f32 0x3F9837F0#32 * xA m c ⟨t.val / 4, by have : t.val < 32 := t.isLt; omega⟩ ⟨1024 * (t.val % 4) + (r : ℕ), by omega⟩ d
          + ∑ e, mixAt (xA m c) (atA m c) (wiA m c) (pgA m c) (psA m c) (baA m c) (bpA m c) ⟨t.val / 4, by have : t.val < 32 := t.isLt; omega⟩ ⟨1024 * (t.val % 4) + (r : ℕ), by omega⟩ e * woA m c e d := by
    funext d
    unfold rowAt
    simp only [mixed_seq m c t p hp, blk0_at, blk8_at]
  show lnorm (rowAt _ _ _ r) (iblk m c 9 t (ix2 0 d)) (iblk m c 10 t (ix2 0 d)) d = _
  rw [e, blk9_at, blk10_at]

/-- At the start of a sequence the rows before the tile are zeros. -/
theorem carOk_zero (h0 : t.val % 4 = 0) : CarOk m c t (fun _ => (0 : EReal)) := by
  intro y hy
  unfold pPad
  rw [dif_neg (by omega)]

/-- Elsewhere they are what the tile before left. -/
theorem carOk_carried (h0 : ¬t.val % 4 = 0) (s : Fin cfg0.N) (hs : s.val + 1 = t.val) : CarOk m c t (carOut (k0_pay5 (iblk m c 0 s) (iblk m c 2 s))) := by
  have ht : t.val < 32 := t.isLt
  intro y hy
  unfold carOut over
  rw [dif_neg (by omega)]
  refine (pool_at m c s ⟨(1008 + (y 0 : ℕ)) % 1024, by omega⟩ (y 1)).trans ?_
  refine congrArg₂ (fun a b => pPad (xA m c) (wiA m c) a b (y 1)) (Fin.ext ?_) ?_
  · show s.val / 4 = t.val / 4
    omega
  · show 16 + (1024 * (s.val % 4) + (1008 + (y 0 : ℕ)) % 1024) = 1024 * (t.val % 4) + (y 0 : ℕ)
    omega

/-- The array the kernel leaves. -/
def outArr : S8x4096x1024.Idx → EReal := fun i =>
  outSeq (xA m c) (atA m c) (wiA m c) (pgA m c) (psA m c) (baA m c) (bpA m c) (woA m c) (lgA m c) (lbA m c) (i 0) (i 1) (i 2)

/-- What a tile leaves in the output's buffer. -/
theorem tile_at (q : Fin 1) (r d : Fin 1024) : (outsAt0 m c t.val t.isLt).1 (ix3 q r d)
    = outSeq (xA m c) (atA m c) (wiA m c) (pgA m c) (psA m c) (baA m c) (bpA m c) (woA m c) (lgA m c) (lbA m c) ⟨t.val / 4, by have : t.val < 32 := t.isLt; omega⟩ ⟨1024 * (t.val % 4) + (r : ℕ), by omega⟩ d := by
  by_cases h0 : t.val % 4 = 0
  · rw [outsAt0_A m c t h0]
    dsimp only
    rw [out_A]
    exact out_seq m c t _ (carOk_zero m c t h0) q r d
  · have ht : t.val < 32 := t.isLt
    rw [outsAt0_B m c t h0]
    dsimp only
    rw [out_B]
    have e : (outsAt0 m c (t.val - 1) (by show t.val - 1 < 32; omega)).2 = _ := carry_at m c ⟨t.val - 1, by show t.val - 1 < 32; omega⟩
    rw [e]
    exact out_seq m c t _ (carOk_carried m c t h0 ⟨t.val - 1, by show t.val - 1 < 32; omega⟩ (by show t.val - 1 + 1 = t.val; omega)) q r d

/-- The output array after the run. -/
theorem final : (dats m 0 c).arrAt 11 cfg0.N = outArr m c := by
  refine (dats m 0 c).arrAt_eq_of_covers 11 _ (by decide +kernel) fun t hf y => ?_
  obtain ⟨q, r, d, rfl⟩ : ∃ (q : Fin 1) (r d : Fin 1024), y = ix3 q r d := ⟨y 0, y 1, y 2, eq_ix3 y⟩
  blk_simp
  rw [after0_11]
  refine (tile_at m c t q r d).trans ?_
  unfold outArr
  have ht : t.val < 32 := t.isLt
  refine congr (congrArg₂ _ (Fin.ext ?_) (Fin.ext ?_)) (Fin.ext ?_)
  all_goals blk_simp [idx_tab t]
  show 1024 * (t.val % 4) + (r : ℕ) = _
  omega

end Cert.MixIdeal.Hand
-- ==== Proof.MixSums.lean ====
module

public import proofs.«01_k».proof.Proof.MixValue
public import Idealize.ShloMosaic.Lib.Pointwise

@[expose] public section

set_option maxRecDepth 16384

noncomputable section

open Idealize.ShloMosaic Idealize.ShloMosaic.TcCoe Idealize.SL.Sem

/-! # Prefix sums, their differences, and the reference's window sum -/

namespace Cert.MixSums

open Cert.MixSpec Idealize.ShloMosaic

/-- A left fold that adds. -/
theorem foldl_plus {ι : Type} (f : ι → EReal) : ∀ (l : List ι) (v : EReal), l.foldl (fun r n => r + f n) v = v + (l.map f).sum
  | [], v => by simp
  | a :: l, v => by
    show l.foldl (fun r n => r + f n) (v + f a) = _
    rw [foldl_plus f l (v + f a), List.map_cons, List.sum_cons, add_assoc]

/-- The indices of a window of `4096` along the middle axis. -/
def colEquiv : (⟨3, ![1, 4096, 1]⟩ : Shape).Idx ≃ Fin 4096 where
  toFun w := w 1
  invFun k := ix3 0 k 0
  left_inv w := by
    funext a
    match a with
    | ⟨0, _⟩ => exact Subsingleton.elim (α := Fin 1) _ _
    | ⟨1, _⟩ => rfl
    | ⟨2, _⟩ => exact Subsingleton.elim (α := Fin 1) _ _
  right_inv k := rfl

/-- A column's entries up to a row, over a window that ends there. -/
theorem sum_tail (X : ℕ → EReal) (s : ℕ) (hs : s < 4096) :
    ∑ k ∈ Finset.range 4096, (if 4095 ≤ s + k then X (s + k - 4095) else 0) = ∑ j ∈ Finset.range (s + 1), X j := by
  have e : 4096 = (4095 - s) + (s + 1) := by omega
  rw [e, Finset.sum_range_add, Finset.sum_eq_zero, zero_add]
  · refine Finset.sum_congr rfl fun k hk => ?_
    rw [if_pos (by omega)]
    exact congrArg X (by omega)
  · intro k hk
    rw [Finset.mem_range] at hk
    rw [if_neg (by omega)]

/-- The window sum along the middle axis, padded in front, is the prefix sum. -/
theorem cumsum_at (x : (⟨3, ![8, 4096, 512]⟩ : Shape).Idx → EReal) (v : EReal) (hv : v = 0)
    (h : (⟨3, ![8, 4096, 512]⟩ : Shape).ReduceWindows ![1, 4096, 1] ![1, 1, 1] ![0, 4095, 0] ![0, 0, 0] ⟨3, ![8, 4096, 512]⟩) (n : Fin 8) (s : Fin 4096) (f : Fin 512) :
    Ideal.hostReduceWindowAdd ![1, 4096, 1] ![1, 1, 1] ![0, 4095, 0] ![0, 0, 0] h x v (ix3 n s f)
      = ∑ j ∈ Finset.range ((s : ℕ) + 1), if hj : j < 4096 then x (ix3 n ⟨j, hj⟩ f) else 0 := by
  subst hv
  unfold Ideal.hostReduceWindowAdd Host.reduceWindow
  dsimp only
  rw [foldl_plus, zero_add]
  have hn := n.isLt
  have hf := f.isLt
  have hs := s.isLt
  refine Eq.trans ?_ (sum_tail (fun j : ℕ => if hj : j < 4096 then x (ix3 n ⟨j, hj⟩ f) else 0) (s : ℕ) hs)
  rw [← Fin.sum_univ_eq_sum_range (fun k : ℕ => if 4095 ≤ (s : ℕ) + k then (fun j : ℕ => if hj : j < 4096 then x (ix3 n ⟨j, hj⟩ f) else 0) ((s : ℕ) + k - 4095) else 0) 4096,
    ← Equiv.sum_comp colEquiv, ← Equiv.sum_comp (⟨3, ![1, 4096, 1]⟩ : Shape).rowMajor.symm, ← Fin.sum_univ_def]
  refine Finset.sum_congr rfl fun k _ => ?_
  have w0 : (((⟨3, ![1, 4096, 1]⟩ : Shape).rowMajor.symm k 0 : Fin 1) : ℕ) = 0 := Nat.lt_one_iff.mp ((⟨3, ![1, 4096, 1]⟩ : Shape).rowMajor.symm k 0 : Fin 1).isLt
  have w2 : (((⟨3, ![1, 4096, 1]⟩ : Shape).rowMajor.symm k 2 : Fin 1) : ℕ) = 0 := Nat.lt_one_iff.mp ((⟨3, ![1, 4096, 1]⟩ : Shape).rowMajor.symm k 2 : Fin 1).isLt
  have w1 : (((⟨3, ![1, 4096, 1]⟩ : Shape).rowMajor.symm k 1 : Fin 4096) : ℕ) < 4096 := ((⟨3, ![1, 4096, 1]⟩ : Shape).rowMajor.symm k 1 : Fin 4096).isLt
  show _ = if 4095 ≤ (s : ℕ) + (((⟨3, ![1, 4096, 1]⟩ : Shape).rowMajor.symm k 1 : Fin 4096) : ℕ) then (if hj : (s : ℕ) + (((⟨3, ![1, 4096, 1]⟩ : Shape).rowMajor.symm k 1 : Fin 4096) : ℕ) - 4095 < 4096 then x (ix3 n ⟨(s : ℕ) + (((⟨3, ![1, 4096, 1]⟩ : Shape).rowMajor.symm k 1 : Fin 4096) : ℕ) - 4095, hj⟩ f) else 0) else 0
  by_cases hle : 4095 ≤ (s : ℕ) + (((⟨3, ![1, 4096, 1]⟩ : Shape).rowMajor.symm k 1 : Fin 4096) : ℕ)
  · rw [if_pos hle]
    dsimp only
    rw [dif_pos (by omega : (s : ℕ) + (((⟨3, ![1, 4096, 1]⟩ : Shape).rowMajor.symm k 1 : Fin 4096) : ℕ) - 4095 < 4096), dif_pos]
    · refine congrArg x (funext fun a => Fin.ext ?_)
      match a with
      | ⟨0, _⟩ => show (n : ℕ) * 1 + (((⟨3, ![1, 4096, 1]⟩ : Shape).rowMajor.symm k 0 : Fin 1) : ℕ) - 0 = (n : ℕ); omega
      | ⟨1, _⟩ => show (s : ℕ) * 1 + (((⟨3, ![1, 4096, 1]⟩ : Shape).rowMajor.symm k 1 : Fin 4096) : ℕ) - 4095 = (s : ℕ) + (((⟨3, ![1, 4096, 1]⟩ : Shape).rowMajor.symm k 1 : Fin 4096) : ℕ) - 4095; omega
      | ⟨2, _⟩ => show (f : ℕ) * 1 + (((⟨3, ![1, 4096, 1]⟩ : Shape).rowMajor.symm k 2 : Fin 1) : ℕ) - 0 = (f : ℕ); omega
    · intro a
      match a with
      | ⟨0, _⟩ => show 0 ≤ (n : ℕ) * 1 + (((⟨3, ![1, 4096, 1]⟩ : Shape).rowMajor.symm k 0 : Fin 1) : ℕ) ∧ (n : ℕ) * 1 + (((⟨3, ![1, 4096, 1]⟩ : Shape).rowMajor.symm k 0 : Fin 1) : ℕ) - 0 < 8; omega
      | ⟨1, _⟩ => show 4095 ≤ (s : ℕ) * 1 + (((⟨3, ![1, 4096, 1]⟩ : Shape).rowMajor.symm k 1 : Fin 4096) : ℕ) ∧ (s : ℕ) * 1 + (((⟨3, ![1, 4096, 1]⟩ : Shape).rowMajor.symm k 1 : Fin 4096) : ℕ) - 4095 < 4096; omega
      | ⟨2, _⟩ => show 0 ≤ (f : ℕ) * 1 + (((⟨3, ![1, 4096, 1]⟩ : Shape).rowMajor.symm k 2 : Fin 1) : ℕ) ∧ (f : ℕ) * 1 + (((⟨3, ![1, 4096, 1]⟩ : Shape).rowMajor.symm k 2 : Fin 1) : ℕ) - 0 < 512; omega
  · rw [if_neg hle, dif_neg]
    intro hin
    have h1 := (hin 1).1
    change 4095 ≤ (s : ℕ) * 1 + (((⟨3, ![1, 4096, 1]⟩ : Shape).rowMajor.symm k 1 : Fin 4096) : ℕ) at h1
    omega

/-- A number that is neither infinity. -/
def Real (a : EReal) : Prop := ∃ r : ℝ, a = (r : EReal)

theorem real_zero : Real 0 := ⟨0, rfl⟩

theorem real_add {a b : EReal} (ha : Real a) (hb : Real b) : Real (a + b) := by
  obtain ⟨x, rfl⟩ := ha
  obtain ⟨y, rfl⟩ := hb
  exact ⟨x + y, (EReal.coe_add x y).symm⟩

theorem real_mul {a b : EReal} (ha : Real a) (hb : Real b) : Real (a * b) := by
  obtain ⟨x, rfl⟩ := ha
  obtain ⟨y, rfl⟩ := hb
  exact ⟨x * y, (EReal.coe_mul x y).symm⟩

theorem real_sum {ι : Type} (s : Finset ι) (f : ι → EReal) (h : ∀ i, Real (f i)) : Real (∑ i ∈ s, f i) :=
  Finset.sum_induction f Real (fun _ _ => real_add) real_zero fun i _ => h i

/-- Adding a real and taking it away again. -/
theorem add_cancel {a b : EReal} (ha : Real a) (hb : Real b) : a + b - a = b := by
  obtain ⟨x, rfl⟩ := ha
  obtain ⟨y, rfl⟩ := hb
  rw [← EReal.coe_add, ← EReal.coe_sub, add_sub_cancel_left]

/-- A difference of prefix sums of reals is the sum of the last rows. -/
theorem prefix_diff (z : ℕ → EReal) (hz : ∀ j, Real (z j)) (w : ℕ) (hw : w ≤ 16) (s : ℕ) :
    (∑ j ∈ Finset.range (16 + s + 1), z j) - ∑ j ∈ Finset.range (16 - w + s + 1), z j = win w z s := by
  have e : 16 + s + 1 = (16 - w + s + 1) + w := by omega
  rw [e, Finset.sum_range_add, add_cancel (real_sum _ z hz) (real_sum _ _ fun j => hz _)]
  unfold win
  rw [← Finset.sum_range_reflect]
  refine Finset.sum_congr rfl fun k hk => congrArg z ?_
  rw [Finset.mem_range] at hk
  omega

end Cert.MixSums
-- ==== Proof.MixRef.lean ====
module

public import proofs.«01_k».proof.Proof.Gen.MixRefIdeal.Read
public import proofs.«01_k».proof.Proof.MixSums
public import proofs.«01_k».proof.Pre_pool_finite
public import Idealize.ShloMosaic.Lib.ReduceAll

@[expose] public section

set_option maxRecDepth 16384

noncomputable section

open Idealize.ShloMosaic Idealize.ShloMosaic.TcCoe Idealize.SL.Sem

/-! # The reference of the gated mixer, element by element -/

namespace Cert.MixRefIdeal.Hand

open Cert.MixRefIdeal Cert.MixRefIdeal.Gen Cert.MixRefIdeal.Read Cert.FfnSpec Cert.MixSpec Cert.MixSums

variable (x0 : FVec Ideal S8x4096x1024 .f32) (x1 : FVec Ideal S8x16x512x256 .bf16) (x2 : FVec Ideal S1x1024x4096 .f32) (x3 : FVec Ideal S1x4x128x128 .f32)
  (x4 : FVec Ideal S1x512 .f32) (x5 x6 : FVec Ideal S1x512x1024 .f32) (x7 : FVec Ideal S1x1024x1024 .f32) (x8 x9 : FVec Ideal S1x1024 .f32)

/-- The tokens by their coordinates. -/
abbrev X : Fin 8 → Fin 4096 → Fin 1024 → EReal := fun n s k => x0 (ix3 n s k)

/-- The first weights by their coordinates. -/
abbrev W : Fin 1024 → Fin 4096 → EReal := fun k f => x2 (ix3 0 k f)

/-- The pooling branch's projection. -/
theorem ref_p (n : Fin 8) (s : Fin 4096) (f : Fin 512) : val_main_v3 (F := Ideal) x0 x2 (ix3 n s f) = pAt (X x0) (W x2) n s f := by
  pointwise [val_main_v0, val_main_v1, val_main_v2, val_main_v3, pAt]

/-- The gates' logits. -/
theorem ref_g (n : Fin 8) (s : Fin 4096) (f : Fin 2048) : val_main_v4 (F := Ideal) x0 x2 (ix3 n s f) = gAt (X x0) (W x2) n s f := by
  pointwise [val_main_v0, val_main_v1, val_main_v2, val_main_v4, gAt]
  exact Finset.sum_congr rfl fun k _ => congrArg (fun j => x0 (ix3 n s k) * x2 (ix3 0 k j)) (Fin.ext (show 1536 + (512 + (f : ℕ)) = 2048 + (f : ℕ) by omega))

/-- The attention's branch after its projection. -/
theorem ref_attn (n : Fin 8) (s : Fin 4096) (d : Fin 1024) : val_main_v9 (F := Ideal) x1 x5 (ix3 n s d)
    = ∑ f : Fin 512, x1 (ix4 n ⟨(s : ℕ) / 256, by omega⟩ f ⟨(s : ℕ) % 256, by omega⟩) * x5 (ix3 0 f d) := by
  pointwise [val_main_v5, val_main_v6, val_main_v7, val_main_v8, val_main_v9]

/-- The prefix sums. -/
theorem ref_cum (n : Fin 8) (s : Fin 4096) (f : Fin 512) : val_main_v12 (F := Ideal) x0 x2 (ix3 n s f)
    = ∑ j ∈ Finset.range ((s : ℕ) + 1), pPad (X x0) (W x2) n (16 + j) f := by
  have hs := s.isLt
  unfold val_main_v12 Host.reduceWindowAdd
  rw [Ideal.hostReduceWindowAdd_def]
  refine (cumsum_at _ _ ?_ _ n s f).trans (Finset.sum_congr rfl fun j hj => ?_)
  · rw [val_main_call0_call0_v0_apply, val_main_call0_call0_cst_apply]
    show Ideal.ofBits FTy.f32 0x00000000#32 = (0 : EReal)
    simp [Ideal.ofBits, Ideal.ieee]
  · rw [Finset.mem_range] at hj
    unfold pPad
    rw [dif_pos (by omega), dif_pos (by omega), ref_p]
    exact congrArg (fun j => pAt (X x0) (W x2) n j f) (Fin.ext (show j = 16 + j - 16 by omega))

/-- The prefix sums after sixteen zero rows are those of the padded sequence. -/
theorem ref_pad (n : Fin 8) (j : Fin 4112) (f : Fin 512) : val_main_v13 (F := Ideal) x0 x2 (ix3 n j f)
    = ∑ i ∈ Finset.range ((j : ℕ) + 1), pPad (X x0) (W x2) n i f := by
  have hj := j.isLt
  have zero : ∀ i, i < 16 → pPad (X x0) (W x2) n i f = 0 := fun i hi => by
    unfold pPad
    rw [dif_neg (by omega)]
  by_cases h : 16 ≤ (j : ℕ)
  · have e : (j : ℕ) + 1 = 16 + ((j : ℕ) - 16 + 1) := by omega
    rw [e, Finset.sum_range_add, Finset.sum_eq_zero fun i hi => zero i (Finset.mem_range.mp hi), zero_add]
    refine Eq.trans ?_ (ref_cum x0 x2 n ⟨(j : ℕ) - 16, by omega⟩ f)
    pointwise [val_main_v13]
    rw [dif_pos (by omega)]
  · rw [Finset.sum_eq_zero fun i hi => zero i (by rw [Finset.mem_range] at hi; omega)]
    pointwise [val_main_v13, val_main_cst]
    rw [dif_neg (by omega)]

/-- The means over windows of width 2. -/
theorem ref_quot0 (n : Fin 8) (s : Fin 4096) (l : Fin 128) : val_main_v26 (F := Ideal) x0 x2 (ix3 n s l)
    = Ideal.div (val_main_v13 (F := Ideal) x0 x2 (ix3 n ⟨16 + (s : ℕ), by omega⟩ ⟨0 + (l : ℕ), by omega⟩)
        - val_main_v13 (F := Ideal) x0 x2 (ix3 n ⟨14 + (s : ℕ), by omega⟩ ⟨0 + (l : ℕ), by omega⟩)) (cnt 2 (s : ℕ)) := by
  pointwise [val_main_v14, val_main_v15, val_main_v16, val_main_v17, val_main_v18, val_main_v19, val_main_v20, val_main_v21, val_main_v22, val_main_v23, val_main_v24, val_main_v25, val_main_v26, val_main_c, val_main_c_0, cnt]
  rfl

/-- The means over windows of width 4. -/
theorem ref_quot1 (n : Fin 8) (s : Fin 4096) (l : Fin 128) : val_main_v35 (F := Ideal) x0 x2 (ix3 n s l)
    = Ideal.div (val_main_v13 (F := Ideal) x0 x2 (ix3 n ⟨16 + (s : ℕ), by omega⟩ ⟨128 + (l : ℕ), by omega⟩)
        - val_main_v13 (F := Ideal) x0 x2 (ix3 n ⟨12 + (s : ℕ), by omega⟩ ⟨128 + (l : ℕ), by omega⟩)) (cnt 4 (s : ℕ)) := by
  pointwise [val_main_v14, val_main_v15, val_main_v16, val_main_v17, val_main_v27, val_main_v28, val_main_v29, val_main_v30, val_main_v31, val_main_v32, val_main_v33, val_main_v34, val_main_v35, val_main_c, val_main_c_1, cnt]
  rfl

/-- The means over windows of width 8. -/
theorem ref_quot2 (n : Fin 8) (s : Fin 4096) (l : Fin 128) : val_main_v44 (F := Ideal) x0 x2 (ix3 n s l)
    = Ideal.div (val_main_v13 (F := Ideal) x0 x2 (ix3 n ⟨16 + (s : ℕ), by omega⟩ ⟨256 + (l : ℕ), by omega⟩)
        - val_main_v13 (F := Ideal) x0 x2 (ix3 n ⟨8 + (s : ℕ), by omega⟩ ⟨256 + (l : ℕ), by omega⟩)) (cnt 8 (s : ℕ)) := by
  pointwise [val_main_v14, val_main_v15, val_main_v16, val_main_v17, val_main_v36, val_main_v37, val_main_v38, val_main_v39, val_main_v40, val_main_v41, val_main_v42, val_main_v43, val_main_v44, val_main_c, val_main_c_2, cnt]
  rfl

/-- The means over windows of width 16. -/
theorem ref_quot3 (n : Fin 8) (s : Fin 4096) (l : Fin 128) : val_main_v53 (F := Ideal) x0 x2 (ix3 n s l)
    = Ideal.div (val_main_v13 (F := Ideal) x0 x2 (ix3 n ⟨16 + (s : ℕ), by omega⟩ ⟨384 + (l : ℕ), by omega⟩)
        - val_main_v13 (F := Ideal) x0 x2 (ix3 n ⟨0 + (s : ℕ), by omega⟩ ⟨384 + (l : ℕ), by omega⟩)) (cnt 16 (s : ℕ)) := by
  pointwise [val_main_v14, val_main_v15, val_main_v16, val_main_v17, val_main_v45, val_main_v46, val_main_v47, val_main_v48, val_main_v49, val_main_v50, val_main_v51, val_main_v52, val_main_v53, val_main_c, val_main_c_3, cnt]
  rfl

/-- The four groups side by side: the window of a column is its group's. -/
theorem ref_cat (n : Fin 8) (s : Fin 4096) (f : Fin 512) (w : ℕ) (hw : w ≤ 16) (e : w = wid ((f : ℕ) / 128)) : val_main_v54 (F := Ideal) x0 x2 (ix3 n s f)
    = Ideal.div (val_main_v13 (F := Ideal) x0 x2 (ix3 n ⟨16 + (s : ℕ), by omega⟩ f)
        - val_main_v13 (F := Ideal) x0 x2 (ix3 n ⟨16 - w + (s : ℕ), by omega⟩ f)) (cnt w (s : ℕ)) := by
  have hf := f.isLt
  pointwise [val_main_v54]
  have key : ∀ (w' : ℕ) (hw' : w' ≤ 16) (f' : Fin 512), f' = f → w' = w →
      Ideal.div (val_main_v13 (F := Ideal) x0 x2 (ix3 n ⟨16 + (s : ℕ), by omega⟩ f') - val_main_v13 (F := Ideal) x0 x2 (ix3 n ⟨16 - w' + (s : ℕ), by omega⟩ f')) (cnt w' (s : ℕ))
      = Ideal.div (val_main_v13 (F := Ideal) x0 x2 (ix3 n ⟨16 + (s : ℕ), by omega⟩ f) - val_main_v13 (F := Ideal) x0 x2 (ix3 n ⟨16 - w + (s : ℕ), by omega⟩ f)) (cnt w (s : ℕ)) := by
    rintro w' hw' f' rfl rfl
    rfl
  by_cases h0 : (f : ℕ) < 128
  · rw [dif_pos h0, ref_quot0]
    exact key 2 (by omega) _ (Fin.ext (show 0 + (f : ℕ) = f by omega)) (by rw [e, show (f : ℕ) / 128 = 0 by omega]; rfl)
  by_cases h1 : (f : ℕ) - 128 < 128
  · rw [dif_neg h0, dif_pos h1, ref_quot1]
    exact key 4 (by omega) _ (Fin.ext (show 128 + ((f : ℕ) - 128) = f by omega)) (by rw [e, show (f : ℕ) / 128 = 1 by omega]; rfl)
  by_cases h2 : (f : ℕ) - 128 - 128 < 128
  · rw [dif_neg h0, dif_neg h1, dif_pos h2, ref_quot2]
    exact key 8 (by omega) _ (Fin.ext (show 256 + ((f : ℕ) - 128 - 128) = f by omega)) (by rw [e, show (f : ℕ) / 128 = 2 by omega]; rfl)
  · rw [dif_neg h0, dif_neg h1, dif_neg h2, ref_quot3]
    exact key 16 (by omega) _ (Fin.ext (show 384 + ((f : ℕ) - 128 - 128 - 128) = f by omega)) (by rw [e, show (f : ℕ) / 128 = 3 by omega]; rfl)

/-- A width is at most sixteen. -/
theorem wid_le (f : Fin 512) : wid ((f : ℕ) / 128) ≤ 16 := by
  have hf := f.isLt
  unfold wid
  calc 2 ^ ((f : ℕ) / 128 + 1) ≤ 2 ^ 4 := Nat.pow_le_pow_right (by omega) (by omega)
    _ = 16 := rfl

/-- For real projections, the means less the rows: differences of prefix sums are window sums. -/
theorem ref_diff (hp : ∀ n s f, Real (pAt (X x0) (W x2) n s f)) (n : Fin 8) (s : Fin 4096) (f : Fin 512) : val_main_v55 (F := Ideal) x0 x2 (ix3 n s f)
    = diff (wid ((f : ℕ) / 128)) (fun j => pPad (X x0) (W x2) n j f) (s : ℕ) := by
  have hs := s.isLt
  have hz : ∀ j, Real (pPad (X x0) (W x2) n j f) := fun j => by
    unfold pPad
    by_cases h : 16 ≤ j ∧ j - 16 < 4096
    · rw [dif_pos h]
      exact hp _ _ _
    · rw [dif_neg h]
      exact real_zero
  pointwise [val_main_v55]
  rw [ref_cat x0 x2 n s f _ (wid_le f) rfl, ref_pad, ref_pad, ref_p]
  unfold diff
  rw [← prefix_diff _ hz _ (wid_le f)]
  have e : pAt (X x0) (W x2) n s f = pPad (X x0) (W x2) n (16 + (s : ℕ)) f := by
    unfold pPad
    rw [dif_pos (by omega)]
    exact congrArg (fun j => pAt (X x0) (W x2) n j f) (Fin.ext (show (s : ℕ) = 16 + (s : ℕ) - 16 by omega))
  rw [e]

/-- The grouped projection. -/
theorem ref_group (n : Fin 8) (s : Fin 4096) (f : Fin 512) : val_main_v62 (F := Ideal) x0 x2 x3 x4 (ix3 n s f)
    = (∑ c : Fin 128, val_main_v55 (F := Ideal) x0 x2 (ix3 n s ⟨128 * ((f : ℕ) / 128) + (c : ℕ), by omega⟩) * x3 (ix4 0 ⟨(f : ℕ) / 128, by omega⟩ c ⟨(f : ℕ) % 128, by omega⟩)) * x4 (ix2 0 f) := by
  pointwise [val_main_v56, val_main_v57, val_main_v58, val_main_v59, val_main_v60, val_main_v61, val_main_v62, val_main_v10, val_main_v11]
  refine congrArg (· * x4 (ix2 0 f)) (Finset.sum_congr rfl fun c _ => (mul_comm _ _).trans ?_)
  exact congrArg (fun j => val_main_v55 (F := Ideal) x0 x2 (ix3 n s j) * x3 (ix4 0 ⟨(f : ℕ) / 128, by omega⟩ c ⟨(f : ℕ) % 128, by omega⟩)) (Fin.ext (show (f : ℕ) / 128 * 128 + (c : ℕ) = 128 * ((f : ℕ) / 128) + (c : ℕ) by omega))

/-- The gated sum. -/
theorem ref_mix (n : Fin 8) (s : Fin 4096) (d : Fin 1024) : val_main_v78 (F := Ideal) x0 x1 x2 x3 x4 x5 x6 (ix3 n s d)
    = gate (val_main_v4 (F := Ideal) x0 x2 (ix3 n s ⟨(d : ℕ), by omega⟩)) * val_main_v9 (F := Ideal) x1 x5 (ix3 n s d)
      + gate (val_main_v4 (F := Ideal) x0 x2 (ix3 n s ⟨1024 + (d : ℕ), by omega⟩)) * ∑ f : Fin 512, val_main_v62 (F := Ideal) x0 x2 x3 x4 (ix3 n s f) * x6 (ix3 0 f d) := by
  pointwise [val_main_v63, val_main_v64, val_main_v65, val_main_v66, val_main_v67, val_main_v68, val_main_v69, val_main_v70, val_main_v71, val_main_v72, val_main_v73, val_main_v74, val_main_v75, val_main_v76, val_main_v77, val_main_v78, val_main_cst_4, val_main_cst_5, gate]

/-- The row before its norm. -/
theorem ref_row (n : Fin 8) (s : Fin 4096) (d : Fin 1024) : val_main_v83 (F := Ideal) x0 x1 x2 x3 x4 x5 x6 x7 (ix3 n s d)
    = Ideal.ofBits FTy.f32 0x3F9837F0#32 * x0 (ix3 n s d) + ∑ e : Fin 1024, val_main_v78 (F := Ideal) x0 x1 x2 x3 x4 x5 x6 (ix3 n s e) * x7 (ix3 0 e d) := by
  pointwise [val_main_v79, val_main_v80, val_main_v81, val_main_v82, val_main_v83, val_main_cst_6]

/-- The mean of a row. -/
theorem ref_mean (n : Fin 8) (s : Fin 4096) (q : Fin 1) : val_main_v89 (F := Ideal) x0 x1 x2 x3 x4 x5 x6 x7 (ix3 n s q)
    = Ideal.div (∑ d : Fin 1024, val_main_v83 (F := Ideal) x0 x1 x2 x3 x4 x5 x6 x7 (ix3 n s d)) (Ideal.ofBits FTy.f32 0x44800000#32) := by
  pointwise [val_main_v86, val_main_v87, val_main_v88, val_main_v89, val_main_cst_7, val_main_cst_8]

/-- A row's deviation from its mean. -/
theorem ref_dev (n : Fin 8) (s : Fin 4096) (d : Fin 1024) : val_main_v91 (F := Ideal) x0 x1 x2 x3 x4 x5 x6 x7 (ix3 n s d)
    = val_main_v83 (F := Ideal) x0 x1 x2 x3 x4 x5 x6 x7 (ix3 n s d) - val_main_v89 (F := Ideal) x0 x1 x2 x3 x4 x5 x6 x7 (ix3 n s 0) := by
  pointwise [val_main_v90, val_main_v91]

/-- The norm of a row. -/
theorem ref_norm (n : Fin 8) (s : Fin 4096) (d : Fin 1024) : val_main_v109 (F := Ideal) x0 x1 x2 x3 x4 x5 x6 x7 x8 x9 (ix3 n s d)
    = lnorm (fun d => val_main_v83 (F := Ideal) x0 x1 x2 x3 x4 x5 x6 x7 (ix3 n s d)) (x8 (ix2 0 d)) (x9 (ix2 0 d)) d := by
  pointwise [val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v84, val_main_v85, val_main_cst_9, val_main_cst_10, val_main_cst_11]
  simp only [ref_dev, ref_mean]
  rfl

/-- The reference at an index, for real projections. -/
theorem ref_at (hp : ∀ n s f, Real (pAt (X x0) (W x2) n s f)) (n : Fin 8) (s : Fin 4096) (d : Fin 1024) : val_main_v109 (F := Ideal) x0 x1 x2 x3 x4 x5 x6 x7 x8 x9 (ix3 n s d)
    = outSeq (X x0) (fun n j f r => x1 (ix4 n j f r)) (W x2) (fun q k l => x3 (ix4 0 q k l)) (fun f => x4 (ix2 0 f)) (fun f d => x5 (ix3 0 f d)) (fun f d => x6 (ix3 0 f d))
        (fun e d => x7 (ix3 0 e d)) (fun d => x8 (ix2 0 d)) (fun d => x9 (ix2 0 d)) n s d := by
  have ep : ∀ f : Fin 512, val_main_v62 (F := Ideal) x0 x2 x3 x4 (ix3 n s f) = poolY (pPad (X x0) (W x2) n) (fun q k l => x3 (ix4 0 q k l)) (fun f => x4 (ix2 0 f)) (s : ℕ) f := by
    intro f
    rw [ref_group]
    unfold poolY
    refine congrArg (· * x4 (ix2 0 f)) (Finset.sum_congr rfl fun c _ => ?_)
    have hc := c.isLt
    rw [ref_diff x0 x2 hp]
    refine congrArg (fun g => diff (wid g) _ (s : ℕ) * _) ?_
    show (128 * ((f : ℕ) / 128) + (c : ℕ)) / 128 = (f : ℕ) / 128
    omega
  have em : ∀ e : Fin 1024, val_main_v78 (F := Ideal) x0 x1 x2 x3 x4 x5 x6 (ix3 n s e)
      = mixAt (X x0) (fun n j f r => x1 (ix4 n j f r)) (W x2) (fun q k l => x3 (ix4 0 q k l)) (fun f => x4 (ix2 0 f)) (fun f d => x5 (ix3 0 f d)) (fun f d => x6 (ix3 0 f d)) n s e := by
    intro e
    rw [ref_mix, ref_g, ref_g, ref_attn]
    simp only [ep]
    rfl
  rw [ref_norm]
  simp only [ref_row, em]
  rfl

/-- A number whose absolute value is below infinity is real. -/
theorem real_of_lt (a : EReal) (h : Ideal.cmp .olt (max a (-a)) (Ideal.ofBits FTy.f32 0x7F800000#32) = 1#1) : Real a := by
  have top : Ideal.ofBits FTy.f32 0x7F800000#32 = (⊤ : EReal) := by simp [Ideal.ofBits, Ideal.ieee]
  rw [top] at h
  induction a with
  | bot => simp [Ideal.cmp] at h
  | top => simp [Ideal.cmp] at h
  | coe r => exact ⟨r, rfl⟩

/-- The shape facts the precondition's function takes. -/
theorem pre_facts : Cert.Pre_pool_finite.Facts := ⟨by decide, by decide, by decide, by decide, by decide, by decide, by decide⟩

/-- Under the precondition the pooling branch's projection is real everywhere. -/
theorem real_p (h : (haveI := pre_facts; Cert.Pre_pool_finite.fn (F := Ideal) x0 x1 x2 x3 x4 x5 x6 x7 x8 x9) = fun _ => 1#1) (n : Fin 8) (s : Fin 4096) (f : Fin 512) :
    Real (pAt (X x0) (W x2) n s f) := by
  have h0 := congrFun h (fun a => a.elim0)
  unfold Cert.Pre_pool_finite.fn at h0
  dsimp only at h0
  obtain ⟨ha, hb⟩ := IntOp.andi_eq_one.1 h0
  haveI : Subsingleton Cert.Pre_pool_finite.S_.Idx := ⟨fun a b => funext fun i => i.elim0⟩
  have rx : ∀ i, Real (x0 i) := fun i => real_of_lt _ (Host.reduce_andi_all _ _ _ _ _ ha i)
  have rw_ : ∀ k : Fin 1024, Real (x2 (ix3 0 k ⟨1536 + (f : ℕ), by omega⟩)) := fun k => by
    have := Host.reduce_andi_all _ _ _ _ _ hb (ix2 k f)
    refine real_of_lt _ (Eq.trans ?_ this)
    pointwise []
    rfl
  unfold pAt
  exact real_sum _ _ fun k => real_mul (rx _) (rw_ k)

end Cert.MixRefIdeal.Hand
-- ==== Proof.QkvValue.lean ====
module

public import proofs.«01_k».proof.Proof.Gen.QkvIdeal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! # The projections to queries, keys and values -/

namespace Cert.QkvSpec

variable (X : Fin 8 → Fin 4096 → Fin 1024 → EReal) (W : Fin 1024 → Fin 4096 → EReal)

/-- The attention's scale times the base of its exponentials' logarithm, as the programs write it. -/
def scale : EReal := Ideal.ofBits FTy.f32 0x3E38AA3B#32

/-- A token's projection to one column. -/
def proj (n : Fin 8) (s : Fin 4096) (f : Fin 4096) : EReal := ∑ x, X n s x * W x f

/-- The scaled queries by blocks of 256 tokens, transposed. -/
def qAt (n : Fin 8) (b : Fin 16) (d : Fin 512) (r : Fin 256) : EReal := proj X W n ⟨256 * (b : ℕ) + (r : ℕ), by omega⟩ ⟨(d : ℕ), by omega⟩ * scale

/-- The keys. -/
def kAt (n : Fin 8) (s : Fin 4096) (d : Fin 512) : EReal := proj X W n s ⟨512 + (d : ℕ), by omega⟩

/-- The values by blocks, transposed. -/
def vAt (n : Fin 8) (b : Fin 16) (d : Fin 512) (r : Fin 256) : EReal := proj X W n ⟨256 * (b : ℕ) + (r : ℕ), by omega⟩ ⟨1024 + (d : ℕ), by omega⟩

/-- The scale is a nonnegative real. -/
theorem scale_real : ∃ r : ℝ, 0 ≤ r ∧ scale = (r : EReal) := by
  refine ⟨((2 ^ 23 + 3713595 : ℕ) : ℝ) * (2 : ℝ) ^ (-26 : ℤ), by positivity, ?_⟩
  simp [scale, Ideal.ofBits, Ideal.ieee, -EReal.coe_mul]

/-- A nonnegative real factor moves into a sum. -/
theorem sum_mul_real {ι : Type} [Fintype ι] (A : ι → EReal) (r : ℝ) (hr : 0 ≤ r) : (∑ i, A i) * (r : EReal) = ∑ i, A i * (r : EReal) := by
  classical
  have key : ∀ s : Finset ι, (∑ i ∈ s, A i) * (r : EReal) = ∑ i ∈ s, A i * (r : EReal) := by
    intro s
    induction s using Finset.induction_on with
    | empty => simp
    | insert a s ha ih =>
      rw [Finset.sum_insert ha, Finset.sum_insert ha, EReal.right_distrib_of_nonneg_of_ne_top (EReal.coe_nonneg.mpr hr) (EReal.coe_ne_top r), ih]
  exact key Finset.univ

/-- The scale in the weights is the scale on the projection. -/
theorem scaled_sum (A B : Fin 1024 → EReal) : ∑ x, B x * scale * A x = (∑ x, A x * B x) * scale := by
  obtain ⟨r, hr, e⟩ := scale_real
  rw [e, sum_mul_real _ r hr]
  exact Finset.sum_congr rfl fun x _ => by rw [mul_comm (B x * _) (A x), mul_assoc]

end Cert.QkvSpec

namespace Cert.QkvIdeal.Hand

open Cert.QkvIdeal Cert.QkvIdeal.Gen Cert.QkvSpec

section
variable (x0 : Vec Ideal S1x2048x1024 .f32) (w : Vec Ideal S512x1024 .bf16) (w' : Vec Ideal S1024x512 .bf16)

theorem pay4_at (d : Fin 512) (r : Fin 2048) : k0_pay4 x0 w (ix2 d r) = ∑ x : Fin 1024, w (ix2 d x) * x0 (ix3 0 r x) := by
  pointwise [k0_pay4, k0_pay3]

theorem pay5_at (d : Fin 512) (r : Fin 2048) : k0_pay5 x0 w (ix2 d r) = ∑ x : Fin 1024, w (ix2 d x) * x0 (ix3 0 r x) := by
  pointwise [k0_pay5, k0_pay3]

theorem pay6_at (q : Fin 1) (r : Fin 2048) (d : Fin 512) : k0_pay6 x0 w' (ix3 q r d) = ∑ x : Fin 1024, x0 (ix3 0 r x) * w' (ix2 x d) := by
  pointwise [k0_pay6, k0_pay3]

variable (x1 x3 : Vec Ideal S512x1024 .bf16) (x2 : Vec Ideal S1024x512 .bf16)

/-- The queries' buffer. -/
theorem out4_at (q : Fin 1) (b : Fin 8) (d : Fin 512) (r : Fin 256) :
    out0_4 x0 x1 x2 x3 (ix4 q b d r) = ∑ x : Fin 1024, x1 (ix2 d x) * x0 (ix3 0 ⟨256 * (b : ℕ) + (r : ℕ), by omega⟩ x) := by
  unfold_out out0_4
  rw [View.ld_unit_lit inb_S1x2048x1024_S1x2048x1024_0_0_0 x0 (by decide), View.ld_unit_lit inb_S512x1024_S512x1024_0_0 x1 (by decide)]
  refine (Value.canon4_eq _ _ _).trans ((pay4_at x0 x1 d ⟨(b : ℕ) * 256 + (r : ℕ), by omega⟩).trans ?_)
  exact Finset.sum_congr rfl fun x _ => congrArg (fun k => x1 (ix2 d x) * x0 (ix3 0 k x)) (Fin.ext (by show (b : ℕ) * 256 + (r : ℕ) = 256 * (b : ℕ) + (r : ℕ); omega))

/-- The keys' buffer. -/
theorem out5_at (q : Fin 1) (r : Fin 2048) (d : Fin 512) :
    out0_5 x0 x1 x2 x3 (ix3 q r d) = ∑ x : Fin 1024, x0 (ix3 0 r x) * x2 (ix2 x d) := by
  unfold_out out0_5
  rw [View.ld_unit_lit inb_S1x2048x1024_S1x2048x1024_0_0_0 x0 (by decide), View.ld_unit_lit inb_S1024x512_S1024x512_0_0 x2 (by decide)]
  canon_tiles x h
  rw [eq_ix3 x]
  refine (pay6_at x0 x2 (x 0) (x 1) (x 2)).trans ?_
  obtain rfl : r = x 1 := Fin.ext h1
  obtain rfl : d = x 2 := Fin.ext h2
  rfl

/-- The values' buffer. -/
theorem out6_at (q : Fin 1) (b : Fin 8) (d : Fin 512) (r : Fin 256) :
    out0_6 x0 x1 x2 x3 (ix4 q b d r) = ∑ x : Fin 1024, x3 (ix2 d x) * x0 (ix3 0 ⟨256 * (b : ℕ) + (r : ℕ), by omega⟩ x) := by
  unfold_out out0_6
  rw [View.ld_unit_lit inb_S1x2048x1024_S1x2048x1024_0_0_0 x0 (by decide), View.ld_unit_lit inb_S512x1024_S512x1024_0_0 x3 (by decide)]
  refine (Value.canon6_eq _ _ _).trans ((pay5_at x0 x3 d ⟨(b : ℕ) * 256 + (r : ℕ), by omega⟩).trans ?_)
  exact Finset.sum_congr rfl fun x _ => congrArg (fun k => x3 (ix2 d x) * x0 (ix3 0 k x)) (Fin.ext (by show (b : ℕ) * 256 + (r : ℕ) = 256 * (b : ℕ) + (r : ℕ); omega))

end

variable (m : (b : Loc nD τ sig) → Buf (Elt Ideal) b) (c : Dev nD)

/-- The windows' blocks, all grid points at once. -/
theorem idx_tab : ∀ t : Fin cfg0.N, win0_0.index t = ![t.val / 2, t.val % 2, 0] ∧ win0_1.index t = ![0, 0] ∧ win0_2.index t = ![0, 0]
    ∧ win0_3.index t = ![0, 0] ∧ win0_4.index t = ![t.val / 2, t.val % 2, 0, 0] ∧ win0_5.index t = ![t.val / 2, t.val % 2, 0]
    ∧ win0_6.index t = ![t.val / 2, t.val % 2, 0, 0] :=
  (by decide +kernel : ∀ t : Fin grid0.N, _)

/-- The tokens and the weights as the spec reads them. -/
def xA (n : Fin 8) (s : Fin 4096) (x : Fin 1024) : EReal := m ((c : Thread nD τ).loc main_arg0) (ix3 n s x)
def wA (x : Fin 1024) (f : Fin 4096) : EReal := m ((c : Thread nD τ).loc main_arg1) (ix3 0 x f)

theorem blk0_at (t : Fin cfg0.N) (q : Fin 2048) (x : Fin 1024) : iblk m c 0 t (ix3 0 q x)
    = xA m c ⟨t.val / 2, by have : t.val < 16 := t.isLt; omega⟩ ⟨2048 * (t.val % 2) + (q : ℕ), by omega⟩ x := by
  unfold xA
  blk_ext [iblk, V, idx_tab t]

theorem blk1_at (t : Fin cfg0.N) (d : Fin 512) (x : Fin 1024) : iblk m c 1 t (ix2 d x) = wA m c x ⟨(d : ℕ), by omega⟩ * scale := by
  unfold wA scale
  blk_simp [iblk, idx_tab t]
  entry_read
  pointwise
  refine congrArg (fun a => a * Ideal.ofBits FTy.f32 1043900987#32) ?_
  blk_ext [idx_tab t]

theorem blk2_at (t : Fin cfg0.N) (x : Fin 1024) (d : Fin 512) : iblk m c 2 t (ix2 x d) = wA m c x ⟨512 + (d : ℕ), by omega⟩ := by
  unfold wA
  blk_simp [iblk, idx_tab t]
  entry_read
  pointwise
  blk_ext [idx_tab t]

theorem blk3_at (t : Fin cfg0.N) (d : Fin 512) (x : Fin 1024) : iblk m c 3 t (ix2 d x) = wA m c x ⟨1024 + (d : ℕ), by omega⟩ := by
  unfold wA
  blk_simp [iblk, idx_tab t]
  entry_read
  pointwise
  blk_ext [idx_tab t]

variable (t : Fin cfg0.N)

theorem tile4_at (q : Fin 1) (b : Fin 8) (d : Fin 512) (r : Fin 256) :
    out0_4 (iblk m c 0 t) (iblk m c 1 t) (iblk m c 2 t) (iblk m c 3 t) (ix4 q b d r)
      = qAt (xA m c) (wA m c) ⟨t.val / 2, by have : t.val < 16 := t.isLt; omega⟩ ⟨8 * (t.val % 2) + (b : ℕ), by omega⟩ d r := by
  rw [out4_at]
  simp only [blk0_at, blk1_at]
  rw [scaled_sum]
  unfold qAt proj
  congr 1
  refine Finset.sum_congr rfl fun x _ => congrArg (fun k => xA m c _ k x * _) (Fin.ext ?_)
  show 2048 * (t.val % 2) + (256 * (b : ℕ) + (r : ℕ)) = 256 * (8 * (t.val % 2) + (b : ℕ)) + (r : ℕ)
  omega

theorem tile5_at (q : Fin 1) (r : Fin 2048) (d : Fin 512) :
    out0_5 (iblk m c 0 t) (iblk m c 1 t) (iblk m c 2 t) (iblk m c 3 t) (ix3 q r d)
      = kAt (xA m c) (wA m c) ⟨t.val / 2, by have : t.val < 16 := t.isLt; omega⟩ ⟨2048 * (t.val % 2) + (r : ℕ), by omega⟩ d := by
  rw [out5_at]
  simp only [blk0_at, blk2_at]
  rfl

theorem tile6_at (q : Fin 1) (b : Fin 8) (d : Fin 512) (r : Fin 256) :
    out0_6 (iblk m c 0 t) (iblk m c 1 t) (iblk m c 2 t) (iblk m c 3 t) (ix4 q b d r)
      = vAt (xA m c) (wA m c) ⟨t.val / 2, by have : t.val < 16 := t.isLt; omega⟩ ⟨8 * (t.val % 2) + (b : ℕ), by omega⟩ d r := by
  rw [out6_at]
  simp only [blk0_at, blk3_at]
  unfold vAt proj
  refine Finset.sum_congr rfl fun x _ => (mul_comm _ _).trans (congrArg (fun k => xA m c _ k x * _) (Fin.ext ?_))
  show 2048 * (t.val % 2) + (256 * (b : ℕ) + (r : ℕ)) = 256 * (8 * (t.val % 2) + (b : ℕ)) + (r : ℕ)
  omega

/-- The three arrays the kernel leaves. -/
def outQ : S8x16x512x256.Idx → EReal := fun i => qAt (xA m c) (wA m c) (i 0) (i 1) (i 2) (i 3)
def outK : S8x4096x512.Idx → EReal := fun i => kAt (xA m c) (wA m c) (i 0) (i 1) (i 2)
def outV : S8x16x512x256.Idx → EReal := fun i => vAt (xA m c) (wA m c) (i 0) (i 1) (i 2) (i 3)

/-- The queries' array after the run. -/
theorem final4 : (dats m 0 c).arrAt 4 cfg0.N = outQ m c := by
  refine (dats m 0 c).arrAt_eq_of_covers 4 _ (by decide +kernel) fun t hf y => ?_
  obtain ⟨q, b, d, r, rfl⟩ : ∃ (q : Fin 1) (b : Fin 8) (d : Fin 512) (r : Fin 256), y = ix4 q b d r := ⟨y 0, y 1, y 2, y 3, eq_ix4 y⟩
  blk_simp
  rw [after0_4]
  refine (tile4_at m c t q b d r).trans ?_
  unfold outQ
  have ht : t.val < 16 := t.isLt
  refine congr (congr (congrArg₂ _ (Fin.ext ?_) (Fin.ext ?_)) (Fin.ext ?_)) (Fin.ext ?_)
  all_goals blk_simp [idx_tab t]
  show 8 * (t.val % 2) + (b : ℕ) = _
  omega

/-- The keys' array after the run. -/
theorem final5 : (dats m 0 c).arrAt 5 cfg0.N = outK m c := by
  refine (dats m 0 c).arrAt_eq_of_covers 5 _ (by decide +kernel) fun t hf y => ?_
  obtain ⟨q, r, d, rfl⟩ : ∃ (q : Fin 1) (r : Fin 2048) (d : Fin 512), y = ix3 q r d := ⟨y 0, y 1, y 2, eq_ix3 y⟩
  blk_simp
  rw [after0_5]
  refine (tile5_at m c t q r d).trans ?_
  unfold outK
  have ht : t.val < 16 := t.isLt
  refine congr (congrArg₂ _ (Fin.ext ?_) (Fin.ext ?_)) (Fin.ext ?_)
  all_goals blk_simp [idx_tab t]
  show 2048 * (t.val % 2) + (r : ℕ) = _
  omega

/-- The values' array after the run. -/
theorem final6 : (dats m 0 c).arrAt 6 cfg0.N = outV m c := by
  refine (dats m 0 c).arrAt_eq_of_covers 6 _ (by decide +kernel) fun t hf y => ?_
  obtain ⟨q, b, d, r, rfl⟩ : ∃ (q : Fin 1) (b : Fin 8) (d : Fin 512) (r : Fin 256), y = ix4 q b d r := ⟨y 0, y 1, y 2, y 3, eq_ix4 y⟩
  blk_simp
  rw [after0_6]
  refine (tile6_at m c t q b d r).trans ?_
  unfold outV
  have ht : t.val < 16 := t.isLt
  refine congr (congr (congrArg₂ _ (Fin.ext ?_) (Fin.ext ?_)) (Fin.ext ?_)) (Fin.ext ?_)
  all_goals blk_simp [idx_tab t]
  show 8 * (t.val % 2) + (b : ℕ) = _
  omega

end Cert.QkvIdeal.Hand
-- ==== Proof.QkvRef.lean ====
module

public import proofs.«01_k».proof.Proof.QkvValue
public import proofs.«01_k».proof.Proof.Gen.QkvRefIdeal.Read

@[expose] public section

set_option maxRecDepth 16384

noncomputable section

open Idealize.ShloMosaic Idealize.ShloMosaic.TcCoe Idealize.SL.Sem

/-! # The reference's projections, at each index -/

namespace Cert.QkvRefIdeal.Hand

open Cert.QkvRefIdeal Cert.QkvRefIdeal.Gen Cert.QkvRefIdeal.Read Cert.QkvSpec

variable (x0 : (⟨S8x4096x1024, .f32⟩ : BufTy).Contents (Elt Ideal)) (x1 : (⟨S1x1024x4096, .f32⟩ : BufTy).Contents (Elt Ideal))

/-- The three projections side by side. -/
theorem v2_at (n : Fin 8) (s : Fin 4096) (f : Fin 1536) :
    val_main_v2 (F := Ideal) x0 x1 (ix3 n s f) = proj (fun n s x => x0 (ix3 n s x)) (fun x f => x1 (ix3 0 x f)) n s ⟨(f : ℕ), by omega⟩ := by
  pointwise [val_main_v2, val_main_v1, val_main_v0, proj]

/-- The reference's queries. -/
theorem q_at (n : Fin 8) (b : Fin 16) (d : Fin 512) (r : Fin 256) :
    val_main_v10 (F := Ideal) x0 x1 (ix4 n b d r) = qAt (fun n s x => x0 (ix3 n s x)) (fun x f => x1 (ix3 0 x f)) n b d r := by
  pointwise [val_main_v10, val_main_v9, val_main_v8, val_main_v7, val_main_v3, val_main_v6, val_main_cst, v2_at, qAt, scale]
  simp only [mul_comm (b : ℕ) 256]

/-- The reference's keys. -/
theorem k_at (n : Fin 8) (s : Fin 4096) (d : Fin 512) :
    val_main_v11 (F := Ideal) x0 x1 (ix3 n s d) = kAt (fun n s x => x0 (ix3 n s x)) (fun x f => x1 (ix3 0 x f)) n s d := by
  pointwise [val_main_v11, val_main_v4, v2_at, kAt]

/-- The reference's values. -/
theorem v_at (n : Fin 8) (b : Fin 16) (d : Fin 512) (r : Fin 256) :
    val_main_v14 (F := Ideal) x0 x1 (ix4 n b d r) = vAt (fun n s x => x0 (ix3 n s x)) (fun x f => x1 (ix3 0 x f)) n b d r := by
  pointwise [val_main_v14, val_main_v13, val_main_v12, val_main_v5, v2_at, vAt]
  simp only [mul_comm (b : ℕ) 256]

end Cert.QkvRefIdeal.Hand
-- ==== Proof.BiasBucket.lean ====
module

public import Idealize.ShloMosaic.Lib.Pointwise
public import Idealize.ShloMosaic.Lib.Pipeline.ValueKit
public import Mathlib.Analysis.SpecialFunctions.Log.Basic
public import Mathlib.Analysis.Complex.Exponential

@[expose] public section

/-! # The bucket of a distance

The bucket of a distance below 512, as the kernel finds it (sixteen exact buckets, then sixteen thresholds), is the
bucket that the rounded-down logarithm gives. -/

noncomputable section

namespace Cert.BiasSpec

open Idealize.ShloMosaic

/-- The bucket of the distance `n`, by thresholds. -/
def bucketN (n : ℕ) : ℕ :=
  if 113 ≤ n then 31 else if 99 ≤ n then 30 else if 87 ≤ n then 29 else if 77 ≤ n then 28
  else if 67 ≤ n then 27 else if 59 ≤ n then 26 else if 52 ≤ n then 25 else if 46 ≤ n then 24
  else if 40 ≤ n then 23 else if 35 ≤ n then 22 else if 31 ≤ n then 21 else if 27 ≤ n then 20
  else if 24 ≤ n then 19 else if 21 ≤ n then 18 else if 19 ≤ n then 17 else if 16 ≤ n then 16 else n

/-- The divisor of the logarithm, the float next to the logarithm of eight. -/
def logEight : ℝ := 8721810 / 4194304

/-- What the logarithm gives before it is rounded down. -/
def steps (n : ℕ) : ℝ := Real.log ((n : ℝ) / 16) / logEight * 16

/-- The divisor, the base-e logarithm of eight as printed, is positive. -/
theorem logEight_pos : 0 < logEight := by unfold logEight; norm_num

/-- The logarithm of two from above, as closely as the float divisor needs. -/
theorem log_two_lt : Real.log 2 < 0.693147182 := by
  rw [Real.log_lt_iff_lt_exp (by norm_num)]
  have := Real.sum_le_exp_of_nonneg (show (0 : ℝ) ≤ 0.693147182 by norm_num) 14
  refine lt_of_lt_of_le ?_ this
  norm_num [Finset.sum_range_succ, Nat.factorial]

/-- The logarithm of two from below, loosely. -/
theorem lt_log_two : 0.693146 < Real.log 2 := by
  rw [Real.lt_log_iff_exp_lt (by norm_num)]
  have := Real.exp_bound (x := 0.693146) (by norm_num [abs_le]) (n := 12) (by norm_num)
  have := (abs_le.mp this).2
  norm_num [Finset.sum_range_succ, Nat.factorial, abs_of_pos] at this
  norm_num
  linarith

/-- The logarithm of sixteen is four times that of two. -/
theorem log_sixteen : Real.log 16 = 4 * Real.log 2 := by
  rw [show (16 : ℝ) = 2 ^ 4 by norm_num, Real.log_pow]; norm_num

/-- The steps, cleared of the division. -/
theorem steps_eq (n : ℕ) (h : 0 < n) : steps n * logEight = 16 * Real.log n - 64 * Real.log 2 := by
  unfold steps
  have hn : (n : ℝ) ≠ 0 := by exact_mod_cast h.ne'
  rw [Real.log_div hn (by norm_num), log_sixteen]
  field_simp [logEight_pos.ne']
  ring

/-- Below the next power of eight's root, fewer steps. -/
theorem steps_lt (n k : ℕ) (h : 0 < n) (hk : 0 < k) (hp : n ^ 16 ≤ 2 ^ (64 + 3 * k)) : steps n < k := by
  have hl : 16 * Real.log n ≤ (64 + 3 * k) * Real.log 2 := by
    have := Real.log_le_log (by positivity) (show ((n : ℝ) ^ 16) ≤ 2 ^ (64 + 3 * k) by exact_mod_cast hp)
    rw [Real.log_pow, Real.log_pow] at this
    push_cast at this
    exact this
  have he := steps_eq n h
  have hk' : (0 : ℝ) < k := by exact_mod_cast hk
  have h2 : 3 * Real.log 2 < logEight := by have := log_two_lt; unfold logEight; linarith
  have : steps n * logEight < k * logEight := by nlinarith
  exact lt_of_mul_lt_mul_right this logEight_pos.le

/-- From that root on (with the thousandth that the float divisor needs), at least that many. -/
theorem le_steps (n k : ℕ) (h : 0 < n) (hk : k ≤ 15) (hp : 2 ^ (64 + 3 * k) * 1001 ≤ 1000 * n ^ 16) : (k : ℝ) ≤ steps n := by
  have hl : (64 + 3 * k) * Real.log 2 + Real.log (1001 / 1000) ≤ 16 * Real.log n := by
    have hp' : (2 : ℝ) ^ (64 + 3 * k) * 1001 ≤ 1000 * (n : ℝ) ^ 16 := by exact_mod_cast hp
    have := Real.log_le_log (by positivity) (show (2 : ℝ) ^ (64 + 3 * k) * (1001 / 1000) ≤ (n : ℝ) ^ 16 by linarith)
    rw [Real.log_mul (by positivity) (by norm_num), Real.log_pow, Real.log_pow] at this
    push_cast at this
    exact this
  have hs : 1 / 1001 ≤ Real.log (1001 / 1000) := by
    have := Real.one_sub_inv_le_log_of_pos (show (0 : ℝ) < 1001 / 1000 by norm_num)
    norm_num at this ⊢
    exact this
  have he := steps_eq n h
  have hk' : (k : ℝ) ≤ 15 := by exact_mod_cast hk
  have hk0 : (0 : ℝ) ≤ k := Nat.cast_nonneg k
  have h2 : logEight ≤ 3 * Real.log 2 + 1 / 100000 := by have := lt_log_two; unfold logEight; linarith
  have : k * logEight ≤ steps n * logEight := by nlinarith
  exact le_of_mul_le_mul_right this logEight_pos

/-- No steps are negative from sixteen on. -/
theorem steps_nonneg (n : ℕ) (h : 16 ≤ n) : 0 ≤ steps n := by
  unfold steps
  have : (16 : ℝ) ≤ n := by exact_mod_cast h
  have := Real.log_nonneg (show (1 : ℝ) ≤ (n : ℝ) / 16 by linarith)
  have := logEight_pos
  positivity

/-- The comparisons of powers, every distance at once. -/
theorem powers : ∀ n < 512, 16 ≤ n → bucketN n - 16 ≤ 15 ∧ bucketN n = 16 + (bucketN n - 16)
    ∧ (bucketN n - 16 = 0 ∨ 2 ^ (64 + 3 * (bucketN n - 16)) * 1001 ≤ 1000 * n ^ 16)
    ∧ (bucketN n - 16 = 15 ∨ n ^ 16 ≤ 2 ^ (64 + 3 * (bucketN n - 16 + 1))) ∧ n ^ 16 ≤ 2 ^ (64 + 3 * 30) := by
  decide +kernel

/-- The steps rounded down, capped, are the bucket. -/
theorem floor_steps (n : ℕ) (h : 16 ≤ n) (hn : n < 512) : ∃ j : ℕ, ⌊steps n⌋ = (j : ℤ) ∧ j < 30 ∧ min (16 + j) 31 = bucketN n := by
  obtain ⟨h1, h2, h3, h4, h5⟩ := powers n hn h
  set k := bucketN n - 16 with hk
  have h0 := steps_nonneg n h
  have hlo : (k : ℝ) ≤ steps n := by
    rcases h3 with h3 | h3
    · rw [h3]; exact_mod_cast h0
    · exact le_steps n k (by omega) h1 h3
  have hf : 0 ≤ ⌊steps n⌋ := Int.floor_nonneg.mpr h0
  refine ⟨⌊steps n⌋.toNat, (Int.toNat_of_nonneg hf).symm, ?_, ?_⟩
  · have : ⌊steps n⌋ < 30 := Int.floor_lt.mpr (by exact_mod_cast steps_lt n 30 (by omega) (by norm_num) h5)
    omega
  · have a : (k : ℤ) ≤ ⌊steps n⌋ := Int.le_floor.mpr (by exact_mod_cast hlo)
    rw [h2]
    rcases h4 with h4 | h4
    · omega
    · have : ⌊steps n⌋ < ((k + 1 : ℕ) : ℤ) := Int.floor_lt.mpr (by exact_mod_cast steps_lt n (k + 1) (by omega) (by omega) h4)
      push_cast at this
      omega

/-! ## The same in the programs' words -/

/-- A distance within a block. -/
theorem own_word (k q : ℕ) (hk : k < 256) (hq : q < 256) :
    IntOp.maxsi (IntOp.subi (BitVec.ofNat 32 q) (BitVec.ofNat 32 k)) 0#32 = BitVec.ofNat 32 (q - k) := by
  have pos : ∀ d < 256, IntOp.maxsi (BitVec.ofNat 32 d) 0#32 = BitVec.ofNat 32 d := by decide +kernel
  have neg : ∀ d < 256, 0 < d → IntOp.maxsi (BitVec.ofNat 32 (2 ^ 32 - d)) 0#32 = 0#32 := by decide +kernel
  by_cases h : k ≤ q
  · rw [show IntOp.subi (BitVec.ofNat 32 q) (BitVec.ofNat 32 k) = BitVec.ofNat 32 (q - k) from by
      apply BitVec.eq_of_toNat_eq; simp only [IntOp.subi, BitVec.toNat_sub, BitVec.toNat_ofNat]; omega]
    exact pos _ (by omega)
  · rw [show IntOp.subi (BitVec.ofNat 32 q) (BitVec.ofNat 32 k) = BitVec.ofNat 32 (2 ^ 32 - (k - q)) from by
      apply BitVec.eq_of_toNat_eq; simp only [IntOp.subi, BitVec.toNat_sub, BitVec.toNat_ofNat]; omega]
    rw [neg _ (by omega) (by omega), show q - k = 0 by omega]

/-- A distance to the block before. -/
theorem prev_word (k q : ℕ) (hk : k < 256) (hq : q < 256) :
    IntOp.maxsi (IntOp.addi (IntOp.subi (BitVec.ofNat 32 q) (BitVec.ofNat 32 k)) 256#32) 0#32 = BitVec.ofNat 32 (q + 256 - k) := by
  have pos : ∀ d < 512, IntOp.maxsi (BitVec.ofNat 32 d) 0#32 = BitVec.ofNat 32 d := by decide +kernel
  rw [show IntOp.addi (IntOp.subi (BitVec.ofNat 32 q) (BitVec.ofNat 32 k)) 256#32 = BitVec.ofNat 32 (q + 256 - k) from by
    apply BitVec.eq_of_toNat_eq; simp only [IntOp.addi, IntOp.subi, BitVec.toNat_add, BitVec.toNat_sub, BitVec.toNat_ofNat]; omega]
  exact pos _ (by omega)

/-- Whether a query sees a key of its own block. -/
theorem seen_word (k q : ℕ) (hk : k < 256) (hq : q < 256) :
    (IntOp.cmpi .sge (IntOp.subi (BitVec.ofNat 32 q) (BitVec.ofNat 32 k)) 0#32 = 1#1) ↔ k ≤ q := by
  have pos : ∀ d < 256, IntOp.cmpi .sge (BitVec.ofNat 32 d) 0#32 = 1#1 := by decide +kernel
  have neg : ∀ d < 256, 0 < d → ¬ IntOp.cmpi .sge (BitVec.ofNat 32 (2 ^ 32 - d)) 0#32 = 1#1 := by decide +kernel
  by_cases h : k ≤ q
  · rw [show IntOp.subi (BitVec.ofNat 32 q) (BitVec.ofNat 32 k) = BitVec.ofNat 32 (q - k) from by
      apply BitVec.eq_of_toNat_eq; simp only [IntOp.subi, BitVec.toNat_sub, BitVec.toNat_ofNat]; omega]
    exact iff_of_true (pos _ (by omega)) h
  · rw [show IntOp.subi (BitVec.ofNat 32 q) (BitVec.ofNat 32 k) = BitVec.ofNat 32 (2 ^ 32 - (k - q)) from by
      apply BitVec.eq_of_toNat_eq; simp only [IntOp.subi, BitVec.toNat_sub, BitVec.toNat_ofNat]; omega]
    exact iff_of_false (neg _ (by omega) (by omega)) h

/-- The same comparison on the two positions themselves. -/
theorem seen_direct (k q : ℕ) (hk : k < 256) (hq : q < 256) :
    (IntOp.cmpi .sge (BitVec.ofNat 32 q) (BitVec.ofNat 32 k) = 1#1) ↔ k ≤ q := by
  have ti : ∀ n < 256, (BitVec.ofNat 32 n).toInt = (n : ℤ) := by decide +kernel
  have hb : ∀ b : Bool, BitVec.ofBool b = 1#1 ↔ b = true := by decide
  simp only [IntOp.cmpi, hb, BitVec.sle, ti _ hk, ti _ hq, decide_eq_true_eq]
  omega

/-- Comparing a distance below 512 with one of the thresholds as words is comparing them as numbers. -/
theorem sge_word : ∀ n < 512, ∀ T ∈ [16, 19, 21, 24, 27, 31, 35, 40, 46, 52, 59, 67, 77, 87, 99, 113],
    (IntOp.cmpi .sge (BitVec.ofNat 32 n) (BitVec.ofNat 32 T) = 1#1 ↔ T ≤ n) := by decide +kernel

/-- A distance below 512 is one of the first sixteen buckets as a word just when it is as a number. -/
theorem eq_word : ∀ n < 512, ∀ b < 16, (IntOp.cmpi .eq (BitVec.ofNat 32 n) (BitVec.ofNat 32 b) = 1#1 ↔ n = b) := by decide +kernel

/-- The table entry the kernel selects, one comparison after the other. -/
def picked (g : ℕ → EReal) (n : ℕ) : EReal :=
  if 113 ≤ n then g 31 else if 99 ≤ n then g 30 else if 87 ≤ n then g 29 else if 77 ≤ n then g 28
  else if 67 ≤ n then g 27 else if 59 ≤ n then g 26 else if 52 ≤ n then g 25 else if 46 ≤ n then g 24
  else if 40 ≤ n then g 23 else if 35 ≤ n then g 22 else if 31 ≤ n then g 21 else if 27 ≤ n then g 20
  else if 24 ≤ n then g 19 else if 21 ≤ n then g 18 else if 19 ≤ n then g 17 else if 16 ≤ n then g 16
  else if n = 15 then g 15 else if n = 14 then g 14 else if n = 13 then g 13 else if n = 12 then g 12
  else if n = 11 then g 11 else if n = 10 then g 10 else if n = 9 then g 9 else if n = 8 then g 8
  else if n = 7 then g 7 else if n = 6 then g 6 else if n = 5 then g 5 else if n = 4 then g 4
  else if n = 3 then g 3 else if n = 2 then g 2 else if n = 1 then g 1 else if n = 0 then g 0 else 0

/-- It is the entry of the bucket. -/
theorem picked_eq (g : ℕ → EReal) (n : ℕ) : picked g n = g (bucketN n) := by
  unfold bucketN
  simp only [apply_ite g]
  unfold picked
  iterate 16 refine ite_congr rfl (fun _ => rfl) fun _ => ?_
  have h : n < 16 := by omega
  interval_cases n <;> rfl

/-- A bucket is one of the thirty-two. -/
theorem bucketN_lt (n : ℕ) : bucketN n < 32 := by
  by_cases h : 113 ≤ n
  · unfold bucketN; rw [if_pos h]; norm_num
  · exact (by decide +kernel : ∀ n < 113, bucketN n < 32) n (by omega)

/-- The bits of sixteen. -/
theorem bits_sixteen : Ideal.ofBits .f32 0x41800000#32 = ((16 : ℝ) : EReal) := by
  simp [Ideal.ofBits, Ideal.ieee, -EReal.coe_mul]; norm_num

/-- The bits of the divisor. -/
theorem bits_logEight : Ideal.ofBits .f32 0x40051592#32 = (logEight : EReal) := by
  simp [Ideal.ofBits, Ideal.ieee, -EReal.coe_mul]; unfold logEight; norm_num

/-- The logarithm of a distance in the ideal operations. -/
theorem ideal_steps (n : ℕ) (h : 0 < n) (hn : n < 512) :
    Ideal.div (Ideal.log (Ideal.div (((BitVec.ofNat 32 n).toInt : ℝ) : EReal) (Ideal.ofBits .f32 0x41800000#32))) (Ideal.ofBits .f32 0x40051592#32)
      * Ideal.ofBits .f32 0x41800000#32 = (steps n : EReal) := by
  have hi : (BitVec.ofNat 32 n).toInt = (n : ℤ) := (by decide +kernel : ∀ n < 512, (BitVec.ofNat 32 n).toInt = (n : ℤ)) n hn
  have hp : (0 : ℝ) < n := by exact_mod_cast h
  rw [hi, bits_sixteen, bits_logEight, Ideal.div_coe (y := 16) (by norm_num) (((n : ℤ) : ℝ) : EReal), ← EReal.coe_mul, Ideal.log_coe,
    if_neg (by push_cast; have : (0 : ℝ) < n * (1 / 16) := by positivity
               linarith),
    Ideal.div_coe logEight_pos.ne', ← EReal.coe_mul, ← EReal.coe_mul]
  unfold steps
  refine congrArg Real.toEReal ?_
  push_cast
  simp only [div_eq_mul_inv, one_mul]

/-- The bucket's word as the reference computes it from a distance's word. -/
def bucketW (w : BitVec 32) : BitVec 32 :=
  Scalar.select (IntOp.cmpi .slt w 16#32) w
    (IntOp.minsi (IntOp.addi 16#32 (Ideal.fptosi 32 (Ideal.div (Ideal.log (Ideal.div ((((IntOp.maxsi w 1#32).toInt : ℤ) : ℝ) : EReal) (Ideal.ofBits .f32 0x41800000#32)))
      (Ideal.ofBits .f32 0x40051592#32) * Ideal.ofBits .f32 0x41800000#32))) 31#32)

/-- It is the bucket. -/
theorem bucketW_eq (n : ℕ) (hn : n < 512) : bucketW (BitVec.ofNat 32 n) = BitVec.ofNat 32 (bucketN n) := by
  have lt16 : ∀ n < 16, IntOp.cmpi .slt (BitVec.ofNat 32 n) 16#32 = 1#1 ∧ bucketN n = n := by decide +kernel
  have ge16 : ∀ n < 512, 16 ≤ n → ¬ IntOp.cmpi .slt (BitVec.ofNat 32 n) 16#32 = 1#1 ∧ IntOp.maxsi (BitVec.ofNat 32 n) 1#32 = BitVec.ofNat 32 n := by decide +kernel
  have cap : ∀ j < 30, IntOp.minsi (IntOp.addi 16#32 (BitVec.ofInt 32 ((j : ℕ) : ℤ))) 31#32 = BitVec.ofNat 32 (min (16 + j) 31) := by decide +kernel
  unfold bucketW Scalar.select
  by_cases h : n < 16
  · obtain ⟨h1, h2⟩ := lt16 n h
    rw [if_pos (show _ = (1 : BitVec 1) from h1), h2]
  · obtain ⟨h1, h2⟩ := ge16 n hn (by omega)
    rw [if_neg (show ¬ _ = (1 : BitVec 1) from h1), h2, ideal_steps n (by omega) hn]
    obtain ⟨j, hj, hj30, hb⟩ := floor_steps n (by omega) hn
    rw [Ideal.fptosi, Ideal.toIntClamped_coe, if_pos (steps_nonneg n (by omega)), hj, ← hb, ← cap j hj30]
    congr 3
    omega

/-- The wrap of negative rows leaves it. -/
theorem wrap_eq (n : ℕ) :
    Scalar.select (IntOp.cmpi .slt (BitVec.ofNat 32 (bucketN n)) 0#32) (IntOp.addi (BitVec.ofNat 32 (bucketN n)) 32#32) (BitVec.ofNat 32 (bucketN n))
      = BitVec.ofNat 32 (bucketN n) :=
  (by decide +kernel : ∀ b < 32, Scalar.select (IntOp.cmpi .slt (BitVec.ofNat 32 b) 0#32) (IntOp.addi (BitVec.ofNat 32 b) 32#32) (BitVec.ofNat 32 b) = BitVec.ofNat 32 b)
    _ (bucketN_lt n)

/-- And the gather's clamp. -/
theorem clamp_eq (n : ℕ) : min (BitVec.ofNat 32 (bucketN n)).toInt.toNat 31 = bucketN n :=
  (by decide +kernel : ∀ b < 32, min (BitVec.ofNat 32 b).toInt.toNat 31 = b) _ (bucketN_lt n)

end Cert.BiasSpec
-- ==== Proof.BiasValue.lean ====
module

public import proofs.«01_k».proof.Proof.Gen.BiasIdeal.Value
public import proofs.«01_k».proof.Proof.BiasBucket
public import Idealize.ShloMosaic.Lib.Pipeline.ReadBack
public import Idealize.ShloMosaic.Lib.WholeRead
public import Idealize.ShloMosaic.Lib.VecWindow

@[expose] public section

set_option maxRecDepth 16384

noncomputable section

open Idealize.ShloMosaic Idealize.ShloMosaic.TcCoe Idealize.SL.Sem
open Idealize.ShloMosaic.Pipeline (Dat)

/-! # The tables of relative biases -/

namespace Cert.BiasSpec

/-- The base-two factor of the exponentials and the value that hides a key, as the programs write them. -/
def baseTwo : EReal := Ideal.ofBits FTy.f32 0x3FB8AA3B#32
/-- The value that stands for a key the query does not see. -/
def hiddenBias : EReal := Ideal.ofBits FTy.f32 0xF149F2CA#32

variable (B : Fin 8 → Fin 32 → EReal)

/-- A head's bias of a query against a key at a distance. -/
def biasAt (h : Fin 8) (n : ℕ) : EReal := B h ⟨bucketN n, bucketN_lt n⟩ * baseTwo

/-- The bias against a key of the query's own block, later keys hidden. -/
def ownAt (h : Fin 8) (k q : Fin 256) : EReal := if (k : ℕ) ≤ q then biasAt B h ((q : ℕ) - k) else hiddenBias

/-- The bias against a key of the block before. -/
def prevAt (h : Fin 8) (k q : Fin 256) : EReal := biasAt B h ((q : ℕ) + 256 - k)

/-- The kernel's chain of selections on a distance's word. -/
def pickedW (g : ℕ → EReal) (w : BitVec 32) : EReal :=
  Scalar.select (IntOp.cmpi .sge w 113#32) (g 31)
    (Scalar.select (IntOp.cmpi .sge w 99#32) (g 30)
    (Scalar.select (IntOp.cmpi .sge w 87#32) (g 29)
    (Scalar.select (IntOp.cmpi .sge w 77#32) (g 28)
    (Scalar.select (IntOp.cmpi .sge w 67#32) (g 27)
    (Scalar.select (IntOp.cmpi .sge w 59#32) (g 26)
    (Scalar.select (IntOp.cmpi .sge w 52#32) (g 25)
    (Scalar.select (IntOp.cmpi .sge w 46#32) (g 24)
    (Scalar.select (IntOp.cmpi .sge w 40#32) (g 23)
    (Scalar.select (IntOp.cmpi .sge w 35#32) (g 22)
    (Scalar.select (IntOp.cmpi .sge w 31#32) (g 21)
    (Scalar.select (IntOp.cmpi .sge w 27#32) (g 20)
    (Scalar.select (IntOp.cmpi .sge w 24#32) (g 19)
    (Scalar.select (IntOp.cmpi .sge w 21#32) (g 18)
    (Scalar.select (IntOp.cmpi .sge w 19#32) (g 17)
    (Scalar.select (IntOp.cmpi .sge w 16#32) (g 16)
    (Scalar.select (IntOp.cmpi .eq w 15#32) (g 15)
    (Scalar.select (IntOp.cmpi .eq w 14#32) (g 14)
    (Scalar.select (IntOp.cmpi .eq w 13#32) (g 13)
    (Scalar.select (IntOp.cmpi .eq w 12#32) (g 12)
    (Scalar.select (IntOp.cmpi .eq w 11#32) (g 11)
    (Scalar.select (IntOp.cmpi .eq w 10#32) (g 10)
    (Scalar.select (IntOp.cmpi .eq w 9#32) (g 9)
    (Scalar.select (IntOp.cmpi .eq w 8#32) (g 8)
    (Scalar.select (IntOp.cmpi .eq w 7#32) (g 7)
    (Scalar.select (IntOp.cmpi .eq w 6#32) (g 6)
    (Scalar.select (IntOp.cmpi .eq w 5#32) (g 5)
    (Scalar.select (IntOp.cmpi .eq w 4#32) (g 4)
    (Scalar.select (IntOp.cmpi .eq w 3#32) (g 3)
    (Scalar.select (IntOp.cmpi .eq w 2#32) (g 2)
    (Scalar.select (IntOp.cmpi .eq w 1#32) (g 1)
    (Scalar.select (IntOp.cmpi .eq w 0#32) (g 0) (0))))))))))))))))))))))))))))))))

/-- It is the entry of the distance's bucket. -/
theorem pickedW_eq (g : ℕ → EReal) (n : ℕ) (h : n < 512) : pickedW g (BitVec.ofNat 32 n) = g (bucketN n) := by
  rw [← picked_eq g n]
  unfold pickedW picked
  refine ite_congr (propext (sge_word n h 113 (by decide))) (fun _ => rfl) fun _ => ?_
  refine ite_congr (propext (sge_word n h 99 (by decide))) (fun _ => rfl) fun _ => ?_
  refine ite_congr (propext (sge_word n h 87 (by decide))) (fun _ => rfl) fun _ => ?_
  refine ite_congr (propext (sge_word n h 77 (by decide))) (fun _ => rfl) fun _ => ?_
  refine ite_congr (propext (sge_word n h 67 (by decide))) (fun _ => rfl) fun _ => ?_
  refine ite_congr (propext (sge_word n h 59 (by decide))) (fun _ => rfl) fun _ => ?_
  refine ite_congr (propext (sge_word n h 52 (by decide))) (fun _ => rfl) fun _ => ?_
  refine ite_congr (propext (sge_word n h 46 (by decide))) (fun _ => rfl) fun _ => ?_
  refine ite_congr (propext (sge_word n h 40 (by decide))) (fun _ => rfl) fun _ => ?_
  refine ite_congr (propext (sge_word n h 35 (by decide))) (fun _ => rfl) fun _ => ?_
  refine ite_congr (propext (sge_word n h 31 (by decide))) (fun _ => rfl) fun _ => ?_
  refine ite_congr (propext (sge_word n h 27 (by decide))) (fun _ => rfl) fun _ => ?_
  refine ite_congr (propext (sge_word n h 24 (by decide))) (fun _ => rfl) fun _ => ?_
  refine ite_congr (propext (sge_word n h 21 (by decide))) (fun _ => rfl) fun _ => ?_
  refine ite_congr (propext (sge_word n h 19 (by decide))) (fun _ => rfl) fun _ => ?_
  refine ite_congr (propext (sge_word n h 16 (by decide))) (fun _ => rfl) fun _ => ?_
  refine ite_congr (propext (eq_word n h 15 (by decide))) (fun _ => rfl) fun _ => ?_
  refine ite_congr (propext (eq_word n h 14 (by decide))) (fun _ => rfl) fun _ => ?_
  refine ite_congr (propext (eq_word n h 13 (by decide))) (fun _ => rfl) fun _ => ?_
  refine ite_congr (propext (eq_word n h 12 (by decide))) (fun _ => rfl) fun _ => ?_
  refine ite_congr (propext (eq_word n h 11 (by decide))) (fun _ => rfl) fun _ => ?_
  refine ite_congr (propext (eq_word n h 10 (by decide))) (fun _ => rfl) fun _ => ?_
  refine ite_congr (propext (eq_word n h 9 (by decide))) (fun _ => rfl) fun _ => ?_
  refine ite_congr (propext (eq_word n h 8 (by decide))) (fun _ => rfl) fun _ => ?_
  refine ite_congr (propext (eq_word n h 7 (by decide))) (fun _ => rfl) fun _ => ?_
  refine ite_congr (propext (eq_word n h 6 (by decide))) (fun _ => rfl) fun _ => ?_
  refine ite_congr (propext (eq_word n h 5 (by decide))) (fun _ => rfl) fun _ => ?_
  refine ite_congr (propext (eq_word n h 4 (by decide))) (fun _ => rfl) fun _ => ?_
  refine ite_congr (propext (eq_word n h 3 (by decide))) (fun _ => rfl) fun _ => ?_
  refine ite_congr (propext (eq_word n h 2 (by decide))) (fun _ => rfl) fun _ => ?_
  refine ite_congr (propext (eq_word n h 1 (by decide))) (fun _ => rfl) fun _ => ?_
  refine ite_congr (propext (eq_word n h 0 (by decide))) (fun _ => rfl) fun _ => ?_
  rfl

end Cert.BiasSpec

namespace Cert.BiasIdeal.Hand

open Cert.BiasIdeal Cert.BiasIdeal.Gen Cert.BiasSpec

/-- A head's row of the buckets' table, by the bucket's number. -/
def tab (x0 : Vec Ideal S8x32 .f32) (i : grid0.Coords) (b : ℕ) : EReal := x0 (ix2 (⟨(i 0).val, (i 0).isLt⟩ : Fin 8) (Fin.ofNat 32 b))

/-- The row the kernel reads is its grid point. -/
theorem index_word (i : grid0.Coords) : (Scalar.indexCast (BitVec.ofNat 32 (i 0).val) : Index).toNat = (i 0).val :=
  (by decide +kernel : ∀ n < 8, (Scalar.indexCast (BitVec.ofNat 32 n) : Index).toNat = n) _ (i 0).isLt

section
variable (c : Dev nD) (i : grid0.Coords) (arg1 : Memref sig .tc .smem S8x32 .f32) (harg1 : arg1.IsWhole)
  (arg2 : Memref sig .tc .vmem S1x256x256 .f32) (harg2 : arg2.IsWhole) (arg3 : Memref sig .tc .vmem S1x256x256 .f32) (harg3 : arg3.IsWhole)
  (x0 : Vec Ideal S8x32 .f32)

/-- The only index of a one by one block is zero. -/
theorem first_zero (hn : 0 < S1x1.numel) (a : Fin 2) : (Shape.Idx.first hn a).val = 0 := by
  have : (Shape.Idx.first hn a).val < S1x1.size a := (Shape.Idx.first hn a).isLt
  have h1 : S1x1.size a = 1 := (by decide : ∀ a : Fin 2, S1x1.size a = 1) a
  omega

/-- One loaded entry. -/
theorem load_at (arg1 : Memref sig .tc .smem S8x32 .f32) (harg1 : arg1.IsWhole) (x0 : Vec Ideal S8x32 .f32) (i : grid0.Coords)
    (off : Fin 2 → ℕ) (inb : ∀ a, off a + S1x1.size a ≤ S8x32.size a) (hn : 0 < S1x1.numel) (b : Fin 32)
    (e0 : off 0 = (i 0).val) (e1 : off 1 = b.val) :
    View.readAt (Elt Ideal) arg1.view (Rect.unit (s := S8x32) off S1x1.size inb).toLoadRect (harg1.unread x0) (Shape.Idx.first hn) = tab x0 i b := by
  refine (harg1.readAt_unread x0 _ _).trans ?_
  unfold tab
  refine congrArg x0 (funext fun a => Fin.ext ?_)
  match a with
  | ⟨0, _⟩ =>
    show off 0 + _ = (i 0).val
    rw [e0]; exact Nat.add_eq_left.mpr (by rw [first_zero hn, Nat.mul_zero])
  | ⟨1, _⟩ =>
    show off 1 + _ = (Fin.ofNat 32 b.val).val
    rw [e1, Fin.ofNat_val_eq_self]; exact Nat.add_eq_left.mpr (by rw [first_zero hn, Nat.mul_zero])

/-- What the kernel reads for bucket 0 is the table's entry. -/
theorem word_0 : kernelRun0_A.sl.r (F := Ideal) c i arg1 harg1 x0 = tab x0 i 0 :=
  load_at arg1 harg1 x0 i _ _ _ 0 (index_word i) rfl

/-- What the kernel reads for bucket 1 is the table's entry. -/
theorem word_1 : kernelRun0_A.sl.r_1 (F := Ideal) c i arg1 harg1 x0 = tab x0 i 1 :=
  load_at arg1 harg1 x0 i _ _ _ 1 (index_word i) rfl

/-- What the kernel reads for bucket 2 is the table's entry. -/
theorem word_2 : kernelRun0_A.sl.r_2 (F := Ideal) c i arg1 harg1 x0 = tab x0 i 2 :=
  load_at arg1 harg1 x0 i _ _ _ 2 (index_word i) rfl

/-- What the kernel reads for bucket 3 is the table's entry. -/
theorem word_3 : kernelRun0_A.sl.r_3 (F := Ideal) c i arg1 harg1 x0 = tab x0 i 3 :=
  load_at arg1 harg1 x0 i _ _ _ 3 (index_word i) rfl

/-- What the kernel reads for bucket 4 is the table's entry. -/
theorem word_4 : kernelRun0_A.sl.r_4 (F := Ideal) c i arg1 harg1 x0 = tab x0 i 4 :=
  load_at arg1 harg1 x0 i _ _ _ 4 (index_word i) rfl

/-- What the kernel reads for bucket 5 is the table's entry. -/
theorem word_5 : kernelRun0_A.sl.r_5 (F := Ideal) c i arg1 harg1 x0 = tab x0 i 5 :=
  load_at arg1 harg1 x0 i _ _ _ 5 (index_word i) rfl

/-- What the kernel reads for bucket 6 is the table's entry. -/
theorem word_6 : kernelRun0_A.sl.r_7 (F := Ideal) c i arg1 harg1 x0 = tab x0 i 6 :=
  load_at arg1 harg1 x0 i _ _ _ 6 (index_word i) rfl

/-- What the kernel reads for bucket 7 is the table's entry. -/
theorem word_7 : kernelRun0_A.sl.r_8 (F := Ideal) c i arg1 harg1 x0 = tab x0 i 7 :=
  load_at arg1 harg1 x0 i _ _ _ 7 (index_word i) rfl

/-- What the kernel reads for bucket 8 is the table's entry. -/
theorem word_8 : kernelRun0_A.sl.r_9 (F := Ideal) c i arg1 harg1 x0 = tab x0 i 8 :=
  load_at arg1 harg1 x0 i _ _ _ 8 (index_word i) rfl

/-- What the kernel reads for bucket 9 is the table's entry. -/
theorem word_9 : kernelRun0_A.sl.r_10 (F := Ideal) c i arg1 harg1 x0 = tab x0 i 9 :=
  load_at arg1 harg1 x0 i _ _ _ 9 (index_word i) rfl

/-- What the kernel reads for bucket 10 is the table's entry. -/
theorem word_10 : kernelRun0_A.sl.r_11 (F := Ideal) c i arg1 harg1 x0 = tab x0 i 10 :=
  load_at arg1 harg1 x0 i _ _ _ 10 (index_word i) rfl

/-- What the kernel reads for bucket 11 is the table's entry. -/
theorem word_11 : kernelRun0_A.sl.r_12 (F := Ideal) c i arg1 harg1 x0 = tab x0 i 11 :=
  load_at arg1 harg1 x0 i _ _ _ 11 (index_word i) rfl

/-- What the kernel reads for bucket 12 is the table's entry. -/
theorem word_12 : kernelRun0_A.sl.r_13 (F := Ideal) c i arg1 harg1 x0 = tab x0 i 12 :=
  load_at arg1 harg1 x0 i _ _ _ 12 (index_word i) rfl

/-- What the kernel reads for bucket 13 is the table's entry. -/
theorem word_13 : kernelRun0_A.sl.r_14 (F := Ideal) c i arg1 harg1 x0 = tab x0 i 13 :=
  load_at arg1 harg1 x0 i _ _ _ 13 (index_word i) rfl

/-- What the kernel reads for bucket 14 is the table's entry. -/
theorem word_14 : kernelRun0_A.sl.r_16 (F := Ideal) c i arg1 harg1 x0 = tab x0 i 14 :=
  load_at arg1 harg1 x0 i _ _ _ 14 (index_word i) rfl

/-- What the kernel reads for bucket 15 is the table's entry. -/
theorem word_15 : kernelRun0_A.sl.r_17 (F := Ideal) c i arg1 harg1 x0 = tab x0 i 15 :=
  load_at arg1 harg1 x0 i _ _ _ 15 (index_word i) rfl

/-- What the kernel reads for bucket 16 is the table's entry. -/
theorem word_16 : kernelRun0_A.sl.r_18 (F := Ideal) c i arg1 harg1 x0 = tab x0 i 16 :=
  load_at arg1 harg1 x0 i _ _ _ 16 (index_word i) rfl

/-- What the kernel reads for bucket 17 is the table's entry. -/
theorem word_17 : kernelRun0_A.sl.r_19 (F := Ideal) c i arg1 harg1 x0 = tab x0 i 17 :=
  load_at arg1 harg1 x0 i _ _ _ 17 (index_word i) rfl

/-- What the kernel reads for bucket 18 is the table's entry. -/
theorem word_18 : kernelRun0_A.sl.r_20 (F := Ideal) c i arg1 harg1 x0 = tab x0 i 18 :=
  load_at arg1 harg1 x0 i _ _ _ 18 (index_word i) rfl

/-- What the kernel reads for bucket 19 is the table's entry. -/
theorem word_19 : kernelRun0_A.sl.r_21 (F := Ideal) c i arg1 harg1 x0 = tab x0 i 19 :=
  load_at arg1 harg1 x0 i _ _ _ 19 (index_word i) rfl

/-- What the kernel reads for bucket 20 is the table's entry. -/
theorem word_20 : kernelRun0_A.sl.r_22 (F := Ideal) c i arg1 harg1 x0 = tab x0 i 20 :=
  load_at arg1 harg1 x0 i _ _ _ 20 (index_word i) rfl

/-- What the kernel reads for bucket 21 is the table's entry. -/
theorem word_21 : kernelRun0_A.sl.r_24 (F := Ideal) c i arg1 harg1 x0 = tab x0 i 21 :=
  load_at arg1 harg1 x0 i _ _ _ 21 (index_word i) rfl

/-- What the kernel reads for bucket 22 is the table's entry. -/
theorem word_22 : kernelRun0_A.sl.r_25 (F := Ideal) c i arg1 harg1 x0 = tab x0 i 22 :=
  load_at arg1 harg1 x0 i _ _ _ 22 (index_word i) rfl

/-- What the kernel reads for bucket 23 is the table's entry. -/
theorem word_23 : kernelRun0_A.sl.r_26 (F := Ideal) c i arg1 harg1 x0 = tab x0 i 23 :=
  load_at arg1 harg1 x0 i _ _ _ 23 (index_word i) rfl

/-- What the kernel reads for bucket 24 is the table's entry. -/
theorem word_24 : kernelRun0_A.sl.r_27 (F := Ideal) c i arg1 harg1 x0 = tab x0 i 24 :=
  load_at arg1 harg1 x0 i _ _ _ 24 (index_word i) rfl

/-- What the kernel reads for bucket 25 is the table's entry. -/
theorem word_25 : kernelRun0_A.sl.r_28 (F := Ideal) c i arg1 harg1 x0 = tab x0 i 25 :=
  load_at arg1 harg1 x0 i _ _ _ 25 (index_word i) rfl

/-- What the kernel reads for bucket 26 is the table's entry. -/
theorem word_26 : kernelRun0_A.sl.r_29 (F := Ideal) c i arg1 harg1 x0 = tab x0 i 26 :=
  load_at arg1 harg1 x0 i _ _ _ 26 (index_word i) rfl

/-- What the kernel reads for bucket 27 is the table's entry. -/
theorem word_27 : kernelRun0_A.sl.r_30 (F := Ideal) c i arg1 harg1 x0 = tab x0 i 27 :=
  load_at arg1 harg1 x0 i _ _ _ 27 (index_word i) rfl

/-- What the kernel reads for bucket 28 is the table's entry. -/
theorem word_28 : kernelRun0_A.sl.r_31 (F := Ideal) c i arg1 harg1 x0 = tab x0 i 28 :=
  load_at arg1 harg1 x0 i _ _ _ 28 (index_word i) rfl

/-- What the kernel reads for bucket 29 is the table's entry. -/
theorem word_29 : kernelRun0_A.sl.r_33 (F := Ideal) c i arg1 harg1 x0 = tab x0 i 29 :=
  load_at arg1 harg1 x0 i _ _ _ 29 (index_word i) rfl

/-- What the kernel reads for bucket 30 is the table's entry. -/
theorem word_30 : kernelRun0_A.sl.r_34 (F := Ideal) c i arg1 harg1 x0 = tab x0 i 30 :=
  load_at arg1 harg1 x0 i _ _ _ 30 (index_word i) rfl

/-- What the kernel reads for bucket 31 is the table's entry. -/
theorem word_31 : kernelRun0_A.sl.r_35 (F := Ideal) c i arg1 harg1 x0 = tab x0 i 31 :=
  load_at arg1 harg1 x0 i _ _ _ 31 (index_word i) rfl

/-- The last bucket is read a second time, for the second table. -/
theorem word_last : kernelRun0_A.sl.r_41 (F := Ideal) c i arg1 harg1 x0 = tab x0 i 31 :=
  load_at arg1 harg1 x0 i _ _ _ 31 (index_word i) rfl

/-- The mask at an index: the key is not after the query. -/
theorem pay2_at (k q : Fin 256) : k0_pay2 (ix2 k q) = IntOp.cmpi .sge (BitVec.ofNat 32 (q : ℕ)) (BitVec.ofNat 32 (k : ℕ)) := by
  pointwise [k0_pay2]

/-- The distance at an index, not below zero. -/
theorem pay3_at (k q : Fin 256) : k0_pay3 (ix2 k q) = IntOp.maxsi (IntOp.subi (BitVec.ofNat 32 (q : ℕ)) (BitVec.ofNat 32 (k : ℕ))) 0#32 := by
  pointwise [k0_pay3]

/-- The distance to the block before at an index. -/
theorem pay13_at (k q : Fin 256) : k0_pay13 kernelRun0_A.sl.v0 kernelRun0_A.sl.v1 (ix2 k q)
    = IntOp.maxsi (IntOp.addi (IntOp.subi (BitVec.ofNat 32 (q : ℕ)) (BitVec.ofNat 32 (k : ℕ))) 256#32) 0#32 := by
  pointwise [k0_pay13, kernelRun0_A.sl.v0, kernelRun0_A.sl.v1]

/-- The own block's table at a key and a query. -/
theorem out1_at (q0 : Fin 1) (k q : Fin 256) :
    out0_A_1 c i arg1 harg1 arg2 harg2 arg3 harg3 x0 (ix3 q0 k q)
      = if (k : ℕ) ≤ q then tab x0 i (bucketN ((q : ℕ) - k)) * baseTwo else hiddenBias := by
  unfold out0_A_1 kernelRun0_A
  dsimp only
  rw [View.read_writes_full]
  unfold kernelRun0_A.sl.r_32 kernelRun0_A.sl.r_23 kernelRun0_A.sl.r_15 kernelRun0_A.sl.r_6
  simp only [word_0, word_1, word_2, word_3, word_4, word_5, word_6, word_7, word_8, word_9, word_10, word_11, word_12, word_13, word_14, word_15, word_16, word_17, word_18, word_19, word_20, word_21, word_22, word_23, word_24, word_25, word_26, word_27, word_28, word_29, word_30, word_31, word_last]
  have e : ∀ g : ℕ → EReal, k0_pay12 (F := Ideal) k0_pay2 k0_pay3 (k0_pay10 k0_pay3 (k0_pay8 k0_pay3 (k0_pay6 k0_pay3 (k0_pay4 (g 0) (g 1) (g 2) (g 3) (g 4) (g 5))
      k0_pay5 (g 6) (g 7) (g 8) (g 9) (g 10) (g 11) (g 12)) (k0_pay7 k0_pay3) (g 13) (g 14) (g 15) (g 16) (g 17) (g 18) (g 19) (g 20)) k0_pay9
      (g 21) (g 22) (g 23) (g 24) (g 25) (g 26) (g 27)) (k0_pay11 k0_pay3) (g 28) (g 29) (g 30) (g 31) (ix3 q0 k q)
      = Scalar.select (IntOp.cmpi .sge (BitVec.ofNat 32 (q : ℕ)) (BitVec.ofNat 32 (k : ℕ)))
        (pickedW g (IntOp.maxsi (IntOp.subi (BitVec.ofNat 32 (q : ℕ)) (BitVec.ofNat 32 (k : ℕ))) 0#32) * baseTwo) hiddenBias := by
    intro g
    pointwise [k0_pay12, k0_pay11, k0_pay10, k0_pay9, k0_pay8, k0_pay7, k0_pay6, k0_pay5, k0_pay4]
    rw [pay2_at, pay3_at]
    generalize IntOp.maxsi (IntOp.subi (BitVec.ofNat 32 (q : ℕ)) (BitVec.ofNat 32 (k : ℕ))) 0#32 = w
    unfold pickedW baseTwo hiddenBias
    rfl
  refine (e (tab x0 i)).trans ?_
  rw [own_word k q k.isLt q.isLt, pickedW_eq _ _ (by omega)]
  exact ite_congr (propext (seen_direct k q k.isLt q.isLt)) (fun _ => rfl) fun _ => rfl

/-- The second table the body leaves, at an index: the bias of the bucket of the distance to the block before. -/
theorem out2_at (q0 : Fin 1) (k q : Fin 256) :
    out0_A_2 c i arg1 harg1 arg2 harg2 arg3 harg3 x0 (ix3 q0 k q) = tab x0 i (bucketN ((q : ℕ) + 256 - k)) * baseTwo := by
  unfold out0_A_2 kernelRun0_A
  dsimp only
  rw [View.read_writes_full]
  unfold kernelRun0_A.sl.r_40 kernelRun0_A.sl.r_39 kernelRun0_A.sl.r_38 kernelRun0_A.sl.r_37 kernelRun0_A.sl.r_36
  simp only [word_0, word_1, word_2, word_3, word_4, word_5, word_6, word_7, word_8, word_9, word_10, word_11, word_12, word_13, word_14, word_15, word_16, word_17, word_18, word_19, word_20, word_21, word_22, word_23, word_24, word_25, word_26, word_27, word_28, word_29, word_30, word_31, word_last]
  have e : ∀ g : ℕ → EReal, k0_pay1 (F := Ideal) (k0_pay20 (k0_pay13 kernelRun0_A.sl.v0 kernelRun0_A.sl.v1) (k0_pay19 (k0_pay13 kernelRun0_A.sl.v0 kernelRun0_A.sl.v1)
        (k0_pay17 (k0_pay13 kernelRun0_A.sl.v0 kernelRun0_A.sl.v1) (k0_pay16 (k0_pay13 kernelRun0_A.sl.v0 kernelRun0_A.sl.v1)
          (k0_pay14 kernelRun0_A.sl.v0 kernelRun0_A.sl.v1 (g 0)) (k0_pay15 kernelRun0_A.sl.v0 kernelRun0_A.sl.v1) (g 1) (g 2) (g 3) (g 4) (g 5) (g 6) (g 7) (g 8))
        (g 9) (g 10) (g 11) (g 12) (g 13) (g 14) (g 15)) (k0_pay18 (k0_pay13 kernelRun0_A.sl.v0 kernelRun0_A.sl.v1)) (g 16) (g 17) (g 18) (g 19) (g 20) (g 21) (g 22) (g 23))
        (g 24) (g 25) (g 26) (g 27) (g 28) (g 29) (g 30)) (k0_pay21 (k0_pay13 kernelRun0_A.sl.v0 kernelRun0_A.sl.v1)) (g 31) (ix3 q0 k q)
      = pickedW g (IntOp.maxsi (IntOp.addi (IntOp.subi (BitVec.ofNat 32 (q : ℕ)) (BitVec.ofNat 32 (k : ℕ))) 256#32) 0#32) * baseTwo := by
    intro g
    pointwise [k0_pay1, k0_pay21, k0_pay20, k0_pay19, k0_pay18, k0_pay17, k0_pay16, k0_pay15, k0_pay14]
    rw [pay13_at]
    generalize IntOp.maxsi (IntOp.addi (IntOp.subi (BitVec.ofNat 32 (q : ℕ)) (BitVec.ofNat 32 (k : ℕ))) 256#32) 0#32 = w
    unfold pickedW baseTwo
    rfl
  refine (e (tab x0 i)).trans ?_
  rw [prev_word k q k.isLt q.isLt, pickedW_eq _ _ (by omega)]
end

variable (m : (b : Loc nD τ sig) → Buf (Elt Ideal) b) (c : Dev nD)

/-- The windows' blocks, all grid points at once. -/
theorem idx_tab : ∀ t : Fin cfg0.N, win0_0.index t = ![0, 0] ∧ win0_1.index t = ![t.val, 0, 0] ∧ win0_2.index t = ![t.val, 0, 0]
    ∧ (grid0.coords t 0).val = t.val :=
  (by decide +kernel : ∀ t : Fin grid0.N, _)

/-- The buckets' table as the spec reads it. -/
def bA (h : Fin 8) (b : Fin 32) : EReal := m ((c : Thread nD τ).loc main_arg0) (ix2 h b)

/-- The block of the first window is the whole table of buckets. -/
theorem blk0_at (t : Fin cfg0.N) (h : Fin 8) (b : Fin 32) : iblk m c 0 t (ix2 h b) = bA m c h b := by
  unfold bA
  blk_ext [iblk, V, idx_tab t]

/-- The entry a grid point reads is the table's, in the row of its head. -/
theorem tab_at (t : Fin cfg0.N) (n : ℕ) :
    tab (iblk m c 0 t) (grid0.coords t) (bucketN n) = bA m c ⟨t.val, t.isLt⟩ ⟨bucketN n, bucketN_lt n⟩ := by
  unfold tab
  rw [blk0_at]
  exact congrArg₂ (bA m c) (Fin.ext (idx_tab t).2.2.2) (Fin.ext (Nat.mod_eq_of_lt (bucketN_lt n)))

/-- A grid point's first tile is its head's own-block table. -/
theorem tile1_at (t : Fin cfg0.N) (p : Fin 1) (k q : Fin 256) : (outsAt0 m c t).1 (ix3 p k q) = ownAt (bA m c) ⟨t.val, t.isLt⟩ k q := by
  unfold outsAt0
  dsimp only
  rw [out1_at, tab_at]
  unfold ownAt biasAt
  rfl

/-- A grid point's second tile is its head's table for the block before. -/
theorem tile2_at (t : Fin cfg0.N) (p : Fin 1) (k q : Fin 256) : (outsAt0 m c t).2 (ix3 p k q) = prevAt (bA m c) ⟨t.val, t.isLt⟩ k q := by
  unfold outsAt0
  dsimp only
  rw [out2_at, tab_at]
  unfold prevAt biasAt
  rfl

/-- The two arrays the kernel leaves. -/
def ownArr : S8x256x256.Idx → EReal := fun i => ownAt (bA m c) (i 0) (i 1) (i 2)
/-- The array of the tables for the block before. -/
def prevArr : S8x256x256.Idx → EReal := fun i => prevAt (bA m c) (i 0) (i 1) (i 2)

/-- The own blocks' array after the run. -/
theorem final1 : (dats m 0 c).arrAt 1 cfg0.N = ownArr m c := by
  refine (dats m 0 c).arrAt_eq_of_covers 1 _ (by decide +kernel) fun t hf y => ?_
  obtain ⟨p, k, q, rfl⟩ : ∃ (p : Fin 1) (k q : Fin 256), y = ix3 p k q := ⟨y 0, y 1, y 2, eq_ix3 y⟩
  blk_simp
  rw [after0_1]
  refine (tile1_at m c t p k q).trans ?_
  unfold ownArr
  refine congr (congrArg₂ _ (Fin.ext ?_) (Fin.ext ?_)) (Fin.ext ?_)
  all_goals blk_simp [idx_tab t]

/-- The previous blocks' array after the run. -/
theorem final2 : (dats m 0 c).arrAt 2 cfg0.N = prevArr m c := by
  refine (dats m 0 c).arrAt_eq_of_covers 2 _ (by decide +kernel) fun t hf y => ?_
  obtain ⟨p, k, q, rfl⟩ : ∃ (p : Fin 1) (k q : Fin 256), y = ix3 p k q := ⟨y 0, y 1, y 2, eq_ix3 y⟩
  blk_simp
  rw [after0_2]
  refine (tile2_at m c t p k q).trans ?_
  unfold prevArr
  refine congr (congrArg₂ _ (Fin.ext ?_) (Fin.ext ?_)) (Fin.ext ?_)
  all_goals blk_simp [idx_tab t]

end Cert.BiasIdeal.Hand
-- ==== Proof.BiasRef.lean ====
module

public import proofs.«01_k».proof.Proof.BiasValue
public import proofs.«01_k».proof.Proof.Gen.BiasRefIdeal.Read

@[expose] public section

set_option maxRecDepth 16384

noncomputable section

open Idealize.ShloMosaic Idealize.ShloMosaic.TcCoe Idealize.SL.Sem

/-! # The reference's tables of relative biases, at each index -/

namespace Cert.BiasRefIdeal.Hand

open Cert.BiasRefIdeal Cert.BiasRefIdeal.Gen Cert.BiasRefIdeal.Read Cert.BiasSpec

variable (x0 : (⟨S8x32, .f32⟩ : BufTy).Contents (Elt Ideal))

/-- The gather of whole columns at an index: the row is kept, the column is the start index, clamped. -/
theorem gather_at {α : Type} (x : S8x32.Idx → α) (idx : IVec S256x256x1 32) (h : Fin 8) (k q : Fin 256) :
    Host.gather gather_S8x32_S256x256x1_S8x256x256_0_1_n_n_1_2_81 x idx (ix3 h k q)
      = x (ix2 h ⟨min (idx (ix3 k q (0 : Fin 1))).toInt.toNat 31, by omega⟩) := by
  unfold Host.gather
  refine congrArg x (funext fun a => Fin.ext ?_)
  set d := gather_S8x32_S256x256x1_S8x256x256_0_1_n_n_1_2_81 with hd
  show d.start (ix3 h k q) idx a + d.batchCoord (ix3 h k q) a + d.offCoord (ix3 h k q) a = _
  rw [GatherDims.batchCoord_eq_zero _ _ _ List.not_mem_nil, Nat.add_zero]
  match a with
  | ⟨0, _⟩ =>
    have h0 : d.start (ix3 h k q) idx (0 : Fin 2) = 0 := by
      unfold GatherDims.start
      rw [dif_neg (show ¬ (0 : Fin 2) ∈ d.startIndexMap by rw [hd]; show ¬ (0 : Fin 2) ∈ [(1 : Fin 2)]; decide)]
    show d.start (ix3 h k q) idx (0 : Fin 2) + d.offCoord (ix3 h k q) (0 : Fin 2) = h.val
    rw [h0, Nat.zero_add]
    rfl
  | ⟨1, _⟩ =>
    have h1 : d.offCoord (ix3 h k q) (1 : Fin 2) = 0 :=
      GatherDims.offCoord_eq_zero _ _ _ (fun hm => ((GatherDims.mem_sKept _ _).mp hm).1 (List.mem_singleton.mpr rfl))
    have hsi : d.siIdx (ix3 h k q) ⟨List.idxOf (1 : Fin 2) d.startIndexMap, List.idxOf_lt_length_iff.2 (List.mem_singleton.mpr rfl)⟩
        = ix3 k q (0 : Fin 1) := by
      funext b; refine Fin.ext ?_
      match b with
      | ⟨0, _⟩ => rfl
      | ⟨1, _⟩ => rfl
      | ⟨2, _⟩ => rfl
    have h2 : d.start (ix3 h k q) idx (1 : Fin 2) = min (idx (ix3 k q (0 : Fin 1))).toInt.toNat 31 := by
      unfold GatherDims.start
      rw [dif_pos (show (1 : Fin 2) ∈ d.startIndexMap from List.mem_singleton.mpr rfl), hsi]
      rfl
    show d.start (ix3 h k q) idx (1 : Fin 2) + d.offCoord (ix3 h k q) (1 : Fin 2) = min (idx (ix3 k q (0 : Fin 1))).toInt.toNat 31
    rw [h1, h2, Nat.add_zero]

/-- The distance of a query from a key of its block, as a word. -/
theorem v5_at (k q : Fin 256) : val_main_v5 (F := Ideal) (ix2 k q) = IntOp.subi (BitVec.ofNat 32 (q : ℕ)) (BitVec.ofNat 32 (k : ℕ)) := by
  simp only [val_main_v5_apply, val_main_v4_apply, val_main_v3_apply, val_main_v2_apply, val_main_v1_apply, val_main_v0_apply]
  rfl

/-- The distance as a word, not below zero. -/
theorem v7_at (k q : Fin 256) : val_main_v7 (F := Ideal) (ix2 k q) = BitVec.ofNat 32 ((q : ℕ) - k) := by
  simp only [val_main_v7_apply, val_main_v6_apply, val_main_c_apply, v5_at]
  exact own_word k q k.isLt q.isLt

/-- The distance to the block before as a word. -/
theorem v36_at (k q : Fin 256) : val_main_v36 (F := Ideal) (ix2 k q) = BitVec.ofNat 32 ((q : ℕ) + 256 - k) := by
  simp only [val_main_v36_apply, val_main_v35_apply, val_main_c_9_apply, val_main_v34_apply, val_main_v33_apply, val_main_c_8_apply, v5_at]
  exact prev_word k q k.isLt q.isLt

/-- The bucket of that distance. -/
theorem v30_at (k q : Fin 256) : val_main_v30 (F := Ideal) (ix2 k q) = BitVec.ofNat 32 (bucketN ((q : ℕ) - k)) := by
  have e : val_main_v25 (F := Ideal) (ix2 k q) = bucketW (val_main_v7 (F := Ideal) (ix2 k q)) := by
    unfold bucketW
    simp only [val_main_v25_apply, val_main_v24_apply, val_main_v23_apply, val_main_c_5_apply, val_main_v22_apply, val_main_v21_apply, val_main_c_4_apply,
      val_main_v20_apply, val_main_v19_apply, val_main_c_3_apply, val_main_v18_apply, val_main_v17_apply, val_main_v16_apply, val_main_cst_2_apply,
      val_main_v15_apply, val_main_v14_apply, val_main_cst_1_apply, val_main_v13_apply, val_main_v12_apply, val_main_v11_apply, val_main_cst_apply,
      val_main_v10_apply, val_main_v9_apply, val_main_v8_apply, val_main_c_0_apply]
    rfl
  simp only [val_main_v30_apply, val_main_v29_apply, val_main_v28_apply, val_main_c_7_apply, val_main_v27_apply, val_main_v26_apply, val_main_c_6_apply]
  rw [e, v7_at, bucketW_eq _ (by omega)]
  exact wrap_eq _

/-- The bucket of the distance to the block before. -/
theorem v59_at (k q : Fin 256) : val_main_v59 (F := Ideal) (ix2 k q) = BitVec.ofNat 32 (bucketN ((q : ℕ) + 256 - k)) := by
  have e : val_main_v54 (F := Ideal) (ix2 k q) = bucketW (val_main_v36 (F := Ideal) (ix2 k q)) := by
    unfold bucketW
    simp only [val_main_v54_apply, val_main_v53_apply, val_main_v52_apply, val_main_c_16_apply, val_main_v51_apply, val_main_v50_apply, val_main_c_15_apply,
      val_main_v49_apply, val_main_v48_apply, val_main_c_14_apply, val_main_v47_apply, val_main_v46_apply, val_main_v45_apply, val_main_cst_13_apply,
      val_main_v44_apply, val_main_v43_apply, val_main_cst_12_apply, val_main_v42_apply, val_main_v41_apply, val_main_v40_apply, val_main_cst_11_apply,
      val_main_v39_apply, val_main_v38_apply, val_main_v37_apply, val_main_c_10_apply]
    rfl
  simp only [val_main_v59_apply, val_main_v58_apply, val_main_v57_apply, val_main_c_18_apply, val_main_v56_apply, val_main_v55_apply, val_main_c_17_apply]
  rw [e, v36_at, bucketW_eq _ (by omega)]
  exact wrap_eq _

/-- The reference's own-block table. -/
theorem own_at (h : Fin 8) (k q : Fin 256) :
    val_main_v67 (F := Ideal) x0 (ix3 h k q) = ownAt (fun h b => x0 (ix2 h b)) h k q := by
  have g : val_main_v32 (F := Ideal) x0 (ix3 h k q) = x0 (ix2 h ⟨bucketN ((q : ℕ) - k), bucketN_lt _⟩) := by
    unfold val_main_v32
    rw [gather_at]
    refine congrArg (fun b => x0 (ix2 h b)) (Fin.ext ?_)
    show min (val_main_v31 (F := Ideal) (ix3 k q (0 : Fin 1))).toInt.toNat 31 = _
    rw [val_main_v31_apply]
    exact (congrArg (fun w : BitVec 32 => min w.toInt.toNat 31) (v30_at k q)).trans (clamp_eq _)
  simp only [val_main_v67_apply, val_main_v66_apply, val_main_v65_apply, val_main_cst_20_apply, val_main_call2_v1_apply, val_main_call2_v2_apply,
    val_main_v64_apply, val_main_v63_apply, val_main_v62_apply, val_main_c_19_apply, val_main_call2_v0_apply, val_main_cst_21_apply, g]
  rw [show idx_main_v64 (idx_main_call2_v1 (ix3 h k q)) = ix2 k q from funext fun a => match a with | ⟨0, _⟩ => rfl | ⟨1, _⟩ => rfl, v5_at]
  unfold ownAt biasAt baseTwo hiddenBias
  exact ite_congr (propext (seen_word k q k.isLt q.isLt)) (fun _ => rfl) fun _ => rfl

/-- The reference's table for the block before. -/
theorem prev_at (h : Fin 8) (k q : Fin 256) :
    val_main_v69 (F := Ideal) x0 (ix3 h k q) = prevAt (fun h b => x0 (ix2 h b)) h k q := by
  have g : val_main_v61 (F := Ideal) x0 (ix3 h k q) = x0 (ix2 h ⟨bucketN ((q : ℕ) + 256 - k), bucketN_lt _⟩) := by
    unfold val_main_v61
    rw [gather_at]
    refine congrArg (fun b => x0 (ix2 h b)) (Fin.ext ?_)
    show min (val_main_v60 (F := Ideal) (ix3 k q (0 : Fin 1))).toInt.toNat 31 = _
    rw [val_main_v60_apply]
    exact (congrArg (fun w : BitVec 32 => min w.toInt.toNat 31) (v59_at k q)).trans (clamp_eq _)
  simp only [val_main_v69_apply, val_main_v68_apply, val_main_cst_22_apply, g]
  unfold prevAt biasAt baseTwo
  rfl

end Cert.BiasRefIdeal.Hand
-- ==== Proof.AttnIdealState.lean ====
/-
  What the attention's body holds at any point of its run: its seven inputs' staging buffers at given contents,
  its output's staging buffer and its six scratch buffers at some contents.
-/
module

public import proofs.«01_k».proof.Proof.Gen.AttnIdeal.Frame
public import proofs.«01_k».proof.Proof.Gen.AttnIdeal.Loops

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F]

local notation "𝕄" => MT nD τ sig Unit (Elt F) ℕ (UR sig nD τ) ℕ

/-- The buffers the body works on: the inputs at the contents `g2 … g8`, the output and the scratch at any. -/
abbrev Held (c : Dev nD) (arg2 : Memref sig .tc .smem S8x32 .f32) (arg3 : Memref sig .tc .vmem S1x1x512x256 .bf16)
    (arg4 : Memref sig .tc .vmem S1x1x512x256 .bf16) (arg5 : Memref sig .tc .vmem S1x4096x512 .bf16)
    (arg6 : Memref sig .tc .vmem S1x16x512x256 .bf16) (arg7 arg8 : Memref sig .tc .vmem S8x256x256 .f32)
    (arg9 : Memref sig .tc .vmem S1x1x512x256 .bf16) (arg10 : Memref sig .tc .vmem S16x512 .f32)
    (arg11 : Memref sig .tc .vmem S4096x1024 .bf16) (arg12 : Memref sig .tc .vmem S2x8x128x256 .bf16)
    (arg13 : Memref sig .tc .vmem S5x8x256x256 .f32) (arg14 : Memref sig .tc .vmem S8x1x256 .f32)
    (arg15 : Memref sig .tc .vmem S8x80x256 .f32)
    (g2 : BufTy.Contents (Elt F) arg2.view.ty) (g3 : BufTy.Contents (Elt F) arg3.view.ty)
    (g4 : BufTy.Contents (Elt F) arg4.view.ty) (g5 : BufTy.Contents (Elt F) arg5.view.ty)
    (g6 : BufTy.Contents (Elt F) arg6.view.ty) (g7 : BufTy.Contents (Elt F) arg7.view.ty)
    (g8 : BufTy.Contents (Elt F) arg8.view.ty) : sProp 𝕄 :=
  iprop((arg2.view.loc (c : Thread nD τ) ↦[arg2.view.set]{fullShare} g2)
    ∗ (arg3.view.loc (c : Thread nD τ) ↦[arg3.view.set]{fullShare} g3)
    ∗ (arg4.view.loc (c : Thread nD τ) ↦[arg4.view.set]{fullShare} g4)
    ∗ (arg5.view.loc (c : Thread nD τ) ↦[arg5.view.set]{fullShare} g5)
    ∗ (arg6.view.loc (c : Thread nD τ) ↦[arg6.view.set]{fullShare} g6)
    ∗ (arg7.view.loc (c : Thread nD τ) ↦[arg7.view.set]{fullShare} g7)
    ∗ (arg8.view.loc (c : Thread nD τ) ↦[arg8.view.set]{fullShare} g8)
    ∗ (∃ f9 : BufTy.Contents (Elt F) arg9.view.ty, (arg9.view.loc (c : Thread nD τ) ↦[arg9.view.set]{fullShare} f9))
    ∗ (∃ f10 : BufTy.Contents (Elt F) arg10.view.ty, (arg10.view.loc (c : Thread nD τ) ↦[arg10.view.set]{fullShare} f10))
    ∗ (∃ f11 : BufTy.Contents (Elt F) arg11.view.ty, (arg11.view.loc (c : Thread nD τ) ↦[arg11.view.set]{fullShare} f11))
    ∗ (∃ f12 : BufTy.Contents (Elt F) arg12.view.ty, (arg12.view.loc (c : Thread nD τ) ↦[arg12.view.set]{fullShare} f12))
    ∗ (∃ f13 : BufTy.Contents (Elt F) arg13.view.ty, (arg13.view.loc (c : Thread nD τ) ↦[arg13.view.set]{fullShare} f13))
    ∗ (∃ f14 : BufTy.Contents (Elt F) arg14.view.ty, (arg14.view.loc (c : Thread nD τ) ↦[arg14.view.set]{fullShare} f14))
    ∗ (∃ f15 : BufTy.Contents (Elt F) arg15.view.ty, (arg15.view.loc (c : Thread nD τ) ↦[arg15.view.set]{fullShare} f15)))

/-- A conditional without an else part, whose continuation `p` first reaches `p'`: it is enough to run `p'`, to
    reach `p'` from `p`, and to reach it through the conditional's region. -/
theorem cond_reach {S : sProp 𝕄} {c : Dev nD} {E : Set ℕ} {α : Type} {cnd : Prop} [Decidable cnd]
    {A : cnd → Prog (TpuEff nD τ sig (Elt F) Λ₀ .tc) α} {p p' : Prog (TpuEff nD τ sig (Elt F) Λ₀ .tc) α} {Q : α → sProp 𝕄}
    (hp : (S ⊢ wp frame (wpE (defs₀ (F := F)) Variants.none c none) E p' Q)
      → (S ⊢ wp frame (wpE (defs₀ (F := F)) Variants.none c none) E p Q))
    (hA : ∀ h, (S ⊢ wp frame (wpE (defs₀ (F := F)) Variants.none c none) E p' Q)
      → (S ⊢ wp frame (wpE (defs₀ (F := F)) Variants.none c none) E (A h) Q))
    (h : S ⊢ wp frame (wpE (defs₀ (F := F)) Variants.none c none) E p' Q) :
    S ⊢ wp frame (wpE (defs₀ (F := F)) Variants.none c none) E (if h : cnd then A h else p) Q := by
  by_cases hc : cnd
  · rw [dif_pos hc]; exact hA hc h
  · rw [dif_neg hc]; exact hp h

/-! The slot of the query scratch that a point reads is its second coordinate's parity; the one it fills for the
  next point is the other. -/

instance off1 (i : grid0.Coords) : ClosedOff (k0_off1 i) :=
  ⟨![((i 1).val + 1) % 2, 0, 0, 0], (by decide +kernel : ∀ i : grid0.Coords, k0_off1 i = ![((i 1).val + 1) % 2, 0, 0, 0]) i⟩
instance off2 (i : grid0.Coords) : ClosedOff (k0_off2 i) :=
  ⟨![((i 1).val + 1) % 2, 1, 0, 0], (by decide +kernel : ∀ i : grid0.Coords, k0_off2 i = ![((i 1).val + 1) % 2, 1, 0, 0]) i⟩
instance off3 (i : grid0.Coords) : ClosedOff (k0_off3 i) :=
  ⟨![((i 1).val + 1) % 2, 2, 0, 0], (by decide +kernel : ∀ i : grid0.Coords, k0_off3 i = ![((i 1).val + 1) % 2, 2, 0, 0]) i⟩
instance off4 (i : grid0.Coords) : ClosedOff (k0_off4 i) :=
  ⟨![((i 1).val + 1) % 2, 3, 0, 0], (by decide +kernel : ∀ i : grid0.Coords, k0_off4 i = ![((i 1).val + 1) % 2, 3, 0, 0]) i⟩
instance off5 (i : grid0.Coords) : ClosedOff (k0_off5 i) :=
  ⟨![((i 1).val + 1) % 2, 4, 0, 0], (by decide +kernel : ∀ i : grid0.Coords, k0_off5 i = ![((i 1).val + 1) % 2, 4, 0, 0]) i⟩
instance off6 (i : grid0.Coords) : ClosedOff (k0_off6 i) :=
  ⟨![((i 1).val + 1) % 2, 5, 0, 0], (by decide +kernel : ∀ i : grid0.Coords, k0_off6 i = ![((i 1).val + 1) % 2, 5, 0, 0]) i⟩
instance off7 (i : grid0.Coords) : ClosedOff (k0_off7 i) :=
  ⟨![((i 1).val + 1) % 2, 6, 0, 0], (by decide +kernel : ∀ i : grid0.Coords, k0_off7 i = ![((i 1).val + 1) % 2, 6, 0, 0]) i⟩
instance off8 (i : grid0.Coords) : ClosedOff (k0_off8 i) :=
  ⟨![((i 1).val + 1) % 2, 7, 0, 0], (by decide +kernel : ∀ i : grid0.Coords, k0_off8 i = ![((i 1).val + 1) % 2, 7, 0, 0]) i⟩
instance off9 (i : grid0.Coords) : ClosedOff (k0_off9 i) :=
  ⟨![((i 1).val + 1) % 2, 0, 0, 0], (by decide +kernel : ∀ i : grid0.Coords, k0_off9 i = ![((i 1).val + 1) % 2, 0, 0, 0]) i⟩
instance off10 (i : grid0.Coords) : ClosedOff (k0_off10 i) :=
  ⟨![((i 1).val + 1) % 2, 1, 0, 0], (by decide +kernel : ∀ i : grid0.Coords, k0_off10 i = ![((i 1).val + 1) % 2, 1, 0, 0]) i⟩
instance off11 (i : grid0.Coords) : ClosedOff (k0_off11 i) :=
  ⟨![((i 1).val + 1) % 2, 2, 0, 0], (by decide +kernel : ∀ i : grid0.Coords, k0_off11 i = ![((i 1).val + 1) % 2, 2, 0, 0]) i⟩
instance off12 (i : grid0.Coords) : ClosedOff (k0_off12 i) :=
  ⟨![((i 1).val + 1) % 2, 3, 0, 0], (by decide +kernel : ∀ i : grid0.Coords, k0_off12 i = ![((i 1).val + 1) % 2, 3, 0, 0]) i⟩
instance off13 (i : grid0.Coords) : ClosedOff (k0_off13 i) :=
  ⟨![((i 1).val + 1) % 2, 4, 0, 0], (by decide +kernel : ∀ i : grid0.Coords, k0_off13 i = ![((i 1).val + 1) % 2, 4, 0, 0]) i⟩
instance off14 (i : grid0.Coords) : ClosedOff (k0_off14 i) :=
  ⟨![((i 1).val + 1) % 2, 5, 0, 0], (by decide +kernel : ∀ i : grid0.Coords, k0_off14 i = ![((i 1).val + 1) % 2, 5, 0, 0]) i⟩
instance off15 (i : grid0.Coords) : ClosedOff (k0_off15 i) :=
  ⟨![((i 1).val + 1) % 2, 6, 0, 0], (by decide +kernel : ∀ i : grid0.Coords, k0_off15 i = ![((i 1).val + 1) % 2, 6, 0, 0]) i⟩
instance off16 (i : grid0.Coords) : ClosedOff (k0_off16 i) :=
  ⟨![((i 1).val + 1) % 2, 7, 0, 0], (by decide +kernel : ∀ i : grid0.Coords, k0_off16 i = ![((i 1).val + 1) % 2, 7, 0, 0]) i⟩
instance off17 (i : grid0.Coords) : ClosedOff (k0_off17 i) :=
  ⟨![(i 1).val % 2, 0, 0, 0], (by decide +kernel : ∀ i : grid0.Coords, k0_off17 i = ![(i 1).val % 2, 0, 0, 0]) i⟩
instance off18 (i : grid0.Coords) : ClosedOff (k0_off18 i) :=
  ⟨![(i 1).val % 2, 1, 0, 0], (by decide +kernel : ∀ i : grid0.Coords, k0_off18 i = ![(i 1).val % 2, 1, 0, 0]) i⟩
instance off19 (i : grid0.Coords) : ClosedOff (k0_off19 i) :=
  ⟨![(i 1).val % 2, 2, 0, 0], (by decide +kernel : ∀ i : grid0.Coords, k0_off19 i = ![(i 1).val % 2, 2, 0, 0]) i⟩
instance off20 (i : grid0.Coords) : ClosedOff (k0_off20 i) :=
  ⟨![(i 1).val % 2, 3, 0, 0], (by decide +kernel : ∀ i : grid0.Coords, k0_off20 i = ![(i 1).val % 2, 3, 0, 0]) i⟩
instance off21 (i : grid0.Coords) : ClosedOff (k0_off21 i) :=
  ⟨![(i 1).val % 2, 4, 0, 0], (by decide +kernel : ∀ i : grid0.Coords, k0_off21 i = ![(i 1).val % 2, 4, 0, 0]) i⟩
instance off22 (i : grid0.Coords) : ClosedOff (k0_off22 i) :=
  ⟨![(i 1).val % 2, 5, 0, 0], (by decide +kernel : ∀ i : grid0.Coords, k0_off22 i = ![(i 1).val % 2, 5, 0, 0]) i⟩
instance off23 (i : grid0.Coords) : ClosedOff (k0_off23 i) :=
  ⟨![(i 1).val % 2, 6, 0, 0], (by decide +kernel : ∀ i : grid0.Coords, k0_off23 i = ![(i 1).val % 2, 6, 0, 0]) i⟩
instance off24 (i : grid0.Coords) : ClosedOff (k0_off24 i) :=
  ⟨![(i 1).val % 2, 7, 0, 0], (by decide +kernel : ∀ i : grid0.Coords, k0_off24 i = ![(i 1).val % 2, 7, 0, 0]) i⟩
instance off25 (i : grid0.Coords) : ClosedOff (k0_off25 i) :=
  ⟨![((i 1).val + 1) % 2, 0, 0, 0], (by decide +kernel : ∀ i : grid0.Coords, k0_off25 i = ![((i 1).val + 1) % 2, 0, 0, 0]) i⟩
instance off26 (i : grid0.Coords) : ClosedOff (k0_off26 i) :=
  ⟨![((i 1).val + 1) % 2, 1, 0, 0], (by decide +kernel : ∀ i : grid0.Coords, k0_off26 i = ![((i 1).val + 1) % 2, 1, 0, 0]) i⟩
instance off27 (i : grid0.Coords) : ClosedOff (k0_off27 i) :=
  ⟨![((i 1).val + 1) % 2, 2, 0, 0], (by decide +kernel : ∀ i : grid0.Coords, k0_off27 i = ![((i 1).val + 1) % 2, 2, 0, 0]) i⟩
instance off28 (i : grid0.Coords) : ClosedOff (k0_off28 i) :=
  ⟨![((i 1).val + 1) % 2, 3, 0, 0], (by decide +kernel : ∀ i : grid0.Coords, k0_off28 i = ![((i 1).val + 1) % 2, 3, 0, 0]) i⟩
instance off29 (i : grid0.Coords) : ClosedOff (k0_off29 i) :=
  ⟨![((i 1).val + 1) % 2, 4, 0, 0], (by decide +kernel : ∀ i : grid0.Coords, k0_off29 i = ![((i 1).val + 1) % 2, 4, 0, 0]) i⟩
instance off30 (i : grid0.Coords) : ClosedOff (k0_off30 i) :=
  ⟨![((i 1).val + 1) % 2, 5, 0, 0], (by decide +kernel : ∀ i : grid0.Coords, k0_off30 i = ![((i 1).val + 1) % 2, 5, 0, 0]) i⟩
instance off31 (i : grid0.Coords) : ClosedOff (k0_off31 i) :=
  ⟨![((i 1).val + 1) % 2, 6, 0, 0], (by decide +kernel : ∀ i : grid0.Coords, k0_off31 i = ![((i 1).val + 1) % 2, 6, 0, 0]) i⟩
instance off32 (i : grid0.Coords) : ClosedOff (k0_off32 i) :=
  ⟨![((i 1).val + 1) % 2, 7, 0, 0], (by decide +kernel : ∀ i : grid0.Coords, k0_off32 i = ![((i 1).val + 1) % 2, 7, 0, 0]) i⟩
instance off33 (i : grid0.Coords) : ClosedOff (k0_off33 i) :=
  ⟨![(i 1).val % 2, 0, 0, 0], (by decide +kernel : ∀ i : grid0.Coords, k0_off33 i = ![(i 1).val % 2, 0, 0, 0]) i⟩
instance off34 (i : grid0.Coords) : ClosedOff (k0_off34 i) :=
  ⟨![(i 1).val % 2, 1, 0, 0], (by decide +kernel : ∀ i : grid0.Coords, k0_off34 i = ![(i 1).val % 2, 1, 0, 0]) i⟩
instance off35 (i : grid0.Coords) : ClosedOff (k0_off35 i) :=
  ⟨![(i 1).val % 2, 2, 0, 0], (by decide +kernel : ∀ i : grid0.Coords, k0_off35 i = ![(i 1).val % 2, 2, 0, 0]) i⟩
instance off36 (i : grid0.Coords) : ClosedOff (k0_off36 i) :=
  ⟨![(i 1).val % 2, 3, 0, 0], (by decide +kernel : ∀ i : grid0.Coords, k0_off36 i = ![(i 1).val % 2, 3, 0, 0]) i⟩
instance off37 (i : grid0.Coords) : ClosedOff (k0_off37 i) :=
  ⟨![(i 1).val % 2, 4, 0, 0], (by decide +kernel : ∀ i : grid0.Coords, k0_off37 i = ![(i 1).val % 2, 4, 0, 0]) i⟩
instance off38 (i : grid0.Coords) : ClosedOff (k0_off38 i) :=
  ⟨![(i 1).val % 2, 5, 0, 0], (by decide +kernel : ∀ i : grid0.Coords, k0_off38 i = ![(i 1).val % 2, 5, 0, 0]) i⟩
instance off39 (i : grid0.Coords) : ClosedOff (k0_off39 i) :=
  ⟨![(i 1).val % 2, 6, 0, 0], (by decide +kernel : ∀ i : grid0.Coords, k0_off39 i = ![(i 1).val % 2, 6, 0, 0]) i⟩
instance off40 (i : grid0.Coords) : ClosedOff (k0_off40 i) :=
  ⟨![(i 1).val % 2, 7, 0, 0], (by decide +kernel : ∀ i : grid0.Coords, k0_off40 i = ![(i 1).val % 2, 7, 0, 0]) i⟩
instance off41 (i : grid0.Coords) : ClosedOff (k0_off41 i) :=
  ⟨![((i 1).val + 1) % 2, 0, 0, 0], (by decide +kernel : ∀ i : grid0.Coords, k0_off41 i = ![((i 1).val + 1) % 2, 0, 0, 0]) i⟩
instance off42 (i : grid0.Coords) : ClosedOff (k0_off42 i) :=
  ⟨![((i 1).val + 1) % 2, 1, 0, 0], (by decide +kernel : ∀ i : grid0.Coords, k0_off42 i = ![((i 1).val + 1) % 2, 1, 0, 0]) i⟩
instance off43 (i : grid0.Coords) : ClosedOff (k0_off43 i) :=
  ⟨![((i 1).val + 1) % 2, 2, 0, 0], (by decide +kernel : ∀ i : grid0.Coords, k0_off43 i = ![((i 1).val + 1) % 2, 2, 0, 0]) i⟩
instance off44 (i : grid0.Coords) : ClosedOff (k0_off44 i) :=
  ⟨![((i 1).val + 1) % 2, 3, 0, 0], (by decide +kernel : ∀ i : grid0.Coords, k0_off44 i = ![((i 1).val + 1) % 2, 3, 0, 0]) i⟩
instance off45 (i : grid0.Coords) : ClosedOff (k0_off45 i) :=
  ⟨![((i 1).val + 1) % 2, 4, 0, 0], (by decide +kernel : ∀ i : grid0.Coords, k0_off45 i = ![((i 1).val + 1) % 2, 4, 0, 0]) i⟩
instance off46 (i : grid0.Coords) : ClosedOff (k0_off46 i) :=
  ⟨![((i 1).val + 1) % 2, 5, 0, 0], (by decide +kernel : ∀ i : grid0.Coords, k0_off46 i = ![((i 1).val + 1) % 2, 5, 0, 0]) i⟩
instance off47 (i : grid0.Coords) : ClosedOff (k0_off47 i) :=
  ⟨![((i 1).val + 1) % 2, 6, 0, 0], (by decide +kernel : ∀ i : grid0.Coords, k0_off47 i = ![((i 1).val + 1) % 2, 6, 0, 0]) i⟩
instance off48 (i : grid0.Coords) : ClosedOff (k0_off48 i) :=
  ⟨![((i 1).val + 1) % 2, 7, 0, 0], (by decide +kernel : ∀ i : grid0.Coords, k0_off48 i = ![((i 1).val + 1) % 2, 7, 0, 0]) i⟩

end Cert.AttnIdeal.Hand

end
-- ==== Proof.AttnIdealRunA.lean ====
module

public import proofs.«01_k».proof.Proof.AttnIdealState

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F]

local notation "𝕄" => MT nD τ sig Unit (Elt F) ℕ (UR sig nD τ) ℕ

set_option maxHeartbeats 8000000 in
/-- The first stretch of the body, up to the loop over the blocks: the five conditionals on the grid's second
    coordinate each leave the buffers at some contents. -/
theorem run405 (c : Dev nD) (E : Set ℕ) (i : grid0.Coords)
    (arg2 : Memref sig .tc .smem S8x32 .f32) (harg2 : arg2.IsWhole) (arg3 : Memref sig .tc .vmem S1x1x512x256 .bf16) (harg3 : arg3.IsWhole)
    (arg4 : Memref sig .tc .vmem S1x1x512x256 .bf16) (harg4 : arg4.IsWhole) (arg5 : Memref sig .tc .vmem S1x4096x512 .bf16) (harg5 : arg5.IsWhole)
    (arg6 : Memref sig .tc .vmem S1x16x512x256 .bf16) (harg6 : arg6.IsWhole) (arg7 : Memref sig .tc .vmem S8x256x256 .f32) (harg7 : arg7.IsWhole)
    (arg8 : Memref sig .tc .vmem S8x256x256 .f32) (harg8 : arg8.IsWhole) (arg9 : Memref sig .tc .vmem S1x1x512x256 .bf16) (harg9 : arg9.IsWhole)
    (arg10 : Memref sig .tc .vmem S16x512 .f32) (harg10 : arg10.IsWhole) (arg11 : Memref sig .tc .vmem S4096x1024 .bf16) (harg11 : arg11.IsWhole)
    (arg12 : Memref sig .tc .vmem S2x8x128x256 .bf16) (harg12 : arg12.IsWhole) (arg13 : Memref sig .tc .vmem S5x8x256x256 .f32) (harg13 : arg13.IsWhole)
    (arg14 : Memref sig .tc .vmem S8x1x256 .f32) (harg14 : arg14.IsWhole) (arg15 : Memref sig .tc .vmem S8x80x256 .f32) (harg15 : arg15.IsWhole)
    (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (g7 : BufTy.Contents (Elt F) arg7.view.ty) (g8 : BufTy.Contents (Elt F) arg8.view.ty) :
    Held (F := F) c arg2 arg3 arg4 arg5 arg6 arg7 arg8 arg9 arg10 arg11 arg12 arg13 arg14 arg15 g2 g3 g4 g5 g6 g7 g8
      ⊢ wp frame (wpE (defs₀ (F := F)) Variants.none c none) E (k0_part405 i arg2 harg2 arg3 harg3 arg4 harg4 arg5 harg5 arg6 harg6 arg7 harg7 arg8 harg8 arg9 harg9 arg10 harg10 arg11 harg11 arg12 harg12 arg13 harg13 arg14 harg14 arg15 harg15)
          (fun _ => Held (F := F) c arg2 arg3 arg4 arg5 arg6 arg7 arg8 arg9 arg10 arg11 arg12 arg13 arg14 arg15 g2 g3 g4 g5 g6 g7 g8) := by
  simp only [k0_part405_eq_skeleton]; unfold k0_part405_skel
  apply cond_reach
  · intro hp'
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    set_option sl_exec.stopBefore "k0_cond2" in sl_exec
    iapply hp'
    sl_close
  · intro h hp'
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    set_option sl_exec.stopBefore "k0_cond2" in sl_exec
    iapply hp'
    sl_close
  apply cond_reach
  · intro hp'
    exact hp'
  · intro h hp'
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    set_option sl_exec.stopBefore "k0_cond3" in sl_exec
    iapply hp'
    sl_close
  apply cond_reach
  · intro hp'
    exact hp'
  · intro h hp'
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    set_option sl_exec.stopBefore "k0_cond4" in sl_exec
    iapply hp'
    sl_close
  apply cond_reach
  · intro hp'
    exact hp'
  · intro h hp'
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    set_option sl_exec.stopBefore "k0_cond5" in sl_exec
    iapply hp'
    sl_close
  by_cases h5 : k0_cond5 i = 1#1
  · rw [dif_pos h5]
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    sl_exec
    sl_step
    sl_close
  · rw [dif_neg h5]; dsimp only
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    sl_step
    sl_close

end Cert.AttnIdeal.Hand

end
-- ==== Proof.AttnIdealRunB.lean ====
module

public import proofs.«01_k».proof.Proof.AttnIdealRunA

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F]

local notation "𝕄" => MT nD τ sig Unit (Elt F) ℕ (UR sig nD τ) ℕ

set_option maxHeartbeats 8000000 in
/-- The second stretch: the loop over the blocks, the three conditionals that finish what the loop left over, and
    the first rows of the output. -/
theorem run406 (c : Dev nD) (E : Set ℕ) (i : grid0.Coords)
    (arg2 : Memref sig .tc .smem S8x32 .f32) (harg2 : arg2.IsWhole) (arg3 : Memref sig .tc .vmem S1x1x512x256 .bf16) (harg3 : arg3.IsWhole)
    (arg4 : Memref sig .tc .vmem S1x1x512x256 .bf16) (harg4 : arg4.IsWhole) (arg5 : Memref sig .tc .vmem S1x4096x512 .bf16) (harg5 : arg5.IsWhole)
    (arg6 : Memref sig .tc .vmem S1x16x512x256 .bf16) (harg6 : arg6.IsWhole) (arg7 : Memref sig .tc .vmem S8x256x256 .f32) (harg7 : arg7.IsWhole)
    (arg8 : Memref sig .tc .vmem S8x256x256 .f32) (harg8 : arg8.IsWhole) (arg9 : Memref sig .tc .vmem S1x1x512x256 .bf16) (harg9 : arg9.IsWhole)
    (arg10 : Memref sig .tc .vmem S16x512 .f32) (harg10 : arg10.IsWhole) (arg11 : Memref sig .tc .vmem S4096x1024 .bf16) (harg11 : arg11.IsWhole)
    (arg12 : Memref sig .tc .vmem S2x8x128x256 .bf16) (harg12 : arg12.IsWhole) (arg13 : Memref sig .tc .vmem S5x8x256x256 .f32) (harg13 : arg13.IsWhole)
    (arg14 : Memref sig .tc .vmem S8x1x256 .f32) (harg14 : arg14.IsWhole) (arg15 : Memref sig .tc .vmem S8x80x256 .f32) (harg15 : arg15.IsWhole)
    (arg1 v0 v1 : BitVec 32) (v14 : FVec F S16x256 .bf16) (v27 c0 : BitVec 32)
    (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (g7 : BufTy.Contents (Elt F) arg7.view.ty) (g8 : BufTy.Contents (Elt F) arg8.view.ty) :
    Held (F := F) c arg2 arg3 arg4 arg5 arg6 arg7 arg8 arg9 arg10 arg11 arg12 arg13 arg14 arg15 g2 g3 g4 g5 g6 g7 g8
      ⊢ wp frame (wpE (defs₀ (F := F)) Variants.none c none) E (k0_part406 i arg2 harg2 arg3 harg3 arg4 harg4 arg5 harg5 arg6 harg6 arg7 harg7 arg8 harg8 arg9 harg9 arg10 harg10 arg11 harg11 arg12 harg12 arg13 harg13 arg14 harg14 arg15 harg15 arg1 v0 v1 v14 v27 c0)
          (fun _ => Held (F := F) c arg2 arg3 arg4 arg5 arg6 arg7 arg8 arg9 arg10 arg11 arg12 arg13 arg14 arg15 g2 g3 g4 g5 g6 g7 g8) := by
  simp only [k0_part406_eq_skeleton]; unfold k0_part406_skel
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
  set_option sl_exec.stopBefore "k0_cond6" in sl_exec
  suffices hs : Held (F := F) c arg2 arg3 arg4 arg5 arg6 arg7 arg8 arg9 arg10 arg11 arg12 arg13 arg14 arg15 g2 g3 g4 g5 g6 g7 g8 ⊢ wp frame (wpE (defs₀ (F := F)) Variants.none c none) E _ (fun _ => Held (F := F) c arg2 arg3 arg4 arg5 arg6 arg7 arg8 arg9 arg10 arg11 arg12 arg13 arg14 arg15 g2 g3 g4 g5 g6 g7 g8) by
    iapply hs
    sl_close
  apply cond_reach
  · intro hp'; exact hp'
  · intro h hp'
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    set_option sl_exec.stopBefore "k0_cond7" in sl_exec
    iapply hp'
    sl_close
  apply cond_reach
  · intro hp'; exact hp'
  · intro h hp'
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    set_option sl_exec.stopBefore "k0_cond8" in sl_exec
    iapply hp'
    sl_close
  by_cases h8 : k0_cond8 i = 1#1
  · rw [dif_pos h8]
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    sl_exec
    sl_step
    sl_close
  · rw [dif_neg h8]; dsimp only
    iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
    sl_exec
    sl_step
    sl_close

end Cert.AttnIdeal.Hand

end
-- ==== Proof.AttnIdealBody.lean ====
module

public import proofs.«01_k».proof.Proof.AttnIdealRunB

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F]

local notation "𝕄" => MT nD τ sig Unit (Elt F) ℕ (UR sig nD τ) ℕ

set_option maxHeartbeats 8000000 in
/-- The whole body runs, and leaves its inputs' buffers as it found them. -/
theorem run_body (c : Dev nD) (E : Set ℕ) (i : grid0.Coords)
    (arg2 : Memref sig .tc .smem S8x32 .f32) (harg2 : arg2.IsWhole) (arg3 : Memref sig .tc .vmem S1x1x512x256 .bf16) (harg3 : arg3.IsWhole)
    (arg4 : Memref sig .tc .vmem S1x1x512x256 .bf16) (harg4 : arg4.IsWhole) (arg5 : Memref sig .tc .vmem S1x4096x512 .bf16) (harg5 : arg5.IsWhole)
    (arg6 : Memref sig .tc .vmem S1x16x512x256 .bf16) (harg6 : arg6.IsWhole) (arg7 : Memref sig .tc .vmem S8x256x256 .f32) (harg7 : arg7.IsWhole)
    (arg8 : Memref sig .tc .vmem S8x256x256 .f32) (harg8 : arg8.IsWhole) (arg9 : Memref sig .tc .vmem S1x1x512x256 .bf16) (harg9 : arg9.IsWhole)
    (arg10 : Memref sig .tc .vmem S16x512 .f32) (harg10 : arg10.IsWhole) (arg11 : Memref sig .tc .vmem S4096x1024 .bf16) (harg11 : arg11.IsWhole)
    (arg12 : Memref sig .tc .vmem S2x8x128x256 .bf16) (harg12 : arg12.IsWhole) (arg13 : Memref sig .tc .vmem S5x8x256x256 .f32) (harg13 : arg13.IsWhole)
    (arg14 : Memref sig .tc .vmem S8x1x256 .f32) (harg14 : arg14.IsWhole) (arg15 : Memref sig .tc .vmem S8x80x256 .f32) (harg15 : arg15.IsWhole)
    (g2 : BufTy.Contents (Elt F) arg2.view.ty) (g3 : BufTy.Contents (Elt F) arg3.view.ty) (g4 : BufTy.Contents (Elt F) arg4.view.ty) (g5 : BufTy.Contents (Elt F) arg5.view.ty) (g6 : BufTy.Contents (Elt F) arg6.view.ty) (g7 : BufTy.Contents (Elt F) arg7.view.ty) (g8 : BufTy.Contents (Elt F) arg8.view.ty) :
    Held (F := F) c arg2 arg3 arg4 arg5 arg6 arg7 arg8 arg9 arg10 arg11 arg12 arg13 arg14 arg15 g2 g3 g4 g5 g6 g7 g8
      ⊢ wp frame (wpE (defs₀ (F := F)) Variants.none c none) E (cc0_moba_attention i arg2 harg2 arg3 harg3 arg4 harg4 arg5 harg5 arg6 harg6 arg7 harg7 arg8 harg8 arg9 harg9 arg10 harg10 arg11 harg11 arg12 harg12 arg13 harg13 arg14 harg14 arg15 harg15)
          (fun _ => Held (F := F) c arg2 arg3 arg4 arg5 arg6 arg7 arg8 arg9 arg10 arg11 arg12 arg13 arg14 arg15 g2 g3 g4 g5 g6 g7 g8) := by
  have h405 := run405 (F := F) c E i arg2 harg2 arg3 harg3 arg4 harg4 arg5 harg5 arg6 harg6 arg7 harg7 arg8 harg8 arg9 harg9 arg10 harg10 arg11 harg11 arg12 harg12 arg13 harg13 arg14 harg14 arg15 harg15 g2 g3 g4 g5 g6 g7 g8
  have h406 := fun a1 a2 a3 a4 a5 a6 => run406 (F := F) c E i arg2 harg2 arg3 harg3 arg4 harg4 arg5 harg5 arg6 harg6 arg7 harg7 arg8 harg8 arg9 harg9 arg10 harg10 arg11 harg11 arg12 harg12 arg13 harg13 arg14 harg14 arg15 harg15 a1 a2 a3 a4 a5 a6 g2 g3 g4 g5 g6 g7 g8
  unfold cc0_moba_attention
  iintro ⟨H2, H3, H4, H5, H6, H7, H8, ⟨%f9, H9⟩, ⟨%f10, H10⟩, ⟨%f11, H11⟩, ⟨%f12, H12⟩, ⟨%f13, H13⟩, ⟨%f14, H14⟩, ⟨%f15, H15⟩⟩
  sl_exec
  sl_step
  sl_close

end Cert.AttnIdeal.Hand

end
-- ==== Proof.AttnIdealFrame.lean ====
module

public import proofs.«01_k».proof.Proof.AttnIdealBody

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.AttnIdeal Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as launched, each input's buffer left at its block, nothing said of the output's
    buffer, the scratch at anything between points, each input array held at the share its windows leave it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed 7 t
  Φ _ := Pipeline.ΦA spec0 c
  q w := Pipeline.shareOf spec0 w
  owed _ := 0

/-- Which window is left unnamed: the output's. -/
abbrev fgt : Fin cfg0.W → Bool := fun w => w.val == 7

/-- Each window's array is the one the launch holds. -/
theorem A_eq (c : Dev nD) (w : Fin cfg0.W) : (dats m 0 c).A w = V m c (Pipeline.arrRef spec0 w) := by
  dsimp only [dats]

/-- Input 0's buffer after the body is its block. -/
theorem after_0 (c : Dev nD) (t : Fin cfg0.N) : (dats m 0 c).after 0 t = iblk m c 0 t := by dsimp only [dats]
/-- Input 1's buffer after the body is its block. -/
theorem after_1 (c : Dev nD) (t : Fin cfg0.N) : (dats m 0 c).after 1 t = iblk m c 1 t := by dsimp only [dats]
/-- Input 2's buffer after the body is its block. -/
theorem after_2 (c : Dev nD) (t : Fin cfg0.N) : (dats m 0 c).after 2 t = iblk m c 2 t := by dsimp only [dats]
/-- Input 3's buffer after the body is its block. -/
theorem after_3 (c : Dev nD) (t : Fin cfg0.N) : (dats m 0 c).after 3 t = iblk m c 3 t := by dsimp only [dats]
/-- Input 4's buffer after the body is its block. -/
theorem after_4 (c : Dev nD) (t : Fin cfg0.N) : (dats m 0 c).after 4 t = iblk m c 4 t := by dsimp only [dats]
/-- Input 5's buffer after the body is its block. -/
theorem after_5 (c : Dev nD) (t : Fin cfg0.N) : (dats m 0 c).after 5 t = iblk m c 5 t := by dsimp only [dats]
/-- Input 6's buffer after the body is its block. -/
theorem after_6 (c : Dev nD) (t : Fin cfg0.N) : (dats m 0 c).after 6 t = iblk m c 6 t := by dsimp only [dats]

/-- Input 0's buffer before the body is its block. -/
theorem before_0 (c : Dev nD) (t : Fin cfg0.N) (d) : (dats m 0 c).before 0 t d = iblk m c 0 t :=
  before0_0_of m (dats m 0 c) (A_eq m c 0) (after_0 m c) t d
/-- Input 1's buffer before the body is its block. -/
theorem before_1 (c : Dev nD) (t : Fin cfg0.N) (d) : (dats m 0 c).before 1 t d = iblk m c 1 t :=
  before0_1_of m (dats m 0 c) (A_eq m c 1) (after_1 m c) t d
/-- Input 2's buffer before the body is its block. -/
theorem before_2 (c : Dev nD) (t : Fin cfg0.N) (d) : (dats m 0 c).before 2 t d = iblk m c 2 t :=
  before0_2_of m (dats m 0 c) (A_eq m c 2) (after_2 m c) t d
/-- Input 3's buffer before the body is its block. -/
theorem before_3 (c : Dev nD) (t : Fin cfg0.N) (d) : (dats m 0 c).before 3 t d = iblk m c 3 t :=
  before0_3_of m (dats m 0 c) (A_eq m c 3) (after_3 m c) t d
/-- Input 4's buffer before the body is its block. -/
theorem before_4 (c : Dev nD) (t : Fin cfg0.N) (d) : (dats m 0 c).before 4 t d = iblk m c 4 t :=
  before0_4_of m (dats m 0 c) (A_eq m c 4) (after_4 m c) t d
/-- Input 5's buffer before the body is its block. -/
theorem before_5 (c : Dev nD) (t : Fin cfg0.N) (d) : (dats m 0 c).before 5 t d = iblk m c 5 t :=
  before0_5_of m (dats m 0 c) (A_eq m c 5) (after_5 m c) t d
/-- Input 6's buffer before the body is its block. -/
theorem before_6 (c : Dev nD) (t : Fin cfg0.N) (d) : (dats m 0 c).before 6 t d = iblk m c 6 t :=
  before0_6_of m (dats m 0 c) (A_eq m c 6) (after_6 m c) t d

/-- What the body is called with at a point: the scratch, and the windows one by one. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ X, owns (c : Thread nD τ) (st0_7 t) fullShare X))

/-- What it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ (∃ X, owns (c : Thread nD τ) (st0_7 t) fullShare X))

set_option maxHeartbeats 4000000 in
/-- The body at any point of the grid. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl]
  unfold Pipeline.ΦA owns
  rw [scopedRest0_eq]
  iintro ⟨⟨⟨⟨%f10, H10⟩, ⟨%f11, H11⟩, ⟨%f12, H12⟩, ⟨%f13, H13⟩, ⟨%f14, H14⟩, ⟨%f15, H15⟩⟩, Hr⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %f9, -, H9⟩⟩
  iapply (wp_wand_r Idealize.ShloMosaic.frame (wpE (defs₀ (F := F)) Variants.none (c : Thread nD τ) none) Set.univ)
  isplitl [H0 H1 H2 H3 H4 H5 H6 H9 H10 H11 H12 H13 H14 H15]
  · iapply (run_body c Set.univ (grid0.coords t) _ _ _ _ _ _ _ _ _ _ _ _ _ _ _ _ _ _ _ _ _ _ _ _ _ _ _ _ g0 g1 g2 g3 g4 g5 g6)
    unfold Held; simp only [Memref.view_whole, View.set_whole]; sl_close
  · iintro %_ ⟨H0, H1, H2, H3, H4, H5, H6, ⟨%f9, H9⟩, ⟨%f10, H10⟩, ⟨%f11, H11⟩, ⟨%f12, H12⟩, ⟨%f13, H13⟩, ⟨%f14, H14⟩, ⟨%f15, H15⟩⟩
    isplitl [H10 H11 H12 H13 H14 H15 Hr]
    · isplitl [H10 H11 H12 H13 H14 H15]
      · simp only [Memref.view_whole, View.set_whole]; sl_close
      · iexact Hr
    isplitl [Ho]; · iexact Ho
    isplitl [H0]
    · iexists g0; isplitr; · ipureintro; exact hg0
      iexact H0
    isplitl [H1]
    · iexists g1; isplitr; · ipureintro; exact hg1
      iexact H1
    isplitl [H2]
    · iexists g2; isplitr; · ipureintro; exact hg2
      iexact H2
    isplitl [H3]
    · iexists g3; isplitr; · ipureintro; exact hg3
      iexact H3
    isplitl [H4]
    · iexists g4; isplitr; · ipureintro; exact hg4
      iexact H4
    isplitl [H5]
    · iexists g5; isplitr; · ipureintro; exact hg5
      iexact H5
    isplitl [H6]
    · iexists g6; isplitr; · ipureintro; exact hg6
      iexact H6
    iexists _; iexists f9; isplitr; · ipureintro; rfl
    iexact H9

/-- The body the launch runs at a point is the printed one on that point's buffers. -/
theorem defs₀_row (t : Fin cfg0.N) :
    defs₀ (F := F) .tc cfg0.body (cfg0.bodyArgs t (cfg0.slots t)) = bodyAt0 t := by
  unfold defs₀; rw [Defs.onTc_tc]

/-- The library's obligation of the body, at every point. -/
theorem obligation (c : Dev nD) :
    BodyObligationLoose (dats (F := F) m 0 c) (defs₀ (F := F)) Variants.none () Set.univ fgt := fun t => by
  rw [bigSep_W0, bigSep_W0, defs₀_row]
  exact triple_restated (sound m c t) rfl .rfl fun _ => .rfl

set_option backward.isDefEq.respectTransparency.types false in
set_option maxHeartbeats 800000 in
/-- The run: every execution ends, the arrays only read as they were. -/
theorem run_main : θ_run defs (onTc (τ := τ) (main (F := F))) (s₀ m ρ) (fun r =>
    RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => obligation m c) (hq := fun _ _ _ => rfl)
    (howed := fun _ _ => rfl) (V := V m) (hmain := hmain m Variants.none) (hA := A_eq m) (hΦ := fun _ _ => rfl)

/-- An array a window only reads is, after the run, what it was launched with. -/
theorem kept (c : Dev nD) (w : Fin cfg0.W) (hw : fgt w = false) (hin : (cfg0.win w).isOut = false)
    {X : Buf (Elt F) ((cfg0.win w).arr.view.loc (c.tc : Thread nD τ))}
    (h : ((dats m 0 c).toRForget fgt).ArrAt w cfg0.N X) : X = V m c (Pipeline.arrRef spec0 w) :=
  ((Dat.toRForget_arrAt_iff (dats m 0 c) hw cfg0.N X).mp h).trans (((dats m 0 c).arrAt_in w hin _).trans (A_eq m c w))

/-- The frame: the run ends with every argument array as it was and every semaphore at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(kept m c 0 rfl rfl ((h.1 c).1 0)).trans (V_main_arg0 m c),
    (kept m c 2 rfl rfl ((h.1 c).1 2)).trans (V_main_arg1 m c), (kept m c 3 rfl rfl ((h.1 c).1 3)).trans (V_main_arg2 m c),
    (kept m c 4 rfl rfl ((h.1 c).1 4)).trans (V_main_arg3 m c), (kept m c 5 rfl rfl ((h.1 c).1 5)).trans (V_main_arg4 m c),
    (kept m c 6 rfl rfl ((h.1 c).1 6)).trans (V_main_arg5 m c)⟩, h.2⟩) (run_main m ρ)

end Cert.AttnIdeal.Hand

end
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.FfnRef
public import proofs.«01_k».proof.Proof.Gen.Mix.Frame
public import proofs.«01_k».proof.Proof.Gen.MixIdeal.Value
public import proofs.«01_k».proof.Proof.Gen.MixRefIdeal.Run
public import proofs.«01_k».proof.Proof.MixRef
public import proofs.«01_k».proof.Proof.Gen.Qkv.Frame
public import proofs.«01_k».proof.Proof.Gen.QkvIdeal.Value
public import proofs.«01_k».proof.Proof.Gen.QkvRefIdeal.Run
public import proofs.«01_k».proof.Proof.QkvRef
public import proofs.«01_k».proof.Proof.Gen.Bias.Frame
public import proofs.«01_k».proof.Proof.Gen.BiasIdeal.Value
public import proofs.«01_k».proof.Proof.Gen.BiasRefIdeal.Run
public import proofs.«01_k».proof.Proof.BiasRef
public import proofs.«01_k».proof.Proof.AttnFrame
public import proofs.«01_k».proof.Proof.AttnIdealFrame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The array the kernel leaves is the reference's result: both are the block's result at every index. -/
theorem algebraic_FfnIdeal_FfnRefIdeal : algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  rw [(h c).1, Cert.FfnRefIdeal.Read.val_main_v69_eq]
  obtain ⟨a0, a1, a2, a3, a4, a5, a6⟩ := hagree c
  rw [a0, a1, a2, a3, a4, a5, a6]
  refine Eq.trans ?_ (Cert.FfnIdeal.Hand.final m c).symm
  funext i
  obtain ⟨n, s, d, rfl⟩ : ∃ (n : Fin 8) (s : Fin 4096) (d : Fin 1024), i = ix3 n s d := ⟨i 0, i 1, i 2, eq_ix3 i⟩
  exact Cert.FfnRefIdeal.Hand.ref_at _ _ _ _ _ _ _ n s d

theorem quiescent_MixRefIdeal : quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

theorem quiescent_MixRefIdeal_pre_pool_finite : quiescent_MixRefIdeal_pre_pool_finite (hPre_pool_finite := Cert.MixRefIdeal.Hand.pre_facts) := fun m ρ _ =>
  (θ_run Cert.MixRefIdeal.defs _ _).mono (fun r h => ⟨fun c => (h c).2, sem_eq_zero_of_no_sems (by decide) r.2⟩)
    (Cert.MixRefIdeal.Value.run (F := Ideal) m ρ)

/-- The array the mixer's kernel leaves is the reference's, where the pooling branch's inputs are finite. -/
theorem algebraic_MixIdeal_MixRefIdeal_pre_pool_finite : algebraic_MixIdeal_MixRefIdeal_pre_pool_finite (hPre_pool_finite := Cert.MixRefIdeal.Hand.pre_facts) := by
  intro m ρ m' ρ' hpre hagree
  refine ⟨_, Cert.MixIdeal.Value.run_blocks (F := Ideal) m ρ, ?_⟩
  refine (θ_run Cert.MixRefIdeal.defs _ _).mono (fun _ h c => ⟨?_, (h c).2⟩) (Cert.MixRefIdeal.Value.run (F := Ideal) m' ρ')
  rw [(h c).1, Cert.MixRefIdeal.Read.val_main_v109_eq]
  obtain ⟨a0, a1, a2, a3, a4, a5, a6, a7, a8, a9⟩ := hagree c
  rw [a0, a1, a2, a3, a4, a5, a6, a7, a8, a9]
  refine Eq.trans ?_ (Cert.MixIdeal.Hand.final m c).symm
  funext i
  obtain ⟨n, s, d, rfl⟩ : ∃ (n : Fin 8) (s : Fin 4096) (d : Fin 1024), i = ix3 n s d := ⟨i 0, i 1, i 2, eq_ix3 i⟩
  exact Cert.MixRefIdeal.Hand.ref_at _ _ _ _ _ _ _ _ _ _ (Cert.MixRefIdeal.Hand.real_p _ _ _ _ _ _ _ _ _ _ (hpre c)) n s d

theorem quiescent_QkvRefIdeal : quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

/-- The arrays of queries, keys and values the kernel leaves are the reference's. -/
theorem algebraic_QkvIdeal_QkvRefIdeal : algebraic_QkvIdeal_QkvRefIdeal := by
  intro m ρ m' ρ' _ hagree
  refine ⟨_, _, _, Cert.QkvIdeal.Value.run_blocks (F := Ideal) m ρ, ?_⟩
  refine (θ_run Cert.QkvRefIdeal.defs _ _).mono (fun _ h c => ⟨?_, ?_, ?_, (h c).2.2.2⟩) (Cert.QkvRefIdeal.Value.run (F := Ideal) m' ρ')
  all_goals obtain ⟨a0, a1⟩ := hagree c
  · rw [(h c).1, Cert.QkvRefIdeal.Read.val_main_v10_eq, a0, a1]
    refine Eq.trans ?_ (Cert.QkvIdeal.Hand.final4 m c).symm
    funext i
    obtain ⟨n, b, d, r, rfl⟩ : ∃ (n : Fin 8) (b : Fin 16) (d : Fin 512) (r : Fin 256), i = ix4 n b d r := ⟨i 0, i 1, i 2, i 3, eq_ix4 i⟩
    exact Cert.QkvRefIdeal.Hand.q_at _ _ n b d r
  · rw [(h c).2.1, Cert.QkvRefIdeal.Read.val_main_v11_eq, a0, a1]
    refine Eq.trans ?_ (Cert.QkvIdeal.Hand.final5 m c).symm
    funext i
    obtain ⟨n, s, d, rfl⟩ : ∃ (n : Fin 8) (s : Fin 4096) (d : Fin 512), i = ix3 n s d := ⟨i 0, i 1, i 2, eq_ix3 i⟩
    exact Cert.QkvRefIdeal.Hand.k_at _ _ n s d
  · rw [(h c).2.2.1, Cert.QkvRefIdeal.Read.val_main_v14_eq, a0, a1]
    refine Eq.trans ?_ (Cert.QkvIdeal.Hand.final6 m c).symm
    funext i
    obtain ⟨n, b, d, r, rfl⟩ : ∃ (n : Fin 8) (b : Fin 16) (d : Fin 512) (r : Fin 256), i = ix4 n b d r := ⟨i 0, i 1, i 2, i 3, eq_ix4 i⟩
    exact Cert.QkvRefIdeal.Hand.v_at _ _ n b d r

theorem quiescent_BiasRefIdeal : quiescent_BiasRefIdeal := fun m ρ _ =>
  (θ_run Cert.BiasRefIdeal.defs _ _).mono (fun r h => ⟨fun c => (h c).2.2, sem_eq_zero_of_no_sems (by decide) r.2⟩)
    (Cert.BiasRefIdeal.Value.run (F := Ideal) m ρ)

/-- The two tables of relative biases the kernel leaves are the reference's. -/
theorem algebraic_BiasIdeal_BiasRefIdeal : algebraic_BiasIdeal_BiasRefIdeal := by
  intro m ρ m' ρ' _ hagree
  refine ⟨_, _, Cert.BiasIdeal.Value.run_blocks (F := Ideal) m ρ, ?_⟩
  refine (θ_run Cert.BiasRefIdeal.defs _ _).mono (fun _ h c => ⟨?_, ?_, (h c).2.2⟩) (Cert.BiasRefIdeal.Value.run (F := Ideal) m' ρ')
  all_goals have a0 := hagree c
  · rw [(h c).1, Cert.BiasRefIdeal.Read.val_main_v67_eq, a0]
    refine Eq.trans ?_ (Cert.BiasIdeal.Hand.final1 m c).symm
    funext i
    obtain ⟨n, k, q, rfl⟩ : ∃ (n : Fin 8) (k : Fin 256) (q : Fin 256), i = ix3 n k q := ⟨i 0, i 1, i 2, eq_ix3 i⟩
    exact Cert.BiasRefIdeal.Hand.own_at _ n k q
  · rw [(h c).2.1, Cert.BiasRefIdeal.Read.val_main_v69_eq, a0]
    refine Eq.trans ?_ (Cert.BiasIdeal.Hand.final2 m c).symm
    funext i
    obtain ⟨n, k, q, rfl⟩ : ∃ (n : Fin 8) (k : Fin 256) (q : Fin 256), i = ix3 n k q := ⟨i 0, i 1, i 2, eq_ix3 i⟩
    exact Cert.BiasRefIdeal.Hand.prev_at _ n k q

theorem claim : Cert.Claim := ⟨Cert.Ffn.Gen.facts, Cert.FfnIdeal.Gen.facts, Cert.FfnRefIdeal.Gen.facts,
  Cert.Mix.Gen.facts, Cert.MixIdeal.Gen.facts, Cert.MixRefIdeal.Gen.facts,
  Cert.Qkv.Gen.facts, Cert.QkvIdeal.Gen.facts, Cert.QkvRefIdeal.Gen.facts,
  Cert.Attn.Gen.facts, Cert.AttnIdeal.Gen.facts, Cert.Bias.Gen.facts, Cert.BiasIdeal.Gen.facts, Cert.BiasRefIdeal.Gen.facts, Cert.MixRefIdeal.Hand.pre_facts,
  fun m ρ _ => Cert.Ffn.Gen.frame m ρ, fun m ρ _ => Cert.FfnIdeal.Gen.frame m ρ, quiescent_FfnRefIdeal,
  fun m ρ _ => Cert.Mix.Gen.frame m ρ, fun m ρ _ => Cert.MixIdeal.Gen.frame m ρ, fun m ρ _ => Cert.MixIdeal.Gen.frame m ρ,
  quiescent_MixRefIdeal, quiescent_MixRefIdeal_pre_pool_finite,
  fun m ρ _ => Cert.Qkv.Gen.frame m ρ, fun m ρ _ => Cert.QkvIdeal.Gen.frame m ρ, quiescent_QkvRefIdeal,
  fun m ρ _ => Cert.Attn.Hand.frame_attn m ρ, fun m ρ _ => Cert.AttnIdeal.Hand.frame_attn m ρ,
  fun m ρ _ => Cert.Bias.Gen.frame m ρ, fun m ρ _ => Cert.BiasIdeal.Gen.frame m ρ, quiescent_BiasRefIdeal,
  (trivial : preserves_Ffn_FfnIdeal), algebraic_FfnIdeal_FfnRefIdeal,
  (trivial : preserves_Mix_MixIdeal), algebraic_MixIdeal_MixRefIdeal_pre_pool_finite,
  (trivial : preserves_Qkv_QkvIdeal), algebraic_QkvIdeal_QkvRefIdeal,
  (trivial : preserves_Attn_AttnIdeal),
  (trivial : preserves_Bias_BiasIdeal), algebraic_BiasIdeal_BiasRefIdeal⟩

end Cert.Proof

end
